-- ==== Defs.lean ====
def Pre_Kernel [hPre_adapters : Cert.Pre_adapters.Facts] (m : (ℓ : Loc Cert.Kernel.nD Cert.Kernel.τ Cert.Kernel.sig) → Buf (Elt Bits) ℓ) : Prop :=
  ∀ c : Dev Cert.Kernel.nD,
    (Cert.Pre_adapters.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_adapters : Cert.Pre_adapters.Facts] (m : (ℓ : Loc Cert.KernelIdeal.nD Cert.KernelIdeal.τ Cert.KernelIdeal.sig) → Buf (Elt Ideal) ℓ) : Prop :=
  ∀ c : Dev Cert.KernelIdeal.nD,
    (Cert.Pre_adapters.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_adapters [hPre_adapters : Cert.Pre_adapters.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_adapters.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_adapters : Cert.Pre_adapters.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_adapters : Cert.Pre_adapters.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_adapters [hReferenceIdeal : Cert.ReferenceIdeal.Facts] [hPre_adapters : Cert.Pre_adapters.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_adapters m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_on_base_product [hKernelIdeal : Cert.KernelIdeal.Facts] [hReferenceIdeal : Cert.ReferenceIdeal.Facts] [hPre_adapters : Cert.Pre_adapters.Facts] [hOn_base_product : Cert.On_base_product.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 8960]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.KernelIdeal.nD Cert.KernelIdeal.τ).loc Cert.KernelIdeal.main_v0_0) i = v0 c i)
          ∧ (∀ i : (⟨2, ![1024, 32]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.KernelIdeal.nD Cert.KernelIdeal.τ).loc Cert.KernelIdeal.main_v0_1) i = v1 c i)
          ∧ (∀ i : (⟨2, ![1024, 8960]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.KernelIdeal.nD Cert.KernelIdeal.τ).loc Cert.KernelIdeal.main_v0_2) i = v2 c i)
          ∧ (∀ i : (⟨2, ![1024, 32]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.KernelIdeal.nD Cert.KernelIdeal.τ).loc Cert.KernelIdeal.main_v0_3) i = v3 c i)
          ∧ (∀ i : (⟨3, ![4, 2, 128]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.KernelIdeal.nD Cert.KernelIdeal.τ).loc Cert.KernelIdeal.main_v0_4) i = v4 c i)
          ∧ (∀ i : (⟨2, ![1024, 8960]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 i = 1#1 → r.2.mem ((c.tc : Thread Cert.KernelIdeal.nD Cert.KernelIdeal.τ).loc Cert.KernelIdeal.main_v0_5) i = v5 c i)
          ∧ (∀ i : (⟨3, ![4, 2, 128]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 i = 1#1 → r.2.mem ((c.tc : Thread Cert.KernelIdeal.nD Cert.KernelIdeal.τ).loc Cert.KernelIdeal.main_v0_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1024, 8960]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 i = 1#1 → r.2.mem ((c.tc : Thread Cert.ReferenceIdeal.nD Cert.ReferenceIdeal.τ).loc Cert.ReferenceIdeal.main_v0_0) i = v0 c i)
          ∧ (∀ i : (⟨2, ![1024, 32]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 i = 1#1 → r.2.mem ((c.tc : Thread Cert.ReferenceIdeal.nD Cert.ReferenceIdeal.τ).loc Cert.ReferenceIdeal.main_v0_1) i = v1 c i)
          ∧ (∀ i : (⟨2, ![1024, 8960]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 i = 1#1 → r.2.mem ((c.tc : Thread Cert.ReferenceIdeal.nD Cert.ReferenceIdeal.τ).loc Cert.ReferenceIdeal.main_v0_2) i = v2 c i)
          ∧ (∀ i : (⟨2, ![1024, 32]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 i = 1#1 → r.2.mem ((c.tc : Thread Cert.ReferenceIdeal.nD Cert.ReferenceIdeal.τ).loc Cert.ReferenceIdeal.main_v0_3) i = v3 c i)
          ∧ (∀ i : (⟨3, ![4, 2, 128]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 i = 1#1 → r.2.mem ((c.tc : Thread Cert.ReferenceIdeal.nD Cert.ReferenceIdeal.τ).loc Cert.ReferenceIdeal.main_v0_4) i = v4 c i)
          ∧ (∀ i : (⟨2, ![1024, 8960]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 i = 1#1 → r.2.mem ((c.tc : Thread Cert.ReferenceIdeal.nD Cert.ReferenceIdeal.τ).loc Cert.ReferenceIdeal.main_v0_5) i = v5 c i)
          ∧ (∀ i : (⟨3, ![4, 2, 128]⟩ : Shape).Idx, (Cert.On_base_product.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2 i = 1#1 → r.2.mem ((c.tc : Thread Cert.ReferenceIdeal.nD Cert.ReferenceIdeal.τ).loc Cert.ReferenceIdeal.main_v0_6) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_adapters : Cert.Pre_adapters.Facts) (hOn_base_product : Cert.On_base_product.Facts),
    quiescent_Kernel (hKernel := hKernel) (hPre_adapters := hPre_adapters)
    ∧ quiescent_KernelIdeal (hKernelIdeal := hKernelIdeal) (hPre_adapters := hPre_adapters)
    ∧ quiescent_ReferenceIdeal (hReferenceIdeal := hReferenceIdeal)
    ∧ quiescent_ReferenceIdeal_pre_adapters (hReferenceIdeal := hReferenceIdeal) (hPre_adapters := hPre_adapters)
    ∧ preserves_Kernel_KernelIdeal
    ∧ algebraic_KernelIdeal_ReferenceIdeal_on_base_product (hKernelIdeal := hKernelIdeal) (hReferenceIdeal := hReferenceIdeal) (hPre_adapters := hPre_adapters) (hOn_base_product := hOn_base_product)
-- ==== On_base_product.lean ====
abbrev S1024x1536 : Shape := ⟨2, ![1024, 1536]⟩
abbrev S192x8960 : Shape := ⟨2, ![192, 8960]⟩
abbrev S12x1120 : Shape := ⟨2, ![12, 1120]⟩
abbrev S12x8960 : Shape := ⟨2, ![12, 8960]⟩
abbrev S22x1536x32 : Shape := ⟨3, ![22, 1536, 32]⟩
abbrev S22x32 : Shape := ⟨2, ![22, 32]⟩
abbrev S22x32x8960 : Shape := ⟨3, ![22, 32, 8960]⟩
abbrev S22x8960 : Shape := ⟨2, ![22, 8960]⟩
abbrev S22 : Shape := ⟨1, ![22]⟩
abbrev S17 : Shape := ⟨1, ![17]⟩
abbrev S16 : Shape := ⟨1, ![16]⟩
abbrev S_ : Shape := ⟨0, ![]⟩
abbrev S1024x8960 : Shape := ⟨2, ![1024, 8960]⟩
abbrev S1024x32 : Shape := ⟨2, ![1024, 32]⟩
abbrev S4x2x128 : Shape := ⟨3, ![4, 2, 128]⟩

class Facts : Prop where
  bcast_S_S1024x8960 : S_.BroadcastsInDim S1024x8960 (![] : Fin 0 → Fin S1024x8960.rank)
  bcast_S_S1024x32 : S_.BroadcastsInDim S1024x32 (![] : Fin 0 → Fin S1024x32.rank)
  bcast_S_S4x2x128 : S_.BroadcastsInDim S4x2x128 (![] : Fin 0 → Fin S4x2x128.rank)

variable [Facts]

def fn {F : FTy → Type} [FloatOps F] (main_arg0 : FVec F S1024x1536 .bf16) (main_arg1 : IVec S192x8960 32) (main_arg2 : IVec S12x1120 32) (main_arg3 : IVec S12x8960 16) (main_arg4 : FVec F S22x1536x32 .fp8e4m3) (main_arg5 : FVec F S22x32 .f32) (main_arg6 : FVec F S22x32x8960 .fp8e4m3) (main_arg7 : FVec F S22x8960 .f32) (main_arg8 : FVec F S22 .f32) (main_arg9 : IVec S17 32) (main_arg10 : IVec S16 32) : IVec S1024x8960 1 × IVec S1024x32 1 × IVec S1024x8960 1 × IVec S1024x32 1 × IVec S4x2x128 1 × IVec S1024x8960 1 × IVec S4x2x128 1 :=
  let main_c : IVec S_ 1 := constantI S_ 1 1#1
  let main_v0 : IVec S1024x8960 1 := broadcastInDim S1024x8960 ![] bcast_S_S1024x8960 main_c
  let main_c_0 : IVec S_ 1 := constantI S_ 1 0#1
  let main_v1 : IVec S1024x32 1 := broadcastInDim S1024x32 ![] bcast_S_S1024x32 main_c_0
  let main_c_1 : IVec S_ 1 := constantI S_ 1 0#1
  let main_v2 : IVec S1024x8960 1 := broadcastInDim S1024x8960 ![] bcast_S_S1024x8960 main_c_1
  let main_c_2 : IVec S_ 1 := constantI S_ 1 0#1
  let main_v3 : IVec S1024x32 1 := broadcastInDim S1024x32 ![] bcast_S_S1024x32 main_c_2
  let main_c_3 : IVec S_ 1 := constantI S_ 1 0#1
  let main_v4 : IVec S4x2x128 1 := broadcastInDim S4x2x128 ![] bcast_S_S4x2x128 main_c_3
  let main_c_4 : IVec S_ 1 := constantI S_ 1 0#1
  let main_v5 : IVec S1024x8960 1 := broadcastInDim S1024x8960 ![] bcast_S_S1024x8960 main_c_4
  let main_c_5 : IVec S_ 1 := constantI S_ 1 0#1
  let main_v6 : IVec S4x2x128 1 := broadcastInDim S4x2x128 ![] bcast_S_S4x2x128 main_c_5
  (main_v0, main_v1, main_v2, main_v3, main_v4, main_v5, main_v6)
-- ==== Pre_adapters.lean ====
abbrev S1024x1536 : Shape := ⟨2, ![1024, 1536]⟩
abbrev S192x8960 : Shape := ⟨2, ![192, 8960]⟩
abbrev S12x1120 : Shape := ⟨2, ![12, 1120]⟩
abbrev S12x8960 : Shape := ⟨2, ![12, 8960]⟩
abbrev S22x1536x32 : Shape := ⟨3, ![22, 1536, 32]⟩
abbrev S22x32 : Shape := ⟨2, ![22, 32]⟩
abbrev S22x32x8960 : Shape := ⟨3, ![22, 32, 8960]⟩
abbrev S22x8960 : Shape := ⟨2, ![22, 8960]⟩
abbrev S22 : Shape := ⟨1, ![22]⟩
abbrev S17 : Shape := ⟨1, ![17]⟩
abbrev S16 : Shape := ⟨1, ![16]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S1024x1536 .bf16) (main_arg1 : IVec S192x8960 32) (main_arg2 : IVec S12x1120 32) (main_arg3 : IVec S12x8960 16) (main_arg4 : FVec F S22x1536x32 .fp8e4m3) (main_arg5 : FVec F S22x32 .f32) (main_arg6 : FVec F S22x32x8960 .fp8e4m3) (main_arg7 : FVec F S22x8960 .f32) (main_arg8 : FVec F S22 .f32) (main_arg9 : IVec S17 32) (main_arg10 : IVec S16 32) : IVec S16 1 :=
  let main_c : IVec S_ 32 := constantI S_ 32 22#32
  let main_v0 : IVec S16 32 := broadcastInDim S16 ![] bcast_S_S16 main_c
  let main_v1 : IVec S16 1 := cmpi .slt main_arg10 main_v0
  main_v1
-- ==== Kernel.lean ====
abbrev S1024x1536 : Shape := ⟨2, ![1024, 1536]⟩
abbrev S192x8960 : Shape := ⟨2, ![192, 8960]⟩
abbrev S12x1120 : Shape := ⟨2, ![12, 1120]⟩
abbrev S12x8960 : Shape := ⟨2, ![12, 8960]⟩
abbrev S22x1536x32 : Shape := ⟨3, ![22, 1536, 32]⟩
abbrev S22x32 : Shape := ⟨2, ![22, 32]⟩
abbrev S22x32x8960 : Shape := ⟨3, ![22, 32, 8960]⟩
abbrev S22x8960 : Shape := ⟨2, ![22, 8960]⟩
abbrev S22 : Shape := ⟨1, ![22]⟩
abbrev S17 : Shape := ⟨1, ![17]⟩
abbrev S16 : Shape := ⟨1, ![16]⟩
abbrev S1024x8960 : Shape := ⟨2, ![1024, 8960]⟩
abbrev S1024x32 : Shape := ⟨2, ![1024, 32]⟩
abbrev S4x2x128 : Shape := ⟨3, ![4, 2, 128]⟩
abbrev S256x1536 : Shape := ⟨2, ![256, 1536]⟩
abbrev S192x256 : Shape := ⟨2, ![192, 256]⟩
abbrev S12x256 : Shape := ⟨2, ![12, 256]⟩
abbrev S22x32x256 : Shape := ⟨3, ![22, 32, 256]⟩
abbrev S22x256 : Shape := ⟨2, ![22, 256]⟩
abbrev S256x256 : Shape := ⟨2, ![256, 256]⟩
abbrev S256x32 : Shape := ⟨2, ![256, 32]⟩
abbrev S1x2x128 : Shape := ⟨3, ![1, 2, 128]⟩
abbrev S256x8960 : Shape := ⟨2, ![256, 8960]⟩
abbrev S1536x8960 : Shape := ⟨2, ![1536, 8960]⟩
abbrev S1536x512 : Shape := ⟨2, ![1536, 512]⟩
abbrev S256x512 : Shape := ⟨2, ![256, 512]⟩
abbrev S256x128 : Shape := ⟨2, ![256, 128]⟩
abbrev S512x256 : Shape := ⟨2, ![512, 256]⟩
abbrev S256x1 : Shape := ⟨2, ![256, 1]⟩
abbrev S12x128 : Shape := ⟨2, ![12, 128]⟩
abbrev S12x128x1 : Shape := ⟨3, ![12, 128, 1]⟩
abbrev S12x96 : Shape := ⟨2, ![12, 96]⟩
abbrev S12x32 : Shape := ⟨2, ![12, 32]⟩
abbrev S1 : Shape := ⟨1, ![1]⟩
abbrev S1x1536x32 : Shape := ⟨3, ![1, 1536, 32]⟩
abbrev S1536x32 : Shape := ⟨2, ![1536, 32]⟩
abbrev S1x32 : Shape := ⟨2, ![1, 32]⟩
abbrev S1x512 : Shape := ⟨2, ![1, 512]⟩
abbrev S256 : Shape := ⟨1, ![256]⟩
abbrev S1x256 : Shape := ⟨2, ![1, 256]⟩
abbrev S2x128x128 : Shape := ⟨3, ![2, 128, 128]⟩
abbrev S2x128 : Shape := ⟨2, ![2, 128]⟩
abbrev S192x8x256 : Shape := ⟨3, ![192, 8, 256]⟩
abbrev S192x1x256 : Shape := ⟨3, ![192, 1, 256]⟩
abbrev S1536x256 : Shape := ⟨2, ![1536, 256]⟩
abbrev S128x256 : Shape := ⟨2, ![128, 256]⟩
abbrev S1x32x256 : Shape := ⟨3, ![1, 32, 256]⟩
abbrev S32x256 : Shape := ⟨2, ![32, 256]⟩

abbrev nBuf : Space → Nat
  | .hbm => 16
  | .vmem => 34
  | .smem => 3
  | _ => 0

abbrev bufTy : (tb : Table) → Fin (tcTables nBuf tb) → BufTy
  | .hbm, ⟨0, _⟩ => ⟨S1024x1536, .bf16⟩
  | .hbm, ⟨1, _⟩ => ⟨S192x8960, .i32⟩
  | .hbm, ⟨2, _⟩ => ⟨S12x1120, .i32⟩
  | .hbm, ⟨3, _⟩ => ⟨S12x8960, .i16⟩
  | .hbm, ⟨4, _⟩ => ⟨S22x1536x32, .fp8e4m3⟩
  | .hbm, ⟨5, _⟩ => ⟨S22x32, .f32⟩
  | .hbm, ⟨6, _⟩ => ⟨S22x32x8960, .fp8e4m3⟩
  | .hbm, ⟨7, _⟩ => ⟨S22x8960, .f32⟩
  | .hbm, ⟨8, _⟩ => ⟨S22, .f32⟩
  | .hbm, ⟨9, _⟩ => ⟨S1024x8960, .bf16⟩
  | .hbm, ⟨10, _⟩ => ⟨S1024x32, .f32⟩
  | .hbm, ⟨11, _⟩ => ⟨S1024x8960, .f32⟩
  | .hbm, ⟨12, _⟩ => ⟨S1024x32, .fp8e4m3⟩
  | .hbm, ⟨13, _⟩ => ⟨S4x2x128, .f32⟩
  | .hbm, ⟨14, _⟩ => ⟨S1024x8960, .fp8e4m3⟩
  | .hbm, ⟨15, _⟩ => ⟨S4x2x128, .f32⟩
  | .local _ .vmem, ⟨0, _⟩ => ⟨S256x1536, .bf16⟩
  | .local _ .vmem, ⟨1, _⟩ => ⟨S256x1536, .bf16⟩
  | .local _ .vmem, ⟨2, _⟩ => ⟨S192x256, .i32⟩
  | .local _ .vmem, ⟨3, _⟩ => ⟨S192x256, .i32⟩
  | .local _ .vmem, ⟨4, _⟩ => ⟨S12x1120, .i32⟩
  | .local _ .vmem, ⟨5, _⟩ => ⟨S12x256, .i16⟩
  | .local _ .vmem, ⟨6, _⟩ => ⟨S12x256, .i16⟩
  | .local _ .vmem, ⟨7, _⟩ => ⟨S22x1536x32, .fp8e4m3⟩
  | .local _ .vmem, ⟨8, _⟩ => ⟨S22x32, .f32⟩
  | .local _ .vmem, ⟨9, _⟩ => ⟨S22x32x256, .fp8e4m3⟩
  | .local _ .vmem, ⟨10, _⟩ => ⟨S22x32x256, .fp8e4m3⟩
  | .local _ .vmem, ⟨11, _⟩ => ⟨S22x256, .f32⟩
  | .local _ .vmem, ⟨12, _⟩ => ⟨S22x256, .f32⟩
  | .local _ .vmem, ⟨13, _⟩ => ⟨S256x256, .bf16⟩
  | .local _ .vmem, ⟨14, _⟩ => ⟨S256x256, .bf16⟩
  | .local _ .vmem, ⟨15, _⟩ => ⟨S256x32, .f32⟩
  | .local _ .vmem, ⟨16, _⟩ => ⟨S256x32, .f32⟩
  | .local _ .vmem, ⟨17, _⟩ => ⟨S256x256, .f32⟩
  | .local _ .vmem, ⟨18, _⟩ => ⟨S256x256, .f32⟩
  | .local _ .vmem, ⟨19, _⟩ => ⟨S256x32, .fp8e4m3⟩
  | .local _ .vmem, ⟨20, _⟩ => ⟨S256x32, .fp8e4m3⟩
  | .local _ .vmem, ⟨21, _⟩ => ⟨S1x2x128, .f32⟩
  | .local _ .vmem, ⟨22, _⟩ => ⟨S1x2x128, .f32⟩
  | .local _ .vmem, ⟨23, _⟩ => ⟨S256x8960, .fp8e4m3⟩
  | .local _ .vmem, ⟨24, _⟩ => ⟨S1x2x128, .f32⟩
  | .local _ .vmem, ⟨25, _⟩ => ⟨S1x2x128, .f32⟩
  | .local _ .vmem, ⟨26, _⟩ => ⟨S1536x8960, .bf16⟩
  | .local _ .vmem, ⟨27, _⟩ => ⟨S12x8960, .f32⟩
  | .local _ .vmem, ⟨28, _⟩ => ⟨S1536x512, .bf16⟩
  | .local _ .vmem, ⟨29, _⟩ => ⟨S256x512, .fp8e4m3⟩
  | .local _ .vmem, ⟨30, _⟩ => ⟨S256x128, .f32⟩
  | .local _ .vmem, ⟨31, _⟩ => ⟨S512x256, .fp8e4m3⟩
  | .local _ .vmem, ⟨32, _⟩ => ⟨S256x8960, .f32⟩
  | .local _ .vmem, ⟨33, _⟩ => ⟨S256x128, .f32⟩
  | .local _ .smem, ⟨0, _⟩ => ⟨S17, .i32⟩
  | .local _ .smem, ⟨1, _⟩ => ⟨S16, .i32⟩
  | .local _ .smem, ⟨2, _⟩ => ⟨S22, .f32⟩
  | _, _ => ⟨S1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨2, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_arg9 : Ref sig .tc := ⟨.smem, 0, rfl⟩
abbrev main_arg10 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_stg8_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![4, 35], ![false, false]⟩

abbrev pre0 : Pipeline.Prefetch sig := ⟨2, ![main_arg9.idx, main_arg10.idx], fun | 0 => main_arg9.names | 1 => main_arg10.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

def k0_off1 (v2062 : BitVec 32) : Fin 3 → Nat :=
  let c0_i32_856 : BitVec 32 := 0#32
  let v2063 : BitVec 32 := Scalar.maxsi v2062 c0_i32_856
  let v2064 : Index := Scalar.indexCast v2063
  let c0_857 : Index := 0#32
  let c0_858 : Index := 0#32
  ![v2064.toNat, 0, 0]

def k0_chk1 (i : grid0.Coords) (v2062 : BitVec 32) : Prop :=
  (∀ (k0_h1 : k0_cond1 i = 1#1), ∀ a, (k0_off1 v2062) a + S1x1536x32.size a ≤ S22x1536x32.size a)
theorem k0_off1_inb : ∀ (i : grid0.Coords) (v2062 : BitVec 32) (k0_hw1 : k0_chk1 i v2062), ∀ (k0_h1 : k0_cond1 i = 1#1), ∀ a, (k0_off1 v2062) a + S1x1536x32.size a ≤ S22x1536x32.size a := fun i v2062 k0_hw1 k0_h1 => k0_hw1 k0_h1

def k0_off2 (v2072 : BitVec 32) : Fin 3 → Nat :=
  let c0_i32_862 : BitVec 32 := 0#32
  let v2073 : BitVec 32 := Scalar.maxsi v2072 c0_i32_862
  let v2074 : Index := Scalar.indexCast v2073
  let c0_863 : Index := 0#32
  let c0_864 : Index := 0#32
  ![v2074.toNat, 0, 0]

def k0_chk2 (i : grid0.Coords) (v2072 : BitVec 32) : Prop :=
  (∀ (k0_h1 : k0_cond1 i = 1#1), ∀ a, (k0_off2 v2072) a + S1x1536x32.size a ≤ S22x1536x32.size a)
theorem k0_off2_inb : ∀ (i : grid0.Coords) (v2072 : BitVec 32) (k0_hw2 : k0_chk2 i v2072), ∀ (k0_h1 : k0_cond1 i = 1#1), ∀ a, (k0_off2 v2072) a + S1x1536x32.size a ≤ S22x1536x32.size a := fun i v2072 k0_hw2 k0_h1 => k0_hw2 k0_h1

def k0_off3 (v2082 : BitVec 32) : Fin 3 → Nat :=
  let c0_i32_868 : BitVec 32 := 0#32
  let v2083 : BitVec 32 := Scalar.maxsi v2082 c0_i32_868
  let v2084 : Index := Scalar.indexCast v2083
  let c0_869 : Index := 0#32
  let c0_870 : Index := 0#32
  ![v2084.toNat, 0, 0]

def k0_chk3 (i : grid0.Coords) (v2082 : BitVec 32) : Prop :=
  (∀ (k0_h1 : k0_cond1 i = 1#1), ∀ a, (k0_off3 v2082) a + S1x1536x32.size a ≤ S22x1536x32.size a)
theorem k0_off3_inb : ∀ (i : grid0.Coords) (v2082 : BitVec 32) (k0_hw3 : k0_chk3 i v2082), ∀ (k0_h1 : k0_cond1 i = 1#1), ∀ a, (k0_off3 v2082) a + S1x1536x32.size a ≤ S22x1536x32.size a := fun i v2082 k0_hw3 k0_h1 => k0_hw3 k0_h1

def k0_off4 (v2092 : BitVec 32) : Fin 3 → Nat :=
  let c0_i32_874 : BitVec 32 := 0#32
  let v2093 : BitVec 32 := Scalar.maxsi v2092 c0_i32_874
  let v2094 : Index := Scalar.indexCast v2093
  let c0_875 : Index := 0#32
  let c0_876 : Index := 0#32
  ![v2094.toNat, 0, 0]

def k0_chk4 (i : grid0.Coords) (v2092 : BitVec 32) : Prop :=
  (∀ (k0_h1 : k0_cond1 i = 1#1), ∀ a, (k0_off4 v2092) a + S1x1536x32.size a ≤ S22x1536x32.size a)
theorem k0_off4_inb : ∀ (i : grid0.Coords) (v2092 : BitVec 32) (k0_hw4 : k0_chk4 i v2092), ∀ (k0_h1 : k0_cond1 i = 1#1), ∀ a, (k0_off4 v2092) a + S1x1536x32.size a ≤ S22x1536x32.size a := fun i v2092 k0_hw4 k0_h1 => k0_hw4 k0_h1

def k0_off5 (v2102 : BitVec 32) : Fin 3 → Nat :=
  let c0_i32_880 : BitVec 32 := 0#32
  let v2103 : BitVec 32 := Scalar.maxsi v2102 c0_i32_880
  let v2104 : Index := Scalar.indexCast v2103
  let c0_881 : Index := 0#32
  let c0_882 : Index := 0#32
  ![v2104.toNat, 0, 0]

def k0_chk5 (i : grid0.Coords) (v2102 : BitVec 32) : Prop :=
  (∀ (k0_h1 : k0_cond1 i = 1#1), ∀ a, (k0_off5 v2102) a + S1x1536x32.size a ≤ S22x1536x32.size a)
theorem k0_off5_inb : ∀ (i : grid0.Coords) (v2102 : BitVec 32) (k0_hw5 : k0_chk5 i v2102), ∀ (k0_h1 : k0_cond1 i = 1#1), ∀ a, (k0_off5 v2102) a + S1x1536x32.size a ≤ S22x1536x32.size a := fun i v2102 k0_hw5 k0_h1 => k0_hw5 k0_h1

def k0_off6 (v2112 : BitVec 32) : Fin 3 → Nat :=
  let c0_i32_886 : BitVec 32 := 0#32
  let v2113 : BitVec 32 := Scalar.maxsi v2112 c0_i32_886
  let v2114 : Index := Scalar.indexCast v2113
  let c0_887 : Index := 0#32
  let c0_888 : Index := 0#32
  ![v2114.toNat, 0, 0]

def k0_chk6 (i : grid0.Coords) (v2112 : BitVec 32) : Prop :=
  (∀ (k0_h1 : k0_cond1 i = 1#1), ∀ a, (k0_off6 v2112) a + S1x1536x32.size a ≤ S22x1536x32.size a)
theorem k0_off6_inb : ∀ (i : grid0.Coords) (v2112 : BitVec 32) (k0_hw6 : k0_chk6 i v2112), ∀ (k0_h1 : k0_cond1 i = 1#1), ∀ a, (k0_off6 v2112) a + S1x1536x32.size a ≤ S22x1536x32.size a := fun i v2112 k0_hw6 k0_h1 => k0_hw6 k0_h1

def k0_off7 (v2122 : BitVec 32) : Fin 3 → Nat :=
  let c0_i32_892 : BitVec 32 := 0#32
  let v2123 : BitVec 32 := Scalar.maxsi v2122 c0_i32_892
  let v2124 : Index := Scalar.indexCast v2123
  let c0_893 : Index := 0#32
  let c0_894 : Index := 0#32
  ![v2124.toNat, 0, 0]

def k0_chk7 (i : grid0.Coords) (v2122 : BitVec 32) : Prop :=
  (∀ (k0_h1 : k0_cond1 i = 1#1), ∀ a, (k0_off7 v2122) a + S1x1536x32.size a ≤ S22x1536x32.size a)
theorem k0_off7_inb : ∀ (i : grid0.Coords) (v2122 : BitVec 32) (k0_hw7 : k0_chk7 i v2122), ∀ (k0_h1 : k0_cond1 i = 1#1), ∀ a, (k0_off7 v2122) a + S1x1536x32.size a ≤ S22x1536x32.size a := fun i v2122 k0_hw7 k0_h1 => k0_hw7 k0_h1

def k0_off8 (v2132 : BitVec 32) : Fin 3 → Nat :=
  let c0_i32_898 : BitVec 32 := 0#32
  let v2133 : BitVec 32 := Scalar.maxsi v2132 c0_i32_898
  let v2134 : Index := Scalar.indexCast v2133
  let c0_899 : Index := 0#32
  let c0_900 : Index := 0#32
  ![v2134.toNat, 0, 0]

def k0_chk8 (i : grid0.Coords) (v2132 : BitVec 32) : Prop :=
  (∀ (k0_h1 : k0_cond1 i = 1#1), ∀ a, (k0_off8 v2132) a + S1x1536x32.size a ≤ S22x1536x32.size a)
theorem k0_off8_inb : ∀ (i : grid0.Coords) (v2132 : BitVec 32) (k0_hw8 : k0_chk8 i v2132), ∀ (k0_h1 : k0_cond1 i = 1#1), ∀ a, (k0_off8 v2132) a + S1x1536x32.size a ≤ S22x1536x32.size a := fun i v2132 k0_hw8 k0_h1 => k0_hw8 k0_h1

def k0_off9 (v2142 : BitVec 32) : Fin 3 → Nat :=
  let c0_i32_904 : BitVec 32 := 0#32
  let v2143 : BitVec 32 := Scalar.maxsi v2142 c0_i32_904
  let v2144 : Index := Scalar.indexCast v2143
  let c0_905 : Index := 0#32
  let c0_906 : Index := 0#32
  ![v2144.toNat, 0, 0]

def k0_chk9 (i : grid0.Coords) (v2142 : BitVec 32) : Prop :=
  (∀ (k0_h1 : k0_cond1 i = 1#1), ∀ a, (k0_off9 v2142) a + S1x1536x32.size a ≤ S22x1536x32.size a)
theorem k0_off9_inb : ∀ (i : grid0.Coords) (v2142 : BitVec 32) (k0_hw9 : k0_chk9 i v2142), ∀ (k0_h1 : k0_cond1 i = 1#1), ∀ a, (k0_off9 v2142) a + S1x1536x32.size a ≤ S22x1536x32.size a := fun i v2142 k0_hw9 k0_h1 => k0_hw9 k0_h1

def k0_off10 (v2152 : BitVec 32) : Fin 3 → Nat :=
  let c0_i32_910 : BitVec 32 := 0#32
  let v2153 : BitVec 32 := Scalar.maxsi v2152 c0_i32_910
  let v2154 : Index := Scalar.indexCast v2153
  let c0_911 : Index := 0#32
  let c0_912 : Index := 0#32
  ![v2154.toNat, 0, 0]

def k0_chk10 (i : grid0.Coords) (v2152 : BitVec 32) : Prop :=
  (∀ (k0_h1 : k0_cond1 i = 1#1), ∀ a, (k0_off10 v2152) a + S1x1536x32.size a ≤ S22x1536x32.size a)
theorem k0_off10_inb : ∀ (i : grid0.Coords) (v2152 : BitVec 32) (k0_hw10 : k0_chk10 i v2152), ∀ (k0_h1 : k0_cond1 i = 1#1), ∀ a, (k0_off10 v2152) a + S1x1536x32.size a ≤ S22x1536x32.size a := fun i v2152 k0_hw10 k0_h1 => k0_hw10 k0_h1

def k0_off11 (v2162 : BitVec 32) : Fin 3 → Nat :=
  let c0_i32_916 : BitVec 32 := 0#32
  let v2163 : BitVec 32 := Scalar.maxsi v2162 c0_i32_916
  let v2164 : Index := Scalar.indexCast v2163
  let c0_917 : Index := 0#32
  let c0_918 : Index := 0#32
  ![v2164.toNat, 0, 0]

def k0_chk11 (i : grid0.Coords) (v2162 : BitVec 32) : Prop :=
  (∀ (k0_h1 : k0_cond1 i = 1#1), ∀ a, (k0_off11 v2162) a + S1x1536x32.size a ≤ S22x1536x32.size a)
theorem k0_off11_inb : ∀ (i : grid0.Coords) (v2162 : BitVec 32) (k0_hw11 : k0_chk11 i v2162), ∀ (k0_h1 : k0_cond1 i = 1#1), ∀ a, (k0_off11 v2162) a + S1x1536x32.size a ≤ S22x1536x32.size a := fun i v2162 k0_hw11 k0_h1 => k0_hw11 k0_h1

def k0_off12 (v2172 : BitVec 32) : Fin 3 → Nat :=
  let c0_i32_922 : BitVec 32 := 0#32
  let v2173 : BitVec 32 := Scalar.maxsi v2172 c0_i32_922
  let v2174 : Index := Scalar.indexCast v2173
  let c0_923 : Index := 0#32
  let c0_924 : Index := 0#32
  ![v2174.toNat, 0, 0]

def k0_chk12 (i : grid0.Coords) (v2172 : BitVec 32) : Prop :=
  (∀ (k0_h1 : k0_cond1 i = 1#1), ∀ a, (k0_off12 v2172) a + S1x1536x32.size a ≤ S22x1536x32.size a)
theorem k0_off12_inb : ∀ (i : grid0.Coords) (v2172 : BitVec 32) (k0_hw12 : k0_chk12 i v2172), ∀ (k0_h1 : k0_cond1 i = 1#1), ∀ a, (k0_off12 v2172) a + S1x1536x32.size a ≤ S22x1536x32.size a := fun i v2172 k0_hw12 k0_h1 => k0_hw12 k0_h1

def k0_off13 (v2182 : BitVec 32) : Fin 3 → Nat :=
  let c0_i32_928 : BitVec 32 := 0#32
  let v2183 : BitVec 32 := Scalar.maxsi v2182 c0_i32_928
  let v2184 : Index := Scalar.indexCast v2183
  let c0_929 : Index := 0#32
  let c0_930 : Index := 0#32
  ![v2184.toNat, 0, 0]

def k0_chk13 (i : grid0.Coords) (v2182 : BitVec 32) : Prop :=
  (∀ (k0_h1 : k0_cond1 i = 1#1), ∀ a, (k0_off13 v2182) a + S1x1536x32.size a ≤ S22x1536x32.size a)
theorem k0_off13_inb : ∀ (i : grid0.Coords) (v2182 : BitVec 32) (k0_hw13 : k0_chk13 i v2182), ∀ (k0_h1 : k0_cond1 i = 1#1), ∀ a, (k0_off13 v2182) a + S1x1536x32.size a ≤ S22x1536x32.size a := fun i v2182 k0_hw13 k0_h1 => k0_hw13 k0_h1

def k0_off14 (v2192 : BitVec 32) : Fin 3 → Nat :=
  let c0_i32_934 : BitVec 32 := 0#32
  let v2193 : BitVec 32 := Scalar.maxsi v2192 c0_i32_934
  let v2194 : Index := Scalar.indexCast v2193
  let c0_935 : Index := 0#32
  let c0_936 : Index := 0#32
  ![v2194.toNat, 0, 0]

def k0_chk14 (i : grid0.Coords) (v2192 : BitVec 32) : Prop :=
  (∀ (k0_h1 : k0_cond1 i = 1#1), ∀ a, (k0_off14 v2192) a + S1x1536x32.size a ≤ S22x1536x32.size a)
theorem k0_off14_inb : ∀ (i : grid0.Coords) (v2192 : BitVec 32) (k0_hw14 : k0_chk14 i v2192), ∀ (k0_h1 : k0_cond1 i = 1#1), ∀ a, (k0_off14 v2192) a + S1x1536x32.size a ≤ S22x1536x32.size a := fun i v2192 k0_hw14 k0_h1 => k0_hw14 k0_h1

def k0_off15 (v2202 : BitVec 32) : Fin 3 → Nat :=
  let c0_i32_940 : BitVec 32 := 0#32
  let v2203 : BitVec 32 := Scalar.maxsi v2202 c0_i32_940
  let v2204 : Index := Scalar.indexCast v2203
  let c0_941 : Index := 0#32
  let c0_942 : Index := 0#32
  ![v2204.toNat, 0, 0]

def k0_chk15 (i : grid0.Coords) (v2202 : BitVec 32) : Prop :=
  (∀ (k0_h1 : k0_cond1 i = 1#1), ∀ a, (k0_off15 v2202) a + S1x1536x32.size a ≤ S22x1536x32.size a)
theorem k0_off15_inb : ∀ (i : grid0.Coords) (v2202 : BitVec 32) (k0_hw15 : k0_chk15 i v2202), ∀ (k0_h1 : k0_cond1 i = 1#1), ∀ a, (k0_off15 v2202) a + S1x1536x32.size a ≤ S22x1536x32.size a := fun i v2202 k0_hw15 k0_h1 => k0_hw15 k0_h1

def k0_off16 (v2212 : BitVec 32) : Fin 3 → Nat :=
  let c0_i32_946 : BitVec 32 := 0#32
  let v2213 : BitVec 32 := Scalar.maxsi v2212 c0_i32_946
  let v2214 : Index := Scalar.indexCast v2213
  let c0_947 : Index := 0#32
  let c0_948 : Index := 0#32
  ![v2214.toNat, 0, 0]

def k0_chk16 (i : grid0.Coords) (v2212 : BitVec 32) : Prop :=
  (∀ (k0_h1 : k0_cond1 i = 1#1), ∀ a, (k0_off16 v2212) a + S1x1536x32.size a ≤ S22x1536x32.size a)
theorem k0_off16_inb : ∀ (i : grid0.Coords) (v2212 : BitVec 32) (k0_hw16 : k0_chk16 i v2212), ∀ (k0_h1 : k0_cond1 i = 1#1), ∀ a, (k0_off16 v2212) a + S1x1536x32.size a ≤ S22x1536x32.size a := fun i v2212 k0_hw16 k0_h1 => k0_hw16 k0_h1

def k0_cond2 (i : grid0.Coords) : BitVec 1 :=
  let arg1 : BitVec 32 := BitVec.ofNat 32 (i 1).val
  let c0_i32_2 : BitVec 32 := 0#32
  let v9 : BitVec 1 := Scalar.cmpi .eq arg1 c0_i32_2
  let v10 : BitVec 32 := Scalar.extui v9
  let c0_i32_3 : BitVec 32 := 0#32
  let v11 : BitVec 1 := Scalar.cmpi .ne v10 c0_i32_3
  v11

def k0_off17 (v372 : BitVec 32) : Fin 2 → Nat :=
  let c0_i32_163 : BitVec 32 := 0#32
  let v373 : BitVec 32 := Scalar.maxsi v372 c0_i32_163
  let v374 : Index := Scalar.indexCast v373
  let c0_164 : Index := 0#32
  ![v374.toNat, 0]

def k0_chk17 (i : grid0.Coords) (v372 : BitVec 32) : Prop :=
  (∀ (k0_h2 : k0_cond2 i = 1#1), ∀ a, (k0_off17 v372) a + S1x32.size a ≤ S22x32.size a)
theorem k0_off17_inb : ∀ (i : grid0.Coords) (v372 : BitVec 32) (k0_hw17 : k0_chk17 i v372), ∀ (k0_h2 : k0_cond2 i = 1#1), ∀ a, (k0_off17 v372) a + S1x32.size a ≤ S22x32.size a := fun i v372 k0_hw17 k0_h2 => k0_hw17 k0_h2

def k0_off18 (v376 : BitVec 32) : Fin 2 → Nat :=
  let c0_i32_166 : BitVec 32 := 0#32
  let v377 : BitVec 32 := Scalar.maxsi v376 c0_i32_166
  let v378 : Index := Scalar.indexCast v377
  let c0_167 : Index := 0#32
  ![v378.toNat, 0]

def k0_chk18 (i : grid0.Coords) (v376 : BitVec 32) : Prop :=
  (∀ (k0_h2 : k0_cond2 i = 1#1), ∀ a, (k0_off18 v376) a + S1x32.size a ≤ S22x32.size a)
theorem k0_off18_inb : ∀ (i : grid0.Coords) (v376 : BitVec 32) (k0_hw18 : k0_chk18 i v376), ∀ (k0_h2 : k0_cond2 i = 1#1), ∀ a, (k0_off18 v376) a + S1x32.size a ≤ S22x32.size a := fun i v376 k0_hw18 k0_h2 => k0_hw18 k0_h2

def k0_off19 (v380 : BitVec 32) : Fin 2 → Nat :=
  let c0_i32_169 : BitVec 32 := 0#32
  let v381 : BitVec 32 := Scalar.maxsi v380 c0_i32_169
  let v382 : Index := Scalar.indexCast v381
  let c0_170 : Index := 0#32
  ![v382.toNat, 0]

def k0_chk19 (i : grid0.Coords) (v380 : BitVec 32) : Prop :=
  (∀ (k0_h2 : k0_cond2 i = 1#1), ∀ a, (k0_off19 v380) a + S1x32.size a ≤ S22x32.size a)
theorem k0_off19_inb : ∀ (i : grid0.Coords) (v380 : BitVec 32) (k0_hw19 : k0_chk19 i v380), ∀ (k0_h2 : k0_cond2 i = 1#1), ∀ a, (k0_off19 v380) a + S1x32.size a ≤ S22x32.size a := fun i v380 k0_hw19 k0_h2 => k0_hw19 k0_h2

def k0_off20 (v384 : BitVec 32) : Fin 2 → Nat :=
  let c0_i32_172 : BitVec 32 := 0#32
  let v385 : BitVec 32 := Scalar.maxsi v384 c0_i32_172
  let v386 : Index := Scalar.indexCast v385
  let c0_173 : Index := 0#32
  ![v386.toNat, 0]

def k0_chk20 (i : grid0.Coords) (v384 : BitVec 32) : Prop :=
  (∀ (k0_h2 : k0_cond2 i = 1#1), ∀ a, (k0_off20 v384) a + S1x32.size a ≤ S22x32.size a)
theorem k0_off20_inb : ∀ (i : grid0.Coords) (v384 : BitVec 32) (k0_hw20 : k0_chk20 i v384), ∀ (k0_h2 : k0_cond2 i = 1#1), ∀ a, (k0_off20 v384) a + S1x32.size a ≤ S22x32.size a := fun i v384 k0_hw20 k0_h2 => k0_hw20 k0_h2

def k0_off21 (v388 : BitVec 32) : Fin 2 → Nat :=
  let c0_i32_175 : BitVec 32 := 0#32
  let v389 : BitVec 32 := Scalar.maxsi v388 c0_i32_175
  let v390 : Index := Scalar.indexCast v389
  let c0_176 : Index := 0#32
  ![v390.toNat, 0]

def k0_chk21 (i : grid0.Coords) (v388 : BitVec 32) : Prop :=
  (∀ (k0_h2 : k0_cond2 i = 1#1), ∀ a, (k0_off21 v388) a + S1x32.size a ≤ S22x32.size a)
theorem k0_off21_inb : ∀ (i : grid0.Coords) (v388 : BitVec 32) (k0_hw21 : k0_chk21 i v388), ∀ (k0_h2 : k0_cond2 i = 1#1), ∀ a, (k0_off21 v388) a + S1x32.size a ≤ S22x32.size a := fun i v388 k0_hw21 k0_h2 => k0_hw21 k0_h2

def k0_off22 (v392 : BitVec 32) : Fin 2 → Nat :=
  let c0_i32_178 : BitVec 32 := 0#32
  let v393 : BitVec 32 := Scalar.maxsi v392 c0_i32_178
  let v394 : Index := Scalar.indexCast v393
  let c0_179 : Index := 0#32
  ![v394.toNat, 0]

def k0_chk22 (i : grid0.Coords) (v392 : BitVec 32) : Prop :=
  (∀ (k0_h2 : k0_cond2 i = 1#1), ∀ a, (k0_off22 v392) a + S1x32.size a ≤ S22x32.size a)
theorem k0_off22_inb : ∀ (i : grid0.Coords) (v392 : BitVec 32) (k0_hw22 : k0_chk22 i v392), ∀ (k0_h2 : k0_cond2 i = 1#1), ∀ a, (k0_off22 v392) a + S1x32.size a ≤ S22x32.size a := fun i v392 k0_hw22 k0_h2 => k0_hw22 k0_h2

def k0_off23 (v396 : BitVec 32) : Fin 2 → Nat :=
  let c0_i32_181 : BitVec 32 := 0#32
  let v397 : BitVec 32 := Scalar.maxsi v396 c0_i32_181
  let v398 : Index := Scalar.indexCast v397
  let c0_182 : Index := 0#32
  ![v398.toNat, 0]

def k0_chk23 (i : grid0.Coords) (v396 : BitVec 32) : Prop :=
  (∀ (k0_h2 : k0_cond2 i = 1#1), ∀ a, (k0_off23 v396) a + S1x32.size a ≤ S22x32.size a)
theorem k0_off23_inb : ∀ (i : grid0.Coords) (v396 : BitVec 32) (k0_hw23 : k0_chk23 i v396), ∀ (k0_h2 : k0_cond2 i = 1#1), ∀ a, (k0_off23 v396) a + S1x32.size a ≤ S22x32.size a := fun i v396 k0_hw23 k0_h2 => k0_hw23 k0_h2

def k0_off24 (v400 : BitVec 32) : Fin 2 → Nat :=
  let c0_i32_184 : BitVec 32 := 0#32
  let v401 : BitVec 32 := Scalar.maxsi v400 c0_i32_184
  let v402 : Index := Scalar.indexCast v401
  let c0_185 : Index := 0#32
  ![v402.toNat, 0]

def k0_chk24 (i : grid0.Coords) (v400 : BitVec 32) : Prop :=
  (∀ (k0_h2 : k0_cond2 i = 1#1), ∀ a, (k0_off24 v400) a + S1x32.size a ≤ S22x32.size a)
theorem k0_off24_inb : ∀ (i : grid0.Coords) (v400 : BitVec 32) (k0_hw24 : k0_chk24 i v400), ∀ (k0_h2 : k0_cond2 i = 1#1), ∀ a, (k0_off24 v400) a + S1x32.size a ≤ S22x32.size a := fun i v400 k0_hw24 k0_h2 => k0_hw24 k0_h2

def k0_off25 (v404 : BitVec 32) : Fin 2 → Nat :=
  let c0_i32_187 : BitVec 32 := 0#32
  let v405 : BitVec 32 := Scalar.maxsi v404 c0_i32_187
  let v406 : Index := Scalar.indexCast v405
  let c0_188 : Index := 0#32
  ![v406.toNat, 0]

def k0_chk25 (i : grid0.Coords) (v404 : BitVec 32) : Prop :=
  (∀ (k0_h2 : k0_cond2 i = 1#1), ∀ a, (k0_off25 v404) a + S1x32.size a ≤ S22x32.size a)
theorem k0_off25_inb : ∀ (i : grid0.Coords) (v404 : BitVec 32) (k0_hw25 : k0_chk25 i v404), ∀ (k0_h2 : k0_cond2 i = 1#1), ∀ a, (k0_off25 v404) a + S1x32.size a ≤ S22x32.size a := fun i v404 k0_hw25 k0_h2 => k0_hw25 k0_h2

def k0_off26 (v408 : BitVec 32) : Fin 2 → Nat :=
  let c0_i32_190 : BitVec 32 := 0#32
  let v409 : BitVec 32 := Scalar.maxsi v408 c0_i32_190
  let v410 : Index := Scalar.indexCast v409
  let c0_191 : Index := 0#32
  ![v410.toNat, 0]

def k0_chk26 (i : grid0.Coords) (v408 : BitVec 32) : Prop :=
  (∀ (k0_h2 : k0_cond2 i = 1#1), ∀ a, (k0_off26 v408) a + S1x32.size a ≤ S22x32.size a)
theorem k0_off26_inb : ∀ (i : grid0.Coords) (v408 : BitVec 32) (k0_hw26 : k0_chk26 i v408), ∀ (k0_h2 : k0_cond2 i = 1#1), ∀ a, (k0_off26 v408) a + S1x32.size a ≤ S22x32.size a := fun i v408 k0_hw26 k0_h2 => k0_hw26 k0_h2

def k0_off27 (v412 : BitVec 32) : Fin 2 → Nat :=
  let c0_i32_193 : BitVec 32 := 0#32
  let v413 : BitVec 32 := Scalar.maxsi v412 c0_i32_193
  let v414 : Index := Scalar.indexCast v413
  let c0_194 : Index := 0#32
  ![v414.toNat, 0]

def k0_chk27 (i : grid0.Coords) (v412 : BitVec 32) : Prop :=
  (∀ (k0_h2 : k0_cond2 i = 1#1), ∀ a, (k0_off27 v412) a + S1x32.size a ≤ S22x32.size a)
theorem k0_off27_inb : ∀ (i : grid0.Coords) (v412 : BitVec 32) (k0_hw27 : k0_chk27 i v412), ∀ (k0_h2 : k0_cond2 i = 1#1), ∀ a, (k0_off27 v412) a + S1x32.size a ≤ S22x32.size a := fun i v412 k0_hw27 k0_h2 => k0_hw27 k0_h2

def k0_off28 (v416 : BitVec 32) : Fin 2 → Nat :=
  let c0_i32_196 : BitVec 32 := 0#32
  let v417 : BitVec 32 := Scalar.maxsi v416 c0_i32_196
  let v418 : Index := Scalar.indexCast v417
  let c0_197 : Index := 0#32
  ![v418.toNat, 0]

def k0_chk28 (i : grid0.Coords) (v416 : BitVec 32) : Prop :=
  (∀ (k0_h2 : k0_cond2 i = 1#1), ∀ a, (k0_off28 v416) a + S1x32.size a ≤ S22x32.size a)
theorem k0_off28_inb : ∀ (i : grid0.Coords) (v416 : BitVec 32) (k0_hw28 : k0_chk28 i v416), ∀ (k0_h2 : k0_cond2 i = 1#1), ∀ a, (k0_off28 v416) a + S1x32.size a ≤ S22x32.size a := fun i v416 k0_hw28 k0_h2 => k0_hw28 k0_h2

def k0_off29 (v420 : BitVec 32) : Fin 2 → Nat :=
  let c0_i32_199 : BitVec 32 := 0#32
  let v421 : BitVec 32 := Scalar.maxsi v420 c0_i32_199
  let v422 : Index := Scalar.indexCast v421
  let c0_200 : Index := 0#32
  ![v422.toNat, 0]

def k0_chk29 (i : grid0.Coords) (v420 : BitVec 32) : Prop :=
  (∀ (k0_h2 : k0_cond2 i = 1#1), ∀ a, (k0_off29 v420) a + S1x32.size a ≤ S22x32.size a)
theorem k0_off29_inb : ∀ (i : grid0.Coords) (v420 : BitVec 32) (k0_hw29 : k0_chk29 i v420), ∀ (k0_h2 : k0_cond2 i = 1#1), ∀ a, (k0_off29 v420) a + S1x32.size a ≤ S22x32.size a := fun i v420 k0_hw29 k0_h2 => k0_hw29 k0_h2

def k0_off30 (v424 : BitVec 32) : Fin 2 → Nat :=
  let c0_i32_202 : BitVec 32 := 0#32
  let v425 : BitVec 32 := Scalar.maxsi v424 c0_i32_202
  let v426 : Index := Scalar.indexCast v425
  let c0_203 : Index := 0#32
  ![v426.toNat, 0]

def k0_chk30 (i : grid0.Coords) (v424 : BitVec 32) : Prop :=
  (∀ (k0_h2 : k0_cond2 i = 1#1), ∀ a, (k0_off30 v424) a + S1x32.size a ≤ S22x32.size a)
theorem k0_off30_inb : ∀ (i : grid0.Coords) (v424 : BitVec 32) (k0_hw30 : k0_chk30 i v424), ∀ (k0_h2 : k0_cond2 i = 1#1), ∀ a, (k0_off30 v424) a + S1x32.size a ≤ S22x32.size a := fun i v424 k0_hw30 k0_h2 => k0_hw30 k0_h2

def k0_off31 (v428 : BitVec 32) : Fin 2 → Nat :=
  let c0_i32_205 : BitVec 32 := 0#32
  let v429 : BitVec 32 := Scalar.maxsi v428 c0_i32_205
  let v430 : Index := Scalar.indexCast v429
  let c0_206 : Index := 0#32
  ![v430.toNat, 0]

def k0_chk31 (i : grid0.Coords) (v428 : BitVec 32) : Prop :=
  (∀ (k0_h2 : k0_cond2 i = 1#1), ∀ a, (k0_off31 v428) a + S1x32.size a ≤ S22x32.size a)
theorem k0_off31_inb : ∀ (i : grid0.Coords) (v428 : BitVec 32) (k0_hw31 : k0_chk31 i v428), ∀ (k0_h2 : k0_cond2 i = 1#1), ∀ a, (k0_off31 v428) a + S1x32.size a ≤ S22x32.size a := fun i v428 k0_hw31 k0_h2 => k0_hw31 k0_h2

def k0_off32 (v432 : BitVec 32) : Fin 2 → Nat :=
  let c0_i32_208 : BitVec 32 := 0#32
  let v433 : BitVec 32 := Scalar.maxsi v432 c0_i32_208
  let v434 : Index := Scalar.indexCast v433
  let c0_209 : Index := 0#32
  ![v434.toNat, 0]

def k0_chk32 (i : grid0.Coords) (v432 : BitVec 32) : Prop :=
  (∀ (k0_h2 : k0_cond2 i = 1#1), ∀ a, (k0_off32 v432) a + S1x32.size a ≤ S22x32.size a)
theorem k0_off32_inb : ∀ (i : grid0.Coords) (v432 : BitVec 32) (k0_hw32 : k0_chk32 i v432), ∀ (k0_h2 : k0_cond2 i = 1#1), ∀ a, (k0_off32 v432) a + S1x32.size a ≤ S22x32.size a := fun i v432 k0_hw32 k0_h2 => k0_hw32 k0_h2

def k0_off33 (v457 : BitVec 32) : Fin 1 → Nat :=
  let c0_i32_217 : BitVec 32 := 0#32
  let v458 : BitVec 32 := Scalar.maxsi v457 c0_i32_217
  let v459 : Index := Scalar.indexCast v458
  ![v459.toNat]

def k0_chk33 (i : grid0.Coords) (v457 : BitVec 32) : Prop :=
  (∀ (k0_h2 : k0_cond2 i = 1#1), ∀ a, (k0_off33 v457) a + S1.size a ≤ S22.size a)
theorem k0_off33_inb : ∀ (i : grid0.Coords) (v457 : BitVec 32) (k0_hw33 : k0_chk33 i v457), ∀ (k0_h2 : k0_cond2 i = 1#1), ∀ a, (k0_off33 v457) a + S1.size a ≤ S22.size a := fun i v457 k0_hw33 k0_h2 => k0_hw33 k0_h2

def k0_off34 (v482 : BitVec 32) : Fin 1 → Nat :=
  let c0_i32_224 : BitVec 32 := 0#32
  let v483 : BitVec 32 := Scalar.maxsi v482 c0_i32_224
  let v484 : Index := Scalar.indexCast v483
  ![v484.toNat]

def k0_chk34 (i : grid0.Coords) (v482 : BitVec 32) : Prop :=
  (∀ (k0_h2 : k0_cond2 i = 1#1), ∀ a, (k0_off34 v482) a + S1.size a ≤ S22.size a)
theorem k0_off34_inb : ∀ (i : grid0.Coords) (v482 : BitVec 32) (k0_hw34 : k0_chk34 i v482), ∀ (k0_h2 : k0_cond2 i = 1#1), ∀ a, (k0_off34 v482) a + S1.size a ≤ S22.size a := fun i v482 k0_hw34 k0_h2 => k0_hw34 k0_h2

def k0_off35 (v507 : BitVec 32) : Fin 1 → Nat :=
  let c0_i32_231 : BitVec 32 := 0#32
  let v508 : BitVec 32 := Scalar.maxsi v507 c0_i32_231
  let v509 : Index := Scalar.indexCast v508
  ![v509.toNat]

def k0_chk35 (i : grid0.Coords) (v507 : BitVec 32) : Prop :=
  (∀ (k0_h2 : k0_cond2 i = 1#1), ∀ a, (k0_off35 v507) a + S1.size a ≤ S22.size a)
theorem k0_off35_inb : ∀ (i : grid0.Coords) (v507 : BitVec 32) (k0_hw35 : k0_chk35 i v507), ∀ (k0_h2 : k0_cond2 i = 1#1), ∀ a, (k0_off35 v507) a + S1.size a ≤ S22.size a := fun i v507 k0_hw35 k0_h2 => k0_hw35 k0_h2

def k0_off36 (v532 : BitVec 32) : Fin 1 → Nat :=
  let c0_i32_238 : BitVec 32 := 0#32
  let v533 : BitVec 32 := Scalar.maxsi v532 c0_i32_238
  let v534 : Index := Scalar.indexCast v533
  ![v534.toNat]

def k0_chk36 (i : grid0.Coords) (v532 : BitVec 32) : Prop :=
  (∀ (k0_h2 : k0_cond2 i = 1#1), ∀ a, (k0_off36 v532) a + S1.size a ≤ S22.size a)
theorem k0_off36_inb : ∀ (i : grid0.Coords) (v532 : BitVec 32) (k0_hw36 : k0_chk36 i v532), ∀ (k0_h2 : k0_cond2 i = 1#1), ∀ a, (k0_off36 v532) a + S1.size a ≤ S22.size a := fun i v532 k0_hw36 k0_h2 => k0_hw36 k0_h2

def k0_off37 (v557 : BitVec 32) : Fin 1 → Nat :=
  let c0_i32_245 : BitVec 32 := 0#32
  let v558 : BitVec 32 := Scalar.maxsi v557 c0_i32_245
  let v559 : Index := Scalar.indexCast v558
  ![v559.toNat]

def k0_chk37 (i : grid0.Coords) (v557 : BitVec 32) : Prop :=
  (∀ (k0_h2 : k0_cond2 i = 1#1), ∀ a, (k0_off37 v557) a + S1.size a ≤ S22.size a)
theorem k0_off37_inb : ∀ (i : grid0.Coords) (v557 : BitVec 32) (k0_hw37 : k0_chk37 i v557), ∀ (k0_h2 : k0_cond2 i = 1#1), ∀ a, (k0_off37 v557) a + S1.size a ≤ S22.size a := fun i v557 k0_hw37 k0_h2 => k0_hw37 k0_h2

def k0_off38 (v582 : BitVec 32) : Fin 1 → Nat :=
  let c0_i32_252 : BitVec 32 := 0#32
  let v583 : BitVec 32 := Scalar.maxsi v582 c0_i32_252
  let v584 : Index := Scalar.indexCast v583
  ![v584.toNat]

def k0_chk38 (i : grid0.Coords) (v582 : BitVec 32) : Prop :=
  (∀ (k0_h2 : k0_cond2 i = 1#1), ∀ a, (k0_off38 v582) a + S1.size a ≤ S22.size a)
theorem k0_off38_inb : ∀ (i : grid0.Coords) (v582 : BitVec 32) (k0_hw38 : k0_chk38 i v582), ∀ (k0_h2 : k0_cond2 i = 1#1), ∀ a, (k0_off38 v582) a + S1.size a ≤ S22.size a := fun i v582 k0_hw38 k0_h2 => k0_hw38 k0_h2

def k0_off39 (v607 : BitVec 32) : Fin 1 → Nat :=
  let c0_i32_259 : BitVec 32 := 0#32
  let v608 : BitVec 32 := Scalar.maxsi v607 c0_i32_259
  let v609 : Index := Scalar.indexCast v608
  ![v609.toNat]

def k0_chk39 (i : grid0.Coords) (v607 : BitVec 32) : Prop :=
  (∀ (k0_h2 : k0_cond2 i = 1#1), ∀ a, (k0_off39 v607) a + S1.size a ≤ S22.size a)
theorem k0_off39_inb : ∀ (i : grid0.Coords) (v607 : BitVec 32) (k0_hw39 : k0_chk39 i v607), ∀ (k0_h2 : k0_cond2 i = 1#1), ∀ a, (k0_off39 v607) a + S1.size a ≤ S22.size a := fun i v607 k0_hw39 k0_h2 => k0_hw39 k0_h2

def k0_off40 (v632 : BitVec 32) : Fin 1 → Nat :=
  let c0_i32_266 : BitVec 32 := 0#32
  let v633 : BitVec 32 := Scalar.maxsi v632 c0_i32_266
  let v634 : Index := Scalar.indexCast v633
  ![v634.toNat]

def k0_chk40 (i : grid0.Coords) (v632 : BitVec 32) : Prop :=
  (∀ (k0_h2 : k0_cond2 i = 1#1), ∀ a, (k0_off40 v632) a + S1.size a ≤ S22.size a)
theorem k0_off40_inb : ∀ (i : grid0.Coords) (v632 : BitVec 32) (k0_hw40 : k0_chk40 i v632), ∀ (k0_h2 : k0_cond2 i = 1#1), ∀ a, (k0_off40 v632) a + S1.size a ≤ S22.size a := fun i v632 k0_hw40 k0_h2 => k0_hw40 k0_h2

def k0_off41 (v657 : BitVec 32) : Fin 1 → Nat :=
  let c0_i32_273 : BitVec 32 := 0#32
  let v658 : BitVec 32 := Scalar.maxsi v657 c0_i32_273
  let v659 : Index := Scalar.indexCast v658
  ![v659.toNat]

def k0_chk41 (i : grid0.Coords) (v657 : BitVec 32) : Prop :=
  (∀ (k0_h2 : k0_cond2 i = 1#1), ∀ a, (k0_off41 v657) a + S1.size a ≤ S22.size a)
theorem k0_off41_inb : ∀ (i : grid0.Coords) (v657 : BitVec 32) (k0_hw41 : k0_chk41 i v657), ∀ (k0_h2 : k0_cond2 i = 1#1), ∀ a, (k0_off41 v657) a + S1.size a ≤ S22.size a := fun i v657 k0_hw41 k0_h2 => k0_hw41 k0_h2

def k0_off42 (v682 : BitVec 32) : Fin 1 → Nat :=
  let c0_i32_280 : BitVec 32 := 0#32
  let v683 : BitVec 32 := Scalar.maxsi v682 c0_i32_280
  let v684 : Index := Scalar.indexCast v683
  ![v684.toNat]

def k0_chk42 (i : grid0.Coords) (v682 : BitVec 32) : Prop :=
  (∀ (k0_h2 : k0_cond2 i = 1#1), ∀ a, (k0_off42 v682) a + S1.size a ≤ S22.size a)
theorem k0_off42_inb : ∀ (i : grid0.Coords) (v682 : BitVec 32) (k0_hw42 : k0_chk42 i v682), ∀ (k0_h2 : k0_cond2 i = 1#1), ∀ a, (k0_off42 v682) a + S1.size a ≤ S22.size a := fun i v682 k0_hw42 k0_h2 => k0_hw42 k0_h2

def k0_off43 (v707 : BitVec 32) : Fin 1 → Nat :=
  let c0_i32_287 : BitVec 32 := 0#32
  let v708 : BitVec 32 := Scalar.maxsi v707 c0_i32_287
  let v709 : Index := Scalar.indexCast v708
  ![v709.toNat]

def k0_chk43 (i : grid0.Coords) (v707 : BitVec 32) : Prop :=
  (∀ (k0_h2 : k0_cond2 i = 1#1), ∀ a, (k0_off43 v707) a + S1.size a ≤ S22.size a)
theorem k0_off43_inb : ∀ (i : grid0.Coords) (v707 : BitVec 32) (k0_hw43 : k0_chk43 i v707), ∀ (k0_h2 : k0_cond2 i = 1#1), ∀ a, (k0_off43 v707) a + S1.size a ≤ S22.size a := fun i v707 k0_hw43 k0_h2 => k0_hw43 k0_h2

def k0_off44 (v732 : BitVec 32) : Fin 1 → Nat :=
  let c0_i32_294 : BitVec 32 := 0#32
  let v733 : BitVec 32 := Scalar.maxsi v732 c0_i32_294
  let v734 : Index := Scalar.indexCast v733
  ![v734.toNat]

def k0_chk44 (i : grid0.Coords) (v732 : BitVec 32) : Prop :=
  (∀ (k0_h2 : k0_cond2 i = 1#1), ∀ a, (k0_off44 v732) a + S1.size a ≤ S22.size a)
theorem k0_off44_inb : ∀ (i : grid0.Coords) (v732 : BitVec 32) (k0_hw44 : k0_chk44 i v732), ∀ (k0_h2 : k0_cond2 i = 1#1), ∀ a, (k0_off44 v732) a + S1.size a ≤ S22.size a := fun i v732 k0_hw44 k0_h2 => k0_hw44 k0_h2

def k0_off45 (v757 : BitVec 32) : Fin 1 → Nat :=
  let c0_i32_301 : BitVec 32 := 0#32
  let v758 : BitVec 32 := Scalar.maxsi v757 c0_i32_301
  let v759 : Index := Scalar.indexCast v758
  ![v759.toNat]

def k0_chk45 (i : grid0.Coords) (v757 : BitVec 32) : Prop :=
  (∀ (k0_h2 : k0_cond2 i = 1#1), ∀ a, (k0_off45 v757) a + S1.size a ≤ S22.size a)
theorem k0_off45_inb : ∀ (i : grid0.Coords) (v757 : BitVec 32) (k0_hw45 : k0_chk45 i v757), ∀ (k0_h2 : k0_cond2 i = 1#1), ∀ a, (k0_off45 v757) a + S1.size a ≤ S22.size a := fun i v757 k0_hw45 k0_h2 => k0_hw45 k0_h2

def k0_off46 (v782 : BitVec 32) : Fin 1 → Nat :=
  let c0_i32_308 : BitVec 32 := 0#32
  let v783 : BitVec 32 := Scalar.maxsi v782 c0_i32_308
  let v784 : Index := Scalar.indexCast v783
  ![v784.toNat]

def k0_chk46 (i : grid0.Coords) (v782 : BitVec 32) : Prop :=
  (∀ (k0_h2 : k0_cond2 i = 1#1), ∀ a, (k0_off46 v782) a + S1.size a ≤ S22.size a)
theorem k0_off46_inb : ∀ (i : grid0.Coords) (v782 : BitVec 32) (k0_hw46 : k0_chk46 i v782), ∀ (k0_h2 : k0_cond2 i = 1#1), ∀ a, (k0_off46 v782) a + S1.size a ≤ S22.size a := fun i v782 k0_hw46 k0_h2 => k0_hw46 k0_h2

def k0_off47 (v807 : BitVec 32) : Fin 1 → Nat :=
  let c0_i32_315 : BitVec 32 := 0#32
  let v808 : BitVec 32 := Scalar.maxsi v807 c0_i32_315
  let v809 : Index := Scalar.indexCast v808
  ![v809.toNat]

def k0_chk47 (i : grid0.Coords) (v807 : BitVec 32) : Prop :=
  (∀ (k0_h2 : k0_cond2 i = 1#1), ∀ a, (k0_off47 v807) a + S1.size a ≤ S22.size a)
theorem k0_off47_inb : ∀ (i : grid0.Coords) (v807 : BitVec 32) (k0_hw47 : k0_chk47 i v807), ∀ (k0_h2 : k0_cond2 i = 1#1), ∀ a, (k0_off47 v807) a + S1.size a ≤ S22.size a := fun i v807 k0_hw47 k0_h2 => k0_hw47 k0_h2

def k0_off48 (v832 : BitVec 32) : Fin 1 → Nat :=
  let c0_i32_321 : BitVec 32 := 0#32
  let v833 : BitVec 32 := Scalar.maxsi v832 c0_i32_321
  let v834 : Index := Scalar.indexCast v833
  ![v834.toNat]

def k0_chk48 (i : grid0.Coords) (v832 : BitVec 32) : Prop :=
  (∀ (k0_h2 : k0_cond2 i = 1#1), ∀ a, (k0_off48 v832) a + S1.size a ≤ S22.size a)
theorem k0_off48_inb : ∀ (i : grid0.Coords) (v832 : BitVec 32) (k0_hw48 : k0_chk48 i v832), ∀ (k0_h2 : k0_cond2 i = 1#1), ∀ a, (k0_off48 v832) a + S1.size a ≤ S22.size a := fun i v832 k0_hw48 k0_h2 => k0_hw48 k0_h2

def k0_mult1 (i : grid0.Coords) : BitVec 32 :=
  let arg1 : BitVec 32 := BitVec.ofNat 32 (i 1).val
  let c256_i32_4 : BitVec 32 := 256#32
  let v12 : BitVec 32 := Scalar.muli arg1 c256_i32_4
  v12
def k0_cond3 (i : grid0.Coords) : BitVec 1 :=
  let arg0 : BitVec 32 := BitVec.ofNat 32 (i 0).val
  let c0_i32_5 : BitVec 32 := 0#32
  let v14 : BitVec 1 := Scalar.cmpi .eq arg0 c0_i32_5
  let v15 : BitVec 32 := Scalar.extui v14
  let c0_i32_6 : BitVec 32 := 0#32
  let v16 : BitVec 1 := Scalar.cmpi .ne v15 c0_i32_6
  v16

def k0_off49 (i : grid0.Coords) : Fin 2 → Nat :=
  let c0_166 : Index := 0#32
  let arg1 : BitVec 32 := BitVec.ofNat 32 (i 1).val
  let c256_i32_4 : BitVec 32 := 256#32
  let v12 : BitVec 32 := Scalar.muli arg1 c256_i32_4
  let v13 : BitVec 32 := v12
  let v413 : Index := Scalar.indexCast v13
  ![0, v413.toNat]
def k0_off50 (i : grid0.Coords) : Fin 2 → Nat :=
  let c0_167 : Index := 0#32
  let arg1 : BitVec 32 := BitVec.ofNat 32 (i 1).val
  let c256_i32_4 : BitVec 32 := 256#32
  let v12 : BitVec 32 := Scalar.muli arg1 c256_i32_4
  let v13 : BitVec 32 := v12
  let v426 : Index := Scalar.indexCast v13
  ![0, v426.toNat]
def k0_off51 (i : grid0.Coords) : Fin 2 → Nat :=
  let c128_168 : Index := 128#32
  let arg1 : BitVec 32 := BitVec.ofNat 32 (i 1).val
  let c256_i32_4 : BitVec 32 := 256#32
  let v12 : BitVec 32 := Scalar.muli arg1 c256_i32_4
  let v13 : BitVec 32 := v12
  let v441 : Index := Scalar.indexCast v13
  ![128, v441.toNat]
def k0_off52 (i : grid0.Coords) : Fin 2 → Nat :=
  let c256_169 : Index := 256#32
  let arg1 : BitVec 32 := BitVec.ofNat 32 (i 1).val
  let c256_i32_4 : BitVec 32 := 256#32
  let v12 : BitVec 32 := Scalar.muli arg1 c256_i32_4
  let v13 : BitVec 32 := v12
  let v456 : Index := Scalar.indexCast v13
  ![256, v456.toNat]
def k0_off53 (i : grid0.Coords) : Fin 2 → Nat :=
  let c384_170 : Index := 384#32
  let arg1 : BitVec 32 := BitVec.ofNat 32 (i 1).val
  let c256_i32_4 : BitVec 32 := 256#32
  let v12 : BitVec 32 := Scalar.muli arg1 c256_i32_4
  let v13 : BitVec 32 := v12
  let v471 : Index := Scalar.indexCast v13
  ![384, v471.toNat]
def k0_off54 (i : grid0.Coords) : Fin 2 → Nat :=
  let c512 : Index := 512#32
  let arg1 : BitVec 32 := BitVec.ofNat 32 (i 1).val
  let c256_i32_4 : BitVec 32 := 256#32
  let v12 : BitVec 32 := Scalar.muli arg1 c256_i32_4
  let v13 : BitVec 32 := v12
  let v486 : Index := Scalar.indexCast v13
  ![512, v486.toNat]
def k0_off55 (i : grid0.Coords) : Fin 2 → Nat :=
  let c640 : Index := 640#32
  let arg1 : BitVec 32 := BitVec.ofNat 32 (i 1).val
  let c256_i32_4 : BitVec 32 := 256#32
  let v12 : BitVec 32 := Scalar.muli arg1 c256_i32_4
  let v13 : BitVec 32 := v12
  let v501 : Index := Scalar.indexCast v13
  ![640, v501.toNat]
def k0_off56 (i : grid0.Coords) : Fin 2 → Nat :=
  let c768 : Index := 768#32
  let arg1 : BitVec 32 := BitVec.ofNat 32 (i 1).val
  let c256_i32_4 : BitVec 32 := 256#32
  let v12 : BitVec 32 := Scalar.muli arg1 c256_i32_4
  let v13 : BitVec 32 := v12
  let v516 : Index := Scalar.indexCast v13
  ![768, v516.toNat]
def k0_off57 (i : grid0.Coords) : Fin 2 → Nat :=
  let c896 : Index := 896#32
  let arg1 : BitVec 32 := BitVec.ofNat 32 (i 1).val
  let c256_i32_4 : BitVec 32 := 256#32
  let v12 : BitVec 32 := Scalar.muli arg1 c256_i32_4
  let v13 : BitVec 32 := v12
  let v531 : Index := Scalar.indexCast v13
  ![896, v531.toNat]
def k0_off58 (i : grid0.Coords) : Fin 2 → Nat :=
  let c1024 : Index := 1024#32
  let arg1 : BitVec 32 := BitVec.ofNat 32 (i 1).val
  let c256_i32_4 : BitVec 32 := 256#32
  let v12 : BitVec 32 := Scalar.muli arg1 c256_i32_4
  let v13 : BitVec 32 := v12
  let v546 : Index := Scalar.indexCast v13
  ![1024, v546.toNat]
def k0_off59 (i : grid0.Coords) : Fin 2 → Nat :=
  let c1152 : Index := 1152#32
  let arg1 : BitVec 32 := BitVec.ofNat 32 (i 1).val
  let c256_i32_4 : BitVec 32 := 256#32
  let v12 : BitVec 32 := Scalar.muli arg1 c256_i32_4
  let v13 : BitVec 32 := v12
  let v561 : Index := Scalar.indexCast v13
  ![1152, v561.toNat]
def k0_off60 (i : grid0.Coords) : Fin 2 → Nat :=
  let c1280 : Index := 1280#32
  let arg1 : BitVec 32 := BitVec.ofNat 32 (i 1).val
  let c256_i32_4 : BitVec 32 := 256#32
  let v12 : BitVec 32 := Scalar.muli arg1 c256_i32_4
  let v13 : BitVec 32 := v12
  let v576 : Index := Scalar.indexCast v13
  ![1280, v576.toNat]
def k0_off61 (i : grid0.Coords) : Fin 2 → Nat :=
  let c1408 : Index := 1408#32
  let arg1 : BitVec 32 := BitVec.ofNat 32 (i 1).val
  let c256_i32_4 : BitVec 32 := 256#32
  let v12 : BitVec 32 := Scalar.muli arg1 c256_i32_4
  let v13 : BitVec 32 := v12
  let v591 : Index := Scalar.indexCast v13
  ![1408, v591.toNat]
def k0_off62 (v17 : BitVec 32) : Fin 3 → Nat :=
  let c0_i32_7 : BitVec 32 := 0#32
  let v18 : BitVec 32 := Scalar.maxsi v17 c0_i32_7
  let v19 : Index := Scalar.indexCast v18
  let c0_8 : Index := 0#32
  let c0_9 : Index := 0#32
  ![v19.toNat, 0, 0]

def k0_chk49 (v17 : BitVec 32) : Prop :=
  (∀ a, (k0_off62 v17) a + S1x32x256.size a ≤ S22x32x256.size a)
theorem k0_off62_inb : ∀ (v17 : BitVec 32) (k0_hw49 : k0_chk49 v17), ∀ a, (k0_off62 v17) a + S1x32x256.size a ≤ S22x32x256.size a := fun v17 k0_hw49 => k0_hw49

def k0_off63 (v25 : BitVec 32) : Fin 3 → Nat :=
  let c0_i32_12 : BitVec 32 := 0#32
  let v26 : BitVec 32 := Scalar.maxsi v25 c0_i32_12
  let v27 : Index := Scalar.indexCast v26
  let c0_13 : Index := 0#32
  let c0_14 : Index := 0#32
  ![v27.toNat, 0, 0]

def k0_chk50 (v25 : BitVec 32) : Prop :=
  (∀ a, (k0_off63 v25) a + S1x32x256.size a ≤ S22x32x256.size a)
theorem k0_off63_inb : ∀ (v25 : BitVec 32) (k0_hw50 : k0_chk50 v25), ∀ a, (k0_off63 v25) a + S1x32x256.size a ≤ S22x32x256.size a := fun v25 k0_hw50 => k0_hw50

def k0_off64 (v33 : BitVec 32) : Fin 3 → Nat :=
  let c0_i32_16 : BitVec 32 := 0#32
  let v34 : BitVec 32 := Scalar.maxsi v33 c0_i32_16
  let v35 : Index := Scalar.indexCast v34
  let c0_17 : Index := 0#32
  let c0_18 : Index := 0#32
  ![v35.toNat, 0, 0]

def k0_chk51 (v33 : BitVec 32) : Prop :=
  (∀ a, (k0_off64 v33) a + S1x32x256.size a ≤ S22x32x256.size a)
theorem k0_off64_inb : ∀ (v33 : BitVec 32) (k0_hw51 : k0_chk51 v33), ∀ a, (k0_off64 v33) a + S1x32x256.size a ≤ S22x32x256.size a := fun v33 k0_hw51 => k0_hw51

def k0_off65 (v41 : BitVec 32) : Fin 3 → Nat :=
  let c0_i32_20 : BitVec 32 := 0#32
  let v42 : BitVec 32 := Scalar.maxsi v41 c0_i32_20
  let v43 : Index := Scalar.indexCast v42
  let c0_21 : Index := 0#32
  let c0_22 : Index := 0#32
  ![v43.toNat, 0, 0]

def k0_chk52 (v41 : BitVec 32) : Prop :=
  (∀ a, (k0_off65 v41) a + S1x32x256.size a ≤ S22x32x256.size a)
theorem k0_off65_inb : ∀ (v41 : BitVec 32) (k0_hw52 : k0_chk52 v41), ∀ a, (k0_off65 v41) a + S1x32x256.size a ≤ S22x32x256.size a := fun v41 k0_hw52 => k0_hw52

def k0_off66 (v49 : BitVec 32) : Fin 3 → Nat :=
  let c0_i32_24 : BitVec 32 := 0#32
  let v50 : BitVec 32 := Scalar.maxsi v49 c0_i32_24
  let v51 : Index := Scalar.indexCast v50
  let c0_25 : Index := 0#32
  let c0_26 : Index := 0#32
  ![v51.toNat, 0, 0]

def k0_chk53 (v49 : BitVec 32) : Prop :=
  (∀ a, (k0_off66 v49) a + S1x32x256.size a ≤ S22x32x256.size a)
theorem k0_off66_inb : ∀ (v49 : BitVec 32) (k0_hw53 : k0_chk53 v49), ∀ a, (k0_off66 v49) a + S1x32x256.size a ≤ S22x32x256.size a := fun v49 k0_hw53 => k0_hw53

def k0_off67 (v57 : BitVec 32) : Fin 3 → Nat :=
  let c0_i32_28 : BitVec 32 := 0#32
  let v58 : BitVec 32 := Scalar.maxsi v57 c0_i32_28
  let v59 : Index := Scalar.indexCast v58
  let c0_29 : Index := 0#32
  let c0_30 : Index := 0#32
  ![v59.toNat, 0, 0]

def k0_chk54 (v57 : BitVec 32) : Prop :=
  (∀ a, (k0_off67 v57) a + S1x32x256.size a ≤ S22x32x256.size a)
theorem k0_off67_inb : ∀ (v57 : BitVec 32) (k0_hw54 : k0_chk54 v57), ∀ a, (k0_off67 v57) a + S1x32x256.size a ≤ S22x32x256.size a := fun v57 k0_hw54 => k0_hw54

def k0_off68 (v65 : BitVec 32) : Fin 3 → Nat :=
  let c0_i32_32 : BitVec 32 := 0#32
  let v66 : BitVec 32 := Scalar.maxsi v65 c0_i32_32
  let v67 : Index := Scalar.indexCast v66
  let c0_33 : Index := 0#32
  let c0_34 : Index := 0#32
  ![v67.toNat, 0, 0]

def k0_chk55 (v65 : BitVec 32) : Prop :=
  (∀ a, (k0_off68 v65) a + S1x32x256.size a ≤ S22x32x256.size a)
theorem k0_off68_inb : ∀ (v65 : BitVec 32) (k0_hw55 : k0_chk55 v65), ∀ a, (k0_off68 v65) a + S1x32x256.size a ≤ S22x32x256.size a := fun v65 k0_hw55 => k0_hw55

def k0_off69 (v73 : BitVec 32) : Fin 3 → Nat :=
  let c0_i32_36 : BitVec 32 := 0#32
  let v74 : BitVec 32 := Scalar.maxsi v73 c0_i32_36
  let v75 : Index := Scalar.indexCast v74
  let c0_37 : Index := 0#32
  let c0_38 : Index := 0#32
  ![v75.toNat, 0, 0]

def k0_chk56 (v73 : BitVec 32) : Prop :=
  (∀ a, (k0_off69 v73) a + S1x32x256.size a ≤ S22x32x256.size a)
theorem k0_off69_inb : ∀ (v73 : BitVec 32) (k0_hw56 : k0_chk56 v73), ∀ a, (k0_off69 v73) a + S1x32x256.size a ≤ S22x32x256.size a := fun v73 k0_hw56 => k0_hw56

def k0_off70 (v81 : BitVec 32) : Fin 3 → Nat :=
  let c0_i32_40 : BitVec 32 := 0#32
  let v82 : BitVec 32 := Scalar.maxsi v81 c0_i32_40
  let v83 : Index := Scalar.indexCast v82
  let c0_41 : Index := 0#32
  let c0_42 : Index := 0#32
  ![v83.toNat, 0, 0]

def k0_chk57 (v81 : BitVec 32) : Prop :=
  (∀ a, (k0_off70 v81) a + S1x32x256.size a ≤ S22x32x256.size a)
theorem k0_off70_inb : ∀ (v81 : BitVec 32) (k0_hw57 : k0_chk57 v81), ∀ a, (k0_off70 v81) a + S1x32x256.size a ≤ S22x32x256.size a := fun v81 k0_hw57 => k0_hw57

def k0_off71 (v89 : BitVec 32) : Fin 3 → Nat :=
  let c0_i32_44 : BitVec 32 := 0#32
  let v90 : BitVec 32 := Scalar.maxsi v89 c0_i32_44
  let v91 : Index := Scalar.indexCast v90
  let c0_45 : Index := 0#32
  let c0_46 : Index := 0#32
  ![v91.toNat, 0, 0]

def k0_chk58 (v89 : BitVec 32) : Prop :=
  (∀ a, (k0_off71 v89) a + S1x32x256.size a ≤ S22x32x256.size a)
theorem k0_off71_inb : ∀ (v89 : BitVec 32) (k0_hw58 : k0_chk58 v89), ∀ a, (k0_off71 v89) a + S1x32x256.size a ≤ S22x32x256.size a := fun v89 k0_hw58 => k0_hw58

def k0_off72 (v97 : BitVec 32) : Fin 3 → Nat :=
  let c0_i32_48 : BitVec 32 := 0#32
  let v98 : BitVec 32 := Scalar.maxsi v97 c0_i32_48
  let v99 : Index := Scalar.indexCast v98
  let c0_49 : Index := 0#32
  let c0_50 : Index := 0#32
  ![v99.toNat, 0, 0]

def k0_chk59 (v97 : BitVec 32) : Prop :=
  (∀ a, (k0_off72 v97) a + S1x32x256.size a ≤ S22x32x256.size a)
theorem k0_off72_inb : ∀ (v97 : BitVec 32) (k0_hw59 : k0_chk59 v97), ∀ a, (k0_off72 v97) a + S1x32x256.size a ≤ S22x32x256.size a := fun v97 k0_hw59 => k0_hw59

def k0_off73 (v105 : BitVec 32) : Fin 3 → Nat :=
  let c0_i32_52 : BitVec 32 := 0#32
  let v106 : BitVec 32 := Scalar.maxsi v105 c0_i32_52
  let v107 : Index := Scalar.indexCast v106
  let c0_53 : Index := 0#32
  let c0_54 : Index := 0#32
  ![v107.toNat, 0, 0]

def k0_chk60 (v105 : BitVec 32) : Prop :=
  (∀ a, (k0_off73 v105) a + S1x32x256.size a ≤ S22x32x256.size a)
theorem k0_off73_inb : ∀ (v105 : BitVec 32) (k0_hw60 : k0_chk60 v105), ∀ a, (k0_off73 v105) a + S1x32x256.size a ≤ S22x32x256.size a := fun v105 k0_hw60 => k0_hw60

def k0_off74 (v113 : BitVec 32) : Fin 3 → Nat :=
  let c0_i32_56 : BitVec 32 := 0#32
  let v114 : BitVec 32 := Scalar.maxsi v113 c0_i32_56
  let v115 : Index := Scalar.indexCast v114
  let c0_57 : Index := 0#32
  let c0_58 : Index := 0#32
  ![v115.toNat, 0, 0]

def k0_chk61 (v113 : BitVec 32) : Prop :=
  (∀ a, (k0_off74 v113) a + S1x32x256.size a ≤ S22x32x256.size a)
theorem k0_off74_inb : ∀ (v113 : BitVec 32) (k0_hw61 : k0_chk61 v113), ∀ a, (k0_off74 v113) a + S1x32x256.size a ≤ S22x32x256.size a := fun v113 k0_hw61 => k0_hw61

def k0_off75 (v121 : BitVec 32) : Fin 3 → Nat :=
  let c0_i32_60 : BitVec 32 := 0#32
  let v122 : BitVec 32 := Scalar.maxsi v121 c0_i32_60
  let v123 : Index := Scalar.indexCast v122
  let c0_61 : Index := 0#32
  let c0_62 : Index := 0#32
  ![v123.toNat, 0, 0]

def k0_chk62 (v121 : BitVec 32) : Prop :=
  (∀ a, (k0_off75 v121) a + S1x32x256.size a ≤ S22x32x256.size a)
theorem k0_off75_inb : ∀ (v121 : BitVec 32) (k0_hw62 : k0_chk62 v121), ∀ a, (k0_off75 v121) a + S1x32x256.size a ≤ S22x32x256.size a := fun v121 k0_hw62 => k0_hw62

def k0_off76 (v129 : BitVec 32) : Fin 3 → Nat :=
  let c0_i32_64 : BitVec 32 := 0#32
  let v130 : BitVec 32 := Scalar.maxsi v129 c0_i32_64
  let v131 : Index := Scalar.indexCast v130
  let c0_65 : Index := 0#32
  let c0_66 : Index := 0#32
  ![v131.toNat, 0, 0]

def k0_chk63 (v129 : BitVec 32) : Prop :=
  (∀ a, (k0_off76 v129) a + S1x32x256.size a ≤ S22x32x256.size a)
theorem k0_off76_inb : ∀ (v129 : BitVec 32) (k0_hw63 : k0_chk63 v129), ∀ a, (k0_off76 v129) a + S1x32x256.size a ≤ S22x32x256.size a := fun v129 k0_hw63 => k0_hw63

def k0_off77 (v137 : BitVec 32) : Fin 3 → Nat :=
  let c0_i32_68 : BitVec 32 := 0#32
  let v138 : BitVec 32 := Scalar.maxsi v137 c0_i32_68
  let v139 : Index := Scalar.indexCast v138
  let c0_69 : Index := 0#32
  let c0_70 : Index := 0#32
  ![v139.toNat, 0, 0]

def k0_chk64 (v137 : BitVec 32) : Prop :=
  (∀ a, (k0_off77 v137) a + S1x32x256.size a ≤ S22x32x256.size a)
theorem k0_off77_inb : ∀ (v137 : BitVec 32) (k0_hw64 : k0_chk64 v137), ∀ a, (k0_off77 v137) a + S1x32x256.size a ≤ S22x32x256.size a := fun v137 k0_hw64 => k0_hw64

def k0_off78 (i : grid0.Coords) : Fin 2 → Nat :=
  let c0_74 : Index := 0#32
  let arg1 : BitVec 32 := BitVec.ofNat 32 (i 1).val
  let c256_i32_4 : BitVec 32 := 256#32
  let v12 : BitVec 32 := Scalar.muli arg1 c256_i32_4
  let v13 : BitVec 32 := v12
  let v146 : Index := Scalar.indexCast v13
  ![0, v146.toNat]
def k0_off79 (v156 : BitVec 32) : Fin 2 → Nat :=
  let c0_i32_83 : BitVec 32 := 0#32
  let v157 : BitVec 32 := Scalar.maxsi v156 c0_i32_83
  let v158 : Index := Scalar.indexCast v157
  let c0_84 : Index := 0#32
  ![v158.toNat, 0]

def k0_chk65 (v156 : BitVec 32) : Prop :=
  (∀ a, (k0_off79 v156) a + S1x256.size a ≤ S22x256.size a)
theorem k0_off79_inb : ∀ (v156 : BitVec 32) (k0_hw65 : k0_chk65 v156), ∀ a, (k0_off79 v156) a + S1x256.size a ≤ S22x256.size a := fun v156 k0_hw65 => k0_hw65

def k0_off80 (v168 : BitVec 32) : Fin 2 → Nat :=
  let c0_i32_87 : BitVec 32 := 0#32
  let v169 : BitVec 32 := Scalar.maxsi v168 c0_i32_87
  let v170 : Index := Scalar.indexCast v169
  let c0_88 : Index := 0#32
  ![v170.toNat, 0]

def k0_chk66 (v168 : BitVec 32) : Prop :=
  (∀ a, (k0_off80 v168) a + S1x256.size a ≤ S22x256.size a)
theorem k0_off80_inb : ∀ (v168 : BitVec 32) (k0_hw66 : k0_chk66 v168), ∀ a, (k0_off80 v168) a + S1x256.size a ≤ S22x256.size a := fun v168 k0_hw66 => k0_hw66

def k0_off81 (v180 : BitVec 32) : Fin 2 → Nat :=
  let c0_i32_91 : BitVec 32 := 0#32
  let v181 : BitVec 32 := Scalar.maxsi v180 c0_i32_91
  let v182 : Index := Scalar.indexCast v181
  let c0_92 : Index := 0#32
  ![v182.toNat, 0]

def k0_chk67 (v180 : BitVec 32) : Prop :=
  (∀ a, (k0_off81 v180) a + S1x256.size a ≤ S22x256.size a)
theorem k0_off81_inb : ∀ (v180 : BitVec 32) (k0_hw67 : k0_chk67 v180), ∀ a, (k0_off81 v180) a + S1x256.size a ≤ S22x256.size a := fun v180 k0_hw67 => k0_hw67

def k0_off82 (v192 : BitVec 32) : Fin 2 → Nat :=
  let c0_i32_95 : BitVec 32 := 0#32
  let v193 : BitVec 32 := Scalar.maxsi v192 c0_i32_95
  let v194 : Index := Scalar.indexCast v193
  let c0_96 : Index := 0#32
  ![v194.toNat, 0]

def k0_chk68 (v192 : BitVec 32) : Prop :=
  (∀ a, (k0_off82 v192) a + S1x256.size a ≤ S22x256.size a)
theorem k0_off82_inb : ∀ (v192 : BitVec 32) (k0_hw68 : k0_chk68 v192), ∀ a, (k0_off82 v192) a + S1x256.size a ≤ S22x256.size a := fun v192 k0_hw68 => k0_hw68

def k0_off83 (v204 : BitVec 32) : Fin 2 → Nat :=
  let c0_i32_99 : BitVec 32 := 0#32
  let v205 : BitVec 32 := Scalar.maxsi v204 c0_i32_99
  let v206 : Index := Scalar.indexCast v205
  let c0_100 : Index := 0#32
  ![v206.toNat, 0]

def k0_chk69 (v204 : BitVec 32) : Prop :=
  (∀ a, (k0_off83 v204) a + S1x256.size a ≤ S22x256.size a)
theorem k0_off83_inb : ∀ (v204 : BitVec 32) (k0_hw69 : k0_chk69 v204), ∀ a, (k0_off83 v204) a + S1x256.size a ≤ S22x256.size a := fun v204 k0_hw69 => k0_hw69

def k0_off84 (v216 : BitVec 32) : Fin 2 → Nat :=
  let c0_i32_103 : BitVec 32 := 0#32
  let v217 : BitVec 32 := Scalar.maxsi v216 c0_i32_103
  let v218 : Index := Scalar.indexCast v217
  let c0_104 : Index := 0#32
  ![v218.toNat, 0]

def k0_chk70 (v216 : BitVec 32) : Prop :=
  (∀ a, (k0_off84 v216) a + S1x256.size a ≤ S22x256.size a)
theorem k0_off84_inb : ∀ (v216 : BitVec 32) (k0_hw70 : k0_chk70 v216), ∀ a, (k0_off84 v216) a + S1x256.size a ≤ S22x256.size a := fun v216 k0_hw70 => k0_hw70

def k0_off85 (v228 : BitVec 32) : Fin 2 → Nat :=
  let c0_i32_107 : BitVec 32 := 0#32
  let v229 : BitVec 32 := Scalar.maxsi v228 c0_i32_107
  let v230 : Index := Scalar.indexCast v229
  let c0_108 : Index := 0#32
  ![v230.toNat, 0]

def k0_chk71 (v228 : BitVec 32) : Prop :=
  (∀ a, (k0_off85 v228) a + S1x256.size a ≤ S22x256.size a)
theorem k0_off85_inb : ∀ (v228 : BitVec 32) (k0_hw71 : k0_chk71 v228), ∀ a, (k0_off85 v228) a + S1x256.size a ≤ S22x256.size a := fun v228 k0_hw71 => k0_hw71

def k0_off86 (v240 : BitVec 32) : Fin 2 → Nat :=
  let c0_i32_111 : BitVec 32 := 0#32
  let v241 : BitVec 32 := Scalar.maxsi v240 c0_i32_111
  let v242 : Index := Scalar.indexCast v241
  let c0_112 : Index := 0#32
  ![v242.toNat, 0]

def k0_chk72 (v240 : BitVec 32) : Prop :=
  (∀ a, (k0_off86 v240) a + S1x256.size a ≤ S22x256.size a)
theorem k0_off86_inb : ∀ (v240 : BitVec 32) (k0_hw72 : k0_chk72 v240), ∀ a, (k0_off86 v240) a + S1x256.size a ≤ S22x256.size a := fun v240 k0_hw72 => k0_hw72

def k0_off87 (v252 : BitVec 32) : Fin 2 → Nat :=
  let c0_i32_115 : BitVec 32 := 0#32
  let v253 : BitVec 32 := Scalar.maxsi v252 c0_i32_115
  let v254 : Index := Scalar.indexCast v253
  let c0_116 : Index := 0#32
  ![v254.toNat, 0]

def k0_chk73 (v252 : BitVec 32) : Prop :=
  (∀ a, (k0_off87 v252) a + S1x256.size a ≤ S22x256.size a)
theorem k0_off87_inb : ∀ (v252 : BitVec 32) (k0_hw73 : k0_chk73 v252), ∀ a, (k0_off87 v252) a + S1x256.size a ≤ S22x256.size a := fun v252 k0_hw73 => k0_hw73

def k0_off88 (v264 : BitVec 32) : Fin 2 → Nat :=
  let c0_i32_119 : BitVec 32 := 0#32
  let v265 : BitVec 32 := Scalar.maxsi v264 c0_i32_119
  let v266 : Index := Scalar.indexCast v265
  let c0_120 : Index := 0#32
  ![v266.toNat, 0]

def k0_chk74 (v264 : BitVec 32) : Prop :=
  (∀ a, (k0_off88 v264) a + S1x256.size a ≤ S22x256.size a)
theorem k0_off88_inb : ∀ (v264 : BitVec 32) (k0_hw74 : k0_chk74 v264), ∀ a, (k0_off88 v264) a + S1x256.size a ≤ S22x256.size a := fun v264 k0_hw74 => k0_hw74

def k0_off89 (v276 : BitVec 32) : Fin 2 → Nat :=
  let c0_i32_123 : BitVec 32 := 0#32
  let v277 : BitVec 32 := Scalar.maxsi v276 c0_i32_123
  let v278 : Index := Scalar.indexCast v277
  let c0_124 : Index := 0#32
  ![v278.toNat, 0]

def k0_chk75 (v276 : BitVec 32) : Prop :=
  (∀ a, (k0_off89 v276) a + S1x256.size a ≤ S22x256.size a)
theorem k0_off89_inb : ∀ (v276 : BitVec 32) (k0_hw75 : k0_chk75 v276), ∀ a, (k0_off89 v276) a + S1x256.size a ≤ S22x256.size a := fun v276 k0_hw75 => k0_hw75

def k0_off90 (v288 : BitVec 32) : Fin 2 → Nat :=
  let c0_i32_127 : BitVec 32 := 0#32
  let v289 : BitVec 32 := Scalar.maxsi v288 c0_i32_127
  let v290 : Index := Scalar.indexCast v289
  let c0_128 : Index := 0#32
  ![v290.toNat, 0]

def k0_chk76 (v288 : BitVec 32) : Prop :=
  (∀ a, (k0_off90 v288) a + S1x256.size a ≤ S22x256.size a)
theorem k0_off90_inb : ∀ (v288 : BitVec 32) (k0_hw76 : k0_chk76 v288), ∀ a, (k0_off90 v288) a + S1x256.size a ≤ S22x256.size a := fun v288 k0_hw76 => k0_hw76

def k0_off91 (v300 : BitVec 32) : Fin 2 → Nat :=
  let c0_i32_131 : BitVec 32 := 0#32
  let v301 : BitVec 32 := Scalar.maxsi v300 c0_i32_131
  let v302 : Index := Scalar.indexCast v301
  let c0_132 : Index := 0#32
  ![v302.toNat, 0]

def k0_chk77 (v300 : BitVec 32) : Prop :=
  (∀ a, (k0_off91 v300) a + S1x256.size a ≤ S22x256.size a)
theorem k0_off91_inb : ∀ (v300 : BitVec 32) (k0_hw77 : k0_chk77 v300), ∀ a, (k0_off91 v300) a + S1x256.size a ≤ S22x256.size a := fun v300 k0_hw77 => k0_hw77

def k0_off92 (v312 : BitVec 32) : Fin 2 → Nat :=
  let c0_i32_135 : BitVec 32 := 0#32
  let v313 : BitVec 32 := Scalar.maxsi v312 c0_i32_135
  let v314 : Index := Scalar.indexCast v313
  let c0_136 : Index := 0#32
  ![v314.toNat, 0]

def k0_chk78 (v312 : BitVec 32) : Prop :=
  (∀ a, (k0_off92 v312) a + S1x256.size a ≤ S22x256.size a)
theorem k0_off92_inb : ∀ (v312 : BitVec 32) (k0_hw78 : k0_chk78 v312), ∀ a, (k0_off92 v312) a + S1x256.size a ≤ S22x256.size a := fun v312 k0_hw78 => k0_hw78

def k0_off93 (v324 : BitVec 32) : Fin 2 → Nat :=
  let c0_i32_139 : BitVec 32 := 0#32
  let v325 : BitVec 32 := Scalar.maxsi v324 c0_i32_139
  let v326 : Index := Scalar.indexCast v325
  let c0_140 : Index := 0#32
  ![v326.toNat, 0]

def k0_chk79 (v324 : BitVec 32) : Prop :=
  (∀ a, (k0_off93 v324) a + S1x256.size a ≤ S22x256.size a)
theorem k0_off93_inb : ∀ (v324 : BitVec 32) (k0_hw79 : k0_chk79 v324), ∀ a, (k0_off93 v324) a + S1x256.size a ≤ S22x256.size a := fun v324 k0_hw79 => k0_hw79

def k0_off94 (v336 : BitVec 32) : Fin 2 → Nat :=
  let c0_i32_143 : BitVec 32 := 0#32
  let v337 : BitVec 32 := Scalar.maxsi v336 c0_i32_143
  let v338 : Index := Scalar.indexCast v337
  let c0_144 : Index := 0#32
  ![v338.toNat, 0]

def k0_chk80 (v336 : BitVec 32) : Prop :=
  (∀ a, (k0_off94 v336) a + S1x256.size a ≤ S22x256.size a)
theorem k0_off94_inb : ∀ (v336 : BitVec 32) (k0_hw80 : k0_chk80 v336), ∀ a, (k0_off94 v336) a + S1x256.size a ≤ S22x256.size a := fun v336 k0_hw80 => k0_hw80

def k0_off95 (i : grid0.Coords) : Fin 2 → Nat :=
  let c0_151 : Index := 0#32
  let arg1 : BitVec 32 := BitVec.ofNat 32 (i 1).val
  let c256_i32_4 : BitVec 32 := 256#32
  let v12 : BitVec 32 := Scalar.muli arg1 c256_i32_4
  let v13 : BitVec 32 := v12
  let v353 : Index := Scalar.indexCast v13
  ![0, v353.toNat]
def k0_cond4 (i : grid0.Coords) : BitVec 1 :=
  let arg1 : BitVec 32 := BitVec.ofNat 32 (i 1).val
  let c34_i32 : BitVec 32 := 34#32
  let v366 : BitVec 1 := Scalar.cmpi .eq arg1 c34_i32
  let v367 : BitVec 32 := Scalar.extui v366
  let c0_i32_156 : BitVec 32 := 0#32
  let v368 : BitVec 1 := Scalar.cmpi .ne v367 c0_i32_156
  v368

@[reducible] def k0_t1_loop : Scf.Loop 32 :=
  let c0_i32_176 : BitVec 32 := 0#32
  let c35_i32 : BitVec 32 := 35#32
  let v422 : BitVec 32 := Scalar.addi c0_i32_176 c35_i32
  let c1_i32_177 : BitVec 32 := 1#32
  ⟨c0_i32_176, v422, c1_i32_177⟩
def k0_mult2 (k0_t1 : Fin k0_t1_loop.trips) : BitVec 32 :=
  let c0_i32_180 : BitVec 32 := 0#32
  let c0_i32_176 : BitVec 32 := 0#32
  let c1_i32_177 : BitVec 32 := 1#32
  let arg28 : BitVec 32 := Scf.iv c0_i32_176 c1_i32_177 k0_t1
  let c1_i32_179 : BitVec 32 := 1#32
  let v423 : BitVec 32 := Scalar.muli arg28 c1_i32_179
  let v424 : BitVec 32 := Scalar.addi c0_i32_180 v423
  let c256_i32_181 : BitVec 32 := 256#32
  let v425 : BitVec 32 := Scalar.muli v424 c256_i32_181
  v425
def k0_off96 (k0_t1 : Fin k0_t1_loop.trips) : Fin 2 → Nat :=
  let c0_182 : Index := 0#32
  let c0_i32_180 : BitVec 32 := 0#32
  let c0_i32_176 : BitVec 32 := 0#32
  let c1_i32_177 : BitVec 32 := 1#32
  let arg28 : BitVec 32 := Scf.iv c0_i32_176 c1_i32_177 k0_t1
  let c1_i32_179 : BitVec 32 := 1#32
  let v423 : BitVec 32 := Scalar.muli arg28 c1_i32_179
  let v424 : BitVec 32 := Scalar.addi c0_i32_180 v423
  let c256_i32_181 : BitVec 32 := 256#32
  let v425 : BitVec 32 := Scalar.muli v424 c256_i32_181
  let v426 : BitVec 32 := v425
  let v427 : Index := Scalar.indexCast v426
  ![0, v427.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c34_i32 : BitVec 32 := 34#32
  let v1 : BitVec 32 := Scalar.select v0 arg1 c34_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c34_i32 : BitVec 32 := 34#32
  let v1 : BitVec 32 := Scalar.select v0 arg1 c34_i32
  let c0_i32_0 : BitVec 32 := 0#32
  let c0_i32_1 : BitVec 32 := 0#32
  ![c0_i32_0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S192x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S12x1120 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S12x256 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S22x1536x32 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S22x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S22x32x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S22x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .smem S22 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x32 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x2x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S256x8960 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, false]

abbrev stage0_15 : Fin 2 → Memref sig .tc .vmem S1x2x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== ReferenceIdeal.lean ====
abbrev S1024x1536 : Shape := ⟨2, ![1024, 1536]⟩
abbrev S192x8960 : Shape := ⟨2, ![192, 8960]⟩
abbrev S12x1120 : Shape := ⟨2, ![12, 1120]⟩
abbrev S12x8960 : Shape := ⟨2, ![12, 8960]⟩
abbrev S22x1536x32 : Shape := ⟨3, ![22, 1536, 32]⟩
abbrev S22x32 : Shape := ⟨2, ![22, 32]⟩
abbrev S22x32x8960 : Shape := ⟨3, ![22, 32, 8960]⟩
abbrev S22x8960 : Shape := ⟨2, ![22, 8960]⟩
abbrev S22 : Shape := ⟨1, ![22]⟩
abbrev S17 : Shape := ⟨1, ![17]⟩
abbrev S16 : Shape := ⟨1, ![16]⟩
abbrev S1024x8960 : Shape := ⟨2, ![1024, 8960]⟩
abbrev S1024x32 : Shape := ⟨2, ![1024, 32]⟩
abbrev S4x2x128 : Shape := ⟨3, ![4, 2, 128]⟩
abbrev S192x8x8960 : Shape := ⟨3, ![192, 8, 8960]⟩
abbrev S192x1x8960 : Shape := ⟨3, ![192, 1, 8960]⟩
abbrev S1536x8960 : Shape := ⟨2, ![1536, 8960]⟩
abbrev S12x1120x8 : Shape := ⟨3, ![12, 1120, 8]⟩
abbrev S12x1120x1 : Shape := ⟨3, ![12, 1120, 1]⟩
abbrev S12x1x8960 : Shape := ⟨3, ![12, 1, 8960]⟩
abbrev S12x128x8960 : Shape := ⟨3, ![12, 128, 8960]⟩
abbrev S1024x1 : Shape := ⟨2, ![1024, 1]⟩
abbrev S1 : Shape := ⟨1, ![1]⟩
abbrev S1x1536x32 : Shape := ⟨3, ![1, 1536, 32]⟩
abbrev S1536x32 : Shape := ⟨2, ![1536, 32]⟩
abbrev S1x32 : Shape := ⟨2, ![1, 32]⟩
abbrev S1024 : Shape := ⟨1, ![1024]⟩
abbrev S1x246 : Shape := ⟨2, ![1, 246]⟩
abbrev S1024x246 : Shape := ⟨2, ![1024, 246]⟩
abbrev S1x32x8960 : Shape := ⟨3, ![1, 32, 8960]⟩
abbrev S32x8960 : Shape := ⟨2, ![32, 8960]⟩
abbrev S1x8960 : Shape := ⟨2, ![1, 8960]⟩

abbrev nBuf : Space → Nat
  | .hbm => 18
  | .vmem => 15
  | .smem => 3
  | _ => 0

abbrev bufTy : (tb : Table) → Fin (tcTables nBuf tb) → BufTy
  | .hbm, ⟨0, _⟩ => ⟨S1024x1536, .bf16⟩
  | .hbm, ⟨1, _⟩ => ⟨S192x8960, .i32⟩
  | .hbm, ⟨2, _⟩ => ⟨S12x1120, .i32⟩
  | .hbm, ⟨3, _⟩ => ⟨S12x8960, .i16⟩
  | .hbm, ⟨4, _⟩ => ⟨S22x1536x32, .fp8e4m3⟩
  | .hbm, ⟨5, _⟩ => ⟨S22x32, .f32⟩
  | .hbm, ⟨6, _⟩ => ⟨S22x32x8960, .fp8e4m3⟩
  | .hbm, ⟨7, _⟩ => ⟨S22x8960, .f32⟩
  | .hbm, ⟨8, _⟩ => ⟨S22, .f32⟩
  | .hbm, ⟨9, _⟩ => ⟨S17, .i32⟩
  | .hbm, ⟨10, _⟩ => ⟨S16, .i32⟩
  | .hbm, ⟨11, _⟩ => ⟨S1024x8960, .bf16⟩
  | .hbm, ⟨12, _⟩ => ⟨S1024x32, .f32⟩
  | .hbm, ⟨13, _⟩ => ⟨S1024x8960, .f32⟩
  | .hbm, ⟨14, _⟩ => ⟨S1024x32, .fp8e4m3⟩
  | .hbm, ⟨15, _⟩ => ⟨S4x2x128, .f32⟩
  | .hbm, ⟨16, _⟩ => ⟨S1024x8960, .fp8e4m3⟩
  | .hbm, ⟨17, _⟩ => ⟨S4x2x128, .f32⟩
  | .local _ .vmem, ⟨0, _⟩ => ⟨S1024x1536, .bf16⟩
  | .local _ .vmem, ⟨1, _⟩ => ⟨S192x8960, .i32⟩
  | .local _ .vmem, ⟨2, _⟩ => ⟨S12x1120, .i32⟩
  | .local _ .vmem, ⟨3, _⟩ => ⟨S12x8960, .i16⟩
  | .local _ .vmem, ⟨4, _⟩ => ⟨S22x1536x32, .fp8e4m3⟩
  | .local _ .vmem, ⟨5, _⟩ => ⟨S22x32, .f32⟩
  | .local _ .vmem, ⟨6, _⟩ => ⟨S22x32x8960, .fp8e4m3⟩
  | .local _ .vmem, ⟨7, _⟩ => ⟨S22x8960, .f32⟩
  | .local _ .vmem, ⟨8, _⟩ => ⟨S1024x8960, .bf16⟩
  | .local _ .vmem, ⟨9, _⟩ => ⟨S1024x32, .f32⟩
  | .local _ .vmem, ⟨10, _⟩ => ⟨S1024x8960, .f32⟩
  | .local _ .vmem, ⟨11, _⟩ => ⟨S1024x32, .fp8e4m3⟩
  | .local _ .vmem, ⟨12, _⟩ => ⟨S4x2x128, .f32⟩
  | .local _ .vmem, ⟨13, _⟩ => ⟨S1024x8960, .fp8e4m3⟩
  | .local _ .vmem, ⟨14, _⟩ => ⟨S4x2x128, .f32⟩
  | .local _ .smem, ⟨0, _⟩ => ⟨S22, .f32⟩
  | .local _ .smem, ⟨1, _⟩ => ⟨S17, .i32⟩
  | .local _ .smem, ⟨2, _⟩ => ⟨S16, .i32⟩
  | _, _ => ⟨S1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg11_0 : Ref sig .tc := ⟨.vmem, 8, rfl⟩
abbrev cc0_stg12_0 : Ref sig .tc := ⟨.vmem, 9, rfl⟩
abbrev cc0_stg13_0 : Ref sig .tc := ⟨.vmem, 10, rfl⟩
abbrev cc0_stg14_0 : Ref sig .tc := ⟨.vmem, 11, rfl⟩
abbrev cc0_stg15_0 : Ref sig .tc := ⟨.vmem, 12, rfl⟩
abbrev cc0_stg16_0 : Ref sig .tc := ⟨.vmem, 13, rfl⟩
abbrev cc0_stg17_0 : Ref sig .tc := ⟨.vmem, 14, rfl⟩
abbrev cc0_stg8_0 : Ref sig .tc := ⟨.smem, 0, rfl⟩
abbrev cc0_stg9_0 : Ref sig .tc := ⟨.smem, 1, rfl⟩
abbrev cc0_stg10_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S1024x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x8960 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x1120 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x8960 .i16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S22x1536x32 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S22x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S22x32x8960 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S22x8960 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S22 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S17 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S16 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x8960 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1024x8960 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1024x32 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x2x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x8960 .fp8e4m3 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x2x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== Proof.Adapters.lean ====
module

public import proofs.«01_k».proof.Proof.Gen.Pre_adapters

/-! What the precondition says of the adapter table. -/

@[expose] public section

namespace Cert.Adapters

open Idealize.ShloMosaic

variable {F : FTy → Type} [FloatOps F]

/-- A bit made of a truth value is one only of truth. -/
theorem ofBool_eq_one {b : Bool} (h : BitVec.ofBool b = 1#1) : b = true := by
  cases b
  · exact absurd h (by decide)
  · rfl

section
variable (a0 : FVec F Cert.Pre_adapters.S1024x1536 .bf16) (a1 : IVec Cert.Pre_adapters.S192x8960 32)
  (a2 : IVec Cert.Pre_adapters.S12x1120 32) (a3 : IVec Cert.Pre_adapters.S12x8960 16)
  (a4 : FVec F Cert.Pre_adapters.S22x1536x32 .fp8e4m3) (a5 : FVec F Cert.Pre_adapters.S22x32 .f32)
  (a6 : FVec F Cert.Pre_adapters.S22x32x8960 .fp8e4m3) (a7 : FVec F Cert.Pre_adapters.S22x8960 .f32)
  (a8 : FVec F Cert.Pre_adapters.S22 .f32) (a9 : IVec Cert.Pre_adapters.S17 32) (a10 : IVec Cert.Pre_adapters.S16 32)

/-- Each segment's adapter word is below 22. -/
theorem adapter_lt (h : (Cert.Pre_adapters.fn (F := F) a0 a1 a2 a3 a4 a5 a6 a7 a8 a9 a10) = fun _ => 1#1)
    (j : Cert.Pre_adapters.S16.Idx) : (a10 j).toInt < 22 := by
  have e : BitVec.ofBool ((a10 j).slt 22#32) = 1#1 := congrFun h j
  have := ofBool_eq_one e
  simpa [BitVec.slt] using this
end

end Cert.Adapters
-- ==== Proof.K.Points.lean ====
module

public import proofs.«01_k».proof.Proof.Gen.Kernel
public import Idealize.ShloMosaic.Lib.Pipeline.Kit

/-! The schedule of the pallas_call on its grid: at which points each window is fetched and written back, the staging
memrefs at a point, and the kernel body as the pipeline calls it there. -/

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at the points ≡ 0 (mod 35), at any contents of the tables (its index map reads none). -/
theorem fetch0_0 (a : (pcfg0 (F := F)).Adm) : ∀ t : Fin (cfg0 a).N, ((cfg0 a).win 0).fetch t = true ↔ t.val % 35 = 0 :=
  (fun t => Pipeline.Window.fetchOf_reads cc0_transform_0 reads0_0 hreads0_0 0 (by decide) (by decide) (Pipeline.Window.sep_of_coord cc0_transform_0 0 0 (fun _ => rfl) (by decide)) (P := 35) (by decide) t : ∀ t : Fin grid0.N, Pipeline.Window.fetchOf grid0 false cc0_transform_0 t = true ↔ t.val % 35 = 0)
-- window 1 is fetched at points [0, 1, 2, 3, 4, 5, 6, 7, 8, 9, 10, 11]…: no closed form stated
/-- Window 2 (operand 4 (%arg2)) is fetched at the first point only, at any contents of the tables (its index map reads none). -/
theorem fetch0_2 (a : (pcfg0 (F := F)).Adm) : ∀ t : Fin (cfg0 a).N, ((cfg0 a).win 2).fetch t = true ↔ t.val % 140 = 0 :=
  (fun t => Pipeline.Window.fetchOf_const cc0_transform_2 (fun _ _ => rfl) (n := 140) (by decide) t : ∀ t : Fin grid0.N, Pipeline.Window.fetchOf grid0 false cc0_transform_2 t = true ↔ t.val % 140 = 0)
-- window 3 is fetched at points [0, 1, 2, 3, 4, 5, 6, 7, 8, 9, 10, 11]…: no closed form stated
/-- Window 4 (operand 6 (%arg4)) is fetched at the first point only, at any contents of the tables (its index map reads none). -/
theorem fetch0_4 (a : (pcfg0 (F := F)).Adm) : ∀ t : Fin (cfg0 a).N, ((cfg0 a).win 4).fetch t = true ↔ t.val % 140 = 0 :=
  (fun t => Pipeline.Window.fetchOf_const cc0_transform_4 (fun _ _ => rfl) (n := 140) (by decide) t : ∀ t : Fin grid0.N, Pipeline.Window.fetchOf grid0 false cc0_transform_4 t = true ↔ t.val % 140 = 0)
/-- Window 5 (operand 7 (%arg5)) is fetched at the first point only, at any contents of the tables (its index map reads none). -/
theorem fetch0_5 (a : (pcfg0 (F := F)).Adm) : ∀ t : Fin (cfg0 a).N, ((cfg0 a).win 5).fetch t = true ↔ t.val % 140 = 0 :=
  (fun t => Pipeline.Window.fetchOf_const cc0_transform_5 (fun _ _ => rfl) (n := 140) (by decide) t : ∀ t : Fin grid0.N, Pipeline.Window.fetchOf grid0 false cc0_transform_5 t = true ↔ t.val % 140 = 0)
/-- Window 6 (operand 8 (%arg6)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 2 (fun _ => rfl) (by decide)) (P := 1) (by decide) t).mpr (Nat.mod_one _) : ∀ t : Fin grid0.N, Pipeline.Window.fetchOf grid0 false cc0_transform_6 t = true)
/-- Window 7 (operand 9 (%arg7)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 1 (by decide) (by decide) (Pipeline.Window.sep_of_coord cc0_transform_7 1 1 (fun _ => rfl) (by decide)) (P := 1) (by decide) t).mpr (Nat.mod_one _) : ∀ t : Fin grid0.N, Pipeline.Window.fetchOf grid0 false cc0_transform_7 t = true)
/-- Window 8 (operand 10 (%arg8)) is fetched at the first point only, at any contents of the tables (its index map reads none). -/
theorem fetch0_8 (a : (pcfg0 (F := F)).Adm) : ∀ t : Fin (cfg0 a).N, ((cfg0 a).win 8).fetch t = true ↔ t.val % 140 = 0 :=
  (fun t => Pipeline.Window.fetchOf_const cc0_transform_8 (fun _ _ => rfl) (n := 140) (by decide) t : ∀ t : Fin grid0.N, Pipeline.Window.fetchOf grid0 false cc0_transform_8 t = true ↔ t.val % 140 = 0)
/-- Window 9 (result 0 (%0#0)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 1 (fun _ => rfl) (by decide)) (P := 1) (m := 0) (by decide) rfl t).mpr (Nat.mod_one _) : ∀ t : Fin grid0.N, Pipeline.Window.flushOf grid0 true cc0_transform_9 t = true)
/-- Window 10 (result 1 (%0#1)) is written back at the points ≡ 34 (mod 35), at any contents of the tables (its index map reads none). -/
theorem flush0_10 (a : (pcfg0 (F := F)).Adm) : ∀ t : Fin (cfg0 a).N, ((cfg0 a).win 10).flush t = true ↔ t.val % 35 = 34 :=
  (fun t => Pipeline.Window.flushOf_reads cc0_transform_10 reads0_10 hreads0_10 0 (by decide) (by decide) (Pipeline.Window.sep_of_coord cc0_transform_10 0 0 (fun _ => rfl) (by decide)) (P := 35) (m := 34) (by decide) rfl t : ∀ t : Fin grid0.N, Pipeline.Window.flushOf grid0 true cc0_transform_10 t = true ↔ t.val % 35 = 34)
/-- Window 11 (result 2 (%0#2)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 1 (fun _ => rfl) (by decide)) (P := 1) (m := 0) (by decide) rfl t).mpr (Nat.mod_one _) : ∀ t : Fin grid0.N, Pipeline.Window.flushOf grid0 true cc0_transform_11 t = true)
/-- Window 12 (result 3 (%0#3)) is written back at the points ≡ 34 (mod 35), at any contents of the tables (its index map reads none). -/
theorem flush0_12 (a : (pcfg0 (F := F)).Adm) : ∀ t : Fin (cfg0 a).N, ((cfg0 a).win 12).flush t = true ↔ t.val % 35 = 34 :=
  (fun t => Pipeline.Window.flushOf_reads cc0_transform_12 reads0_12 hreads0_12 0 (by decide) (by decide) (Pipeline.Window.sep_of_coord cc0_transform_12 0 0 (fun _ => rfl) (by decide)) (P := 35) (m := 34) (by decide) rfl t : ∀ t : Fin grid0.N, Pipeline.Window.flushOf grid0 true cc0_transform_12 t = true ↔ t.val % 35 = 34)
/-- Window 13 (result 4 (%0#4)) is written back at the points ≡ 34 (mod 35), at any contents of the tables (its index map reads none). -/
theorem flush0_13 (a : (pcfg0 (F := F)).Adm) : ∀ t : Fin (cfg0 a).N, ((cfg0 a).win 13).flush t = true ↔ t.val % 35 = 34 :=
  (fun t => Pipeline.Window.flushOf_reads cc0_transform_13 reads0_13 hreads0_13 0 (by decide) (by decide) (Pipeline.Window.sep_of_coord cc0_transform_13 0 0 (fun _ => rfl) (by decide)) (P := 35) (m := 34) (by decide) rfl t : ∀ t : Fin grid0.N, Pipeline.Window.flushOf grid0 true cc0_transform_13 t = true ↔ t.val % 35 = 34)
/-- Window 14 (result 5 (%0#5)) is written back at the points ≡ 34 (mod 35), at any contents of the tables (its index map reads none). -/
theorem flush0_14 (a : (pcfg0 (F := F)).Adm) : ∀ t : Fin (cfg0 a).N, ((cfg0 a).win 14).flush t = true ↔ t.val % 35 = 34 :=
  (fun t => Pipeline.Window.flushOf_reads cc0_transform_14 reads0_14 hreads0_14 0 (by decide) (by decide) (Pipeline.Window.sep_of_coord cc0_transform_14 0 0 (fun _ => rfl) (by decide)) (P := 35) (m := 34) (by decide) rfl t : ∀ t : Fin grid0.N, Pipeline.Window.flushOf grid0 true cc0_transform_14 t = true ↔ t.val % 35 = 34)
/-- Window 15 (result 6 (%0#6)) is written back at the points ≡ 34 (mod 35), at any contents of the tables (its index map reads none). -/
theorem flush0_15 (a : (pcfg0 (F := F)).Adm) : ∀ t : Fin (cfg0 a).N, ((cfg0 a).win 15).flush t = true ↔ t.val % 35 = 34 :=
  (fun t => Pipeline.Window.flushOf_reads cc0_transform_15 reads0_15 hreads0_15 0 (by decide) (by decide) (Pipeline.Window.sep_of_coord cc0_transform_15 0 0 (fun _ => rfl) (by decide)) (P := 35) (m := 34) (by decide) rfl t : ∀ t : Fin grid0.N, Pipeline.Window.flushOf grid0 true cc0_transform_15 t = true ↔ t.val % 35 = 34)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_multi_lora (grid0.coords t) (Memref.whole main_arg9) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

end Cert.Kernel.Gen

end
-- ==== Proof.K.Runs.lean ====
module

public import proofs.«01_k».proof.Proof.Gen.Kernel.Launch
public import proofs.«01_k».proof.Proof.Gen.Kernel.Skeleton
public import proofs.«01_k».proof.Proof.K.Points
public import Idealize.ShloMosaic.Lib.Pipeline.FrameBody
public import Idealize.ShloMosaic.Lib.Ring
public import Idealize.ShloMosaic.Lib.Tactic
public import Idealize.ShloMosaic.Lib.WordCmp

/-! What the runs of the kernel body share: the region-entry contents, the prefetched tables, the blocks of the inputs,
the staging and scratch memrefs, and the frame read off a run of the launch. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S17 .i32 := Memref.whole main_arg9
abbrev htbM0_0 : tbM0_0.IsWhole := Memref.isWhole_whole _
abbrev tbM0_1 : Memref sig .tc .smem S16 .i32 := Memref.whole main_arg10
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x1536 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S192x256 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S12x1120 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S12x256 .i16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S22x1536x32 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S22x32 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S22x32x256 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S22x256 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .smem S22 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S256x256 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S256x32 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S256x256 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S256x32 .fp8e4m3 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x2x128 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S256x8960 .fp8e4m3 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x2x128 .f32 := spec0_15.stage ((cfgM m hO).slots t 15)
abbrev hs0_15 (hO : Ok m) (t : Fin (cfgM m hO).N) : (ms0_15 m hO t).IsWhole := hstage0_15 (((cfgM m hO).slots t 15).cast nbuf0_15)
/-- The scratch operands: whole scoped buffers of the kernel's own, passed beside the windows. -/
abbrev scM0_0 : Memref sig .tc .vmem S1536x8960 .bf16 := Memref.whole cc0_scratch0
abbrev scM0_1 : Memref sig .tc .vmem S12x8960 .f32 := Memref.whole cc0_scratch1
abbrev scM0_2 : Memref sig .tc .vmem S1536x512 .bf16 := Memref.whole cc0_scratch2
abbrev scM0_3 : Memref sig .tc .vmem S256x512 .fp8e4m3 := Memref.whole cc0_scratch3
abbrev scM0_4 : Memref sig .tc .vmem S256x128 .f32 := Memref.whole cc0_scratch4
abbrev scM0_5 : Memref sig .tc .vmem S512x256 .fp8e4m3 := Memref.whole cc0_scratch5
abbrev scM0_6 : Memref sig .tc .vmem S256x8960 .f32 := Memref.whole cc0_scratch6
abbrev scM0_7 : Memref sig .tc .vmem S256x128 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.K.Checks.lean ====
module

public import proofs.«01_k».proof.Proof.Gen.Kernel

/-! The side conditions the body assumes of the adapter words it reads: a word below 22 (a signed comparison; a negative
word stands for no adapter and is read as slot 0) addresses a slot of each of the adapters' arrays. -/

@[expose] public section

namespace Cert.Kernel.Gen

open Idealize.ShloMosaic Idealize.ShloMosaic.TcCoe

/-- The slot a word addresses, for a word below 22. -/
theorem slot_lt (v : BitVec 32) (h : v.toInt < 22) : (Scalar.maxsi v 0#32).toNat < 22 := by
  have h0 : (Scalar.maxsi v 0#32) = if (0#32).slt v then v else 0#32 := rfl
  rw [h0]
  split
  · rename_i hs
    have hs' : (0#32).toInt < v.toInt := by simpa [BitVec.slt] using hs
    have h00 : (0#32).toInt = 0 := by decide
    have e := BitVec.toInt_eq_toNat_cond v
    split at e <;> omega
  · decide

theorem chk1_of (i : grid0.Coords) (v : BitVec 32) (h : v.toInt < 22) : k0_chk1 i v := by
  unfold k0_chk1; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk2_of (i : grid0.Coords) (v : BitVec 32) (h : v.toInt < 22) : k0_chk2 i v := by
  unfold k0_chk2; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk3_of (i : grid0.Coords) (v : BitVec 32) (h : v.toInt < 22) : k0_chk3 i v := by
  unfold k0_chk3; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk4_of (i : grid0.Coords) (v : BitVec 32) (h : v.toInt < 22) : k0_chk4 i v := by
  unfold k0_chk4; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk5_of (i : grid0.Coords) (v : BitVec 32) (h : v.toInt < 22) : k0_chk5 i v := by
  unfold k0_chk5; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk6_of (i : grid0.Coords) (v : BitVec 32) (h : v.toInt < 22) : k0_chk6 i v := by
  unfold k0_chk6; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk7_of (i : grid0.Coords) (v : BitVec 32) (h : v.toInt < 22) : k0_chk7 i v := by
  unfold k0_chk7; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk8_of (i : grid0.Coords) (v : BitVec 32) (h : v.toInt < 22) : k0_chk8 i v := by
  unfold k0_chk8; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk9_of (i : grid0.Coords) (v : BitVec 32) (h : v.toInt < 22) : k0_chk9 i v := by
  unfold k0_chk9; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk10_of (i : grid0.Coords) (v : BitVec 32) (h : v.toInt < 22) : k0_chk10 i v := by
  unfold k0_chk10; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk11_of (i : grid0.Coords) (v : BitVec 32) (h : v.toInt < 22) : k0_chk11 i v := by
  unfold k0_chk11; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk12_of (i : grid0.Coords) (v : BitVec 32) (h : v.toInt < 22) : k0_chk12 i v := by
  unfold k0_chk12; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk13_of (i : grid0.Coords) (v : BitVec 32) (h : v.toInt < 22) : k0_chk13 i v := by
  unfold k0_chk13; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk14_of (i : grid0.Coords) (v : BitVec 32) (h : v.toInt < 22) : k0_chk14 i v := by
  unfold k0_chk14; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk15_of (i : grid0.Coords) (v : BitVec 32) (h : v.toInt < 22) : k0_chk15 i v := by
  unfold k0_chk15; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk16_of (i : grid0.Coords) (v : BitVec 32) (h : v.toInt < 22) : k0_chk16 i v := by
  unfold k0_chk16; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk17_of (i : grid0.Coords) (v : BitVec 32) (h : v.toInt < 22) : k0_chk17 i v := by
  unfold k0_chk17; intro _ a
  have hs := slot_lt v h
  match a with
  | ⟨0, _⟩ => exact (by show (Scalar.maxsi v 0#32).toNat + 1 ≤ 22; omega)
  | ⟨1, _⟩ => exact Nat.le_of_eq (Nat.zero_add _)
theorem chk18_of (i : grid0.Coords) (v : BitVec 32) (h : v.toInt < 22) : k0_chk18 i v := by
  unfold k0_chk18; intro _ a
  have hs := slot_lt v h
  match a with
  | ⟨0, _⟩ => exact (by show (Scalar.maxsi v 0#32).toNat + 1 ≤ 22; omega)
  | ⟨1, _⟩ => exact Nat.le_of_eq (Nat.zero_add _)
theorem chk19_of (i : grid0.Coords) (v : BitVec 32) (h : v.toInt < 22) : k0_chk19 i v := by
  unfold k0_chk19; intro _ a
  have hs := slot_lt v h
  match a with
  | ⟨0, _⟩ => exact (by show (Scalar.maxsi v 0#32).toNat + 1 ≤ 22; omega)
  | ⟨1, _⟩ => exact Nat.le_of_eq (Nat.zero_add _)
theorem chk20_of (i : grid0.Coords) (v : BitVec 32) (h : v.toInt < 22) : k0_chk20 i v := by
  unfold k0_chk20; intro _ a
  have hs := slot_lt v h
  match a with
  | ⟨0, _⟩ => exact (by show (Scalar.maxsi v 0#32).toNat + 1 ≤ 22; omega)
  | ⟨1, _⟩ => exact Nat.le_of_eq (Nat.zero_add _)
theorem chk21_of (i : grid0.Coords) (v : BitVec 32) (h : v.toInt < 22) : k0_chk21 i v := by
  unfold k0_chk21; intro _ a
  have hs := slot_lt v h
  match a with
  | ⟨0, _⟩ => exact (by show (Scalar.maxsi v 0#32).toNat + 1 ≤ 22; omega)
  | ⟨1, _⟩ => exact Nat.le_of_eq (Nat.zero_add _)
theorem chk22_of (i : grid0.Coords) (v : BitVec 32) (h : v.toInt < 22) : k0_chk22 i v := by
  unfold k0_chk22; intro _ a
  have hs := slot_lt v h
  match a with
  | ⟨0, _⟩ => exact (by show (Scalar.maxsi v 0#32).toNat + 1 ≤ 22; omega)
  | ⟨1, _⟩ => exact Nat.le_of_eq (Nat.zero_add _)
theorem chk23_of (i : grid0.Coords) (v : BitVec 32) (h : v.toInt < 22) : k0_chk23 i v := by
  unfold k0_chk23; intro _ a
  have hs := slot_lt v h
  match a with
  | ⟨0, _⟩ => exact (by show (Scalar.maxsi v 0#32).toNat + 1 ≤ 22; omega)
  | ⟨1, _⟩ => exact Nat.le_of_eq (Nat.zero_add _)
theorem chk24_of (i : grid0.Coords) (v : BitVec 32) (h : v.toInt < 22) : k0_chk24 i v := by
  unfold k0_chk24; intro _ a
  have hs := slot_lt v h
  match a with
  | ⟨0, _⟩ => exact (by show (Scalar.maxsi v 0#32).toNat + 1 ≤ 22; omega)
  | ⟨1, _⟩ => exact Nat.le_of_eq (Nat.zero_add _)
theorem chk25_of (i : grid0.Coords) (v : BitVec 32) (h : v.toInt < 22) : k0_chk25 i v := by
  unfold k0_chk25; intro _ a
  have hs := slot_lt v h
  match a with
  | ⟨0, _⟩ => exact (by show (Scalar.maxsi v 0#32).toNat + 1 ≤ 22; omega)
  | ⟨1, _⟩ => exact Nat.le_of_eq (Nat.zero_add _)
theorem chk26_of (i : grid0.Coords) (v : BitVec 32) (h : v.toInt < 22) : k0_chk26 i v := by
  unfold k0_chk26; intro _ a
  have hs := slot_lt v h
  match a with
  | ⟨0, _⟩ => exact (by show (Scalar.maxsi v 0#32).toNat + 1 ≤ 22; omega)
  | ⟨1, _⟩ => exact Nat.le_of_eq (Nat.zero_add _)
theorem chk27_of (i : grid0.Coords) (v : BitVec 32) (h : v.toInt < 22) : k0_chk27 i v := by
  unfold k0_chk27; intro _ a
  have hs := slot_lt v h
  match a with
  | ⟨0, _⟩ => exact (by show (Scalar.maxsi v 0#32).toNat + 1 ≤ 22; omega)
  | ⟨1, _⟩ => exact Nat.le_of_eq (Nat.zero_add _)
theorem chk28_of (i : grid0.Coords) (v : BitVec 32) (h : v.toInt < 22) : k0_chk28 i v := by
  unfold k0_chk28; intro _ a
  have hs := slot_lt v h
  match a with
  | ⟨0, _⟩ => exact (by show (Scalar.maxsi v 0#32).toNat + 1 ≤ 22; omega)
  | ⟨1, _⟩ => exact Nat.le_of_eq (Nat.zero_add _)
theorem chk29_of (i : grid0.Coords) (v : BitVec 32) (h : v.toInt < 22) : k0_chk29 i v := by
  unfold k0_chk29; intro _ a
  have hs := slot_lt v h
  match a with
  | ⟨0, _⟩ => exact (by show (Scalar.maxsi v 0#32).toNat + 1 ≤ 22; omega)
  | ⟨1, _⟩ => exact Nat.le_of_eq (Nat.zero_add _)
theorem chk30_of (i : grid0.Coords) (v : BitVec 32) (h : v.toInt < 22) : k0_chk30 i v := by
  unfold k0_chk30; intro _ a
  have hs := slot_lt v h
  match a with
  | ⟨0, _⟩ => exact (by show (Scalar.maxsi v 0#32).toNat + 1 ≤ 22; omega)
  | ⟨1, _⟩ => exact Nat.le_of_eq (Nat.zero_add _)
theorem chk31_of (i : grid0.Coords) (v : BitVec 32) (h : v.toInt < 22) : k0_chk31 i v := by
  unfold k0_chk31; intro _ a
  have hs := slot_lt v h
  match a with
  | ⟨0, _⟩ => exact (by show (Scalar.maxsi v 0#32).toNat + 1 ≤ 22; omega)
  | ⟨1, _⟩ => exact Nat.le_of_eq (Nat.zero_add _)
theorem chk32_of (i : grid0.Coords) (v : BitVec 32) (h : v.toInt < 22) : k0_chk32 i v := by
  unfold k0_chk32; intro _ a
  have hs := slot_lt v h
  match a with
  | ⟨0, _⟩ => exact (by show (Scalar.maxsi v 0#32).toNat + 1 ≤ 22; omega)
  | ⟨1, _⟩ => exact Nat.le_of_eq (Nat.zero_add _)
theorem chk33_of (i : grid0.Coords) (v : BitVec 32) (h : v.toInt < 22) : k0_chk33 i v := by
  unfold k0_chk33; intro _ a
  have hs := slot_lt v h
  match a with
  | ⟨0, _⟩ => exact (by show (Scalar.maxsi v 0#32).toNat + 1 ≤ 22; omega)
theorem chk34_of (i : grid0.Coords) (v : BitVec 32) (h : v.toInt < 22) : k0_chk34 i v := by
  unfold k0_chk34; intro _ a
  have hs := slot_lt v h
  match a with
  | ⟨0, _⟩ => exact (by show (Scalar.maxsi v 0#32).toNat + 1 ≤ 22; omega)
theorem chk35_of (i : grid0.Coords) (v : BitVec 32) (h : v.toInt < 22) : k0_chk35 i v := by
  unfold k0_chk35; intro _ a
  have hs := slot_lt v h
  match a with
  | ⟨0, _⟩ => exact (by show (Scalar.maxsi v 0#32).toNat + 1 ≤ 22; omega)
theorem chk36_of (i : grid0.Coords) (v : BitVec 32) (h : v.toInt < 22) : k0_chk36 i v := by
  unfold k0_chk36; intro _ a
  have hs := slot_lt v h
  match a with
  | ⟨0, _⟩ => exact (by show (Scalar.maxsi v 0#32).toNat + 1 ≤ 22; omega)
theorem chk37_of (i : grid0.Coords) (v : BitVec 32) (h : v.toInt < 22) : k0_chk37 i v := by
  unfold k0_chk37; intro _ a
  have hs := slot_lt v h
  match a with
  | ⟨0, _⟩ => exact (by show (Scalar.maxsi v 0#32).toNat + 1 ≤ 22; omega)
theorem chk38_of (i : grid0.Coords) (v : BitVec 32) (h : v.toInt < 22) : k0_chk38 i v := by
  unfold k0_chk38; intro _ a
  have hs := slot_lt v h
  match a with
  | ⟨0, _⟩ => exact (by show (Scalar.maxsi v 0#32).toNat + 1 ≤ 22; omega)
theorem chk39_of (i : grid0.Coords) (v : BitVec 32) (h : v.toInt < 22) : k0_chk39 i v := by
  unfold k0_chk39; intro _ a
  have hs := slot_lt v h
  match a with
  | ⟨0, _⟩ => exact (by show (Scalar.maxsi v 0#32).toNat + 1 ≤ 22; omega)
theorem chk40_of (i : grid0.Coords) (v : BitVec 32) (h : v.toInt < 22) : k0_chk40 i v := by
  unfold k0_chk40; intro _ a
  have hs := slot_lt v h
  match a with
  | ⟨0, _⟩ => exact (by show (Scalar.maxsi v 0#32).toNat + 1 ≤ 22; omega)
theorem chk41_of (i : grid0.Coords) (v : BitVec 32) (h : v.toInt < 22) : k0_chk41 i v := by
  unfold k0_chk41; intro _ a
  have hs := slot_lt v h
  match a with
  | ⟨0, _⟩ => exact (by show (Scalar.maxsi v 0#32).toNat + 1 ≤ 22; omega)
theorem chk42_of (i : grid0.Coords) (v : BitVec 32) (h : v.toInt < 22) : k0_chk42 i v := by
  unfold k0_chk42; intro _ a
  have hs := slot_lt v h
  match a with
  | ⟨0, _⟩ => exact (by show (Scalar.maxsi v 0#32).toNat + 1 ≤ 22; omega)
theorem chk43_of (i : grid0.Coords) (v : BitVec 32) (h : v.toInt < 22) : k0_chk43 i v := by
  unfold k0_chk43; intro _ a
  have hs := slot_lt v h
  match a with
  | ⟨0, _⟩ => exact (by show (Scalar.maxsi v 0#32).toNat + 1 ≤ 22; omega)
theorem chk44_of (i : grid0.Coords) (v : BitVec 32) (h : v.toInt < 22) : k0_chk44 i v := by
  unfold k0_chk44; intro _ a
  have hs := slot_lt v h
  match a with
  | ⟨0, _⟩ => exact (by show (Scalar.maxsi v 0#32).toNat + 1 ≤ 22; omega)
theorem chk45_of (i : grid0.Coords) (v : BitVec 32) (h : v.toInt < 22) : k0_chk45 i v := by
  unfold k0_chk45; intro _ a
  have hs := slot_lt v h
  match a with
  | ⟨0, _⟩ => exact (by show (Scalar.maxsi v 0#32).toNat + 1 ≤ 22; omega)
theorem chk46_of (i : grid0.Coords) (v : BitVec 32) (h : v.toInt < 22) : k0_chk46 i v := by
  unfold k0_chk46; intro _ a
  have hs := slot_lt v h
  match a with
  | ⟨0, _⟩ => exact (by show (Scalar.maxsi v 0#32).toNat + 1 ≤ 22; omega)
theorem chk47_of (i : grid0.Coords) (v : BitVec 32) (h : v.toInt < 22) : k0_chk47 i v := by
  unfold k0_chk47; intro _ a
  have hs := slot_lt v h
  match a with
  | ⟨0, _⟩ => exact (by show (Scalar.maxsi v 0#32).toNat + 1 ≤ 22; omega)
theorem chk48_of (i : grid0.Coords) (v : BitVec 32) (h : v.toInt < 22) : k0_chk48 i v := by
  unfold k0_chk48; intro _ a
  have hs := slot_lt v h
  match a with
  | ⟨0, _⟩ => exact (by show (Scalar.maxsi v 0#32).toNat + 1 ≤ 22; omega)
theorem chk49_of (v : BitVec 32) (h : v.toInt < 22) : k0_chk49 v := by
  unfold k0_chk49; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk50_of (v : BitVec 32) (h : v.toInt < 22) : k0_chk50 v := by
  unfold k0_chk50; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk51_of (v : BitVec 32) (h : v.toInt < 22) : k0_chk51 v := by
  unfold k0_chk51; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk52_of (v : BitVec 32) (h : v.toInt < 22) : k0_chk52 v := by
  unfold k0_chk52; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk53_of (v : BitVec 32) (h : v.toInt < 22) : k0_chk53 v := by
  unfold k0_chk53; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk54_of (v : BitVec 32) (h : v.toInt < 22) : k0_chk54 v := by
  unfold k0_chk54; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk55_of (v : BitVec 32) (h : v.toInt < 22) : k0_chk55 v := by
  unfold k0_chk55; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk56_of (v : BitVec 32) (h : v.toInt < 22) : k0_chk56 v := by
  unfold k0_chk56; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk57_of (v : BitVec 32) (h : v.toInt < 22) : k0_chk57 v := by
  unfold k0_chk57; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk58_of (v : BitVec 32) (h : v.toInt < 22) : k0_chk58 v := by
  unfold k0_chk58; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk59_of (v : BitVec 32) (h : v.toInt < 22) : k0_chk59 v := by
  unfold k0_chk59; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk60_of (v : BitVec 32) (h : v.toInt < 22) : k0_chk60 v := by
  unfold k0_chk60; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk61_of (v : BitVec 32) (h : v.toInt < 22) : k0_chk61 v := by
  unfold k0_chk61; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk62_of (v : BitVec 32) (h : v.toInt < 22) : k0_chk62 v := by
  unfold k0_chk62; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk63_of (v : BitVec 32) (h : v.toInt < 22) : k0_chk63 v := by
  unfold k0_chk63; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk64_of (v : BitVec 32) (h : v.toInt < 22) : k0_chk64 v := by
  unfold k0_chk64; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk65_of (v : BitVec 32) (h : v.toInt < 22) : k0_chk65 v := by
  unfold k0_chk65; intro a
  have hs := slot_lt v h
  match a with
  | ⟨0, _⟩ => exact (by show (Scalar.maxsi v 0#32).toNat + 1 ≤ 22; omega)
  | ⟨1, _⟩ => exact Nat.le_of_eq (Nat.zero_add _)
theorem chk66_of (v : BitVec 32) (h : v.toInt < 22) : k0_chk66 v := by
  unfold k0_chk66; intro a
  have hs := slot_lt v h
  match a with
  | ⟨0, _⟩ => exact (by show (Scalar.maxsi v 0#32).toNat + 1 ≤ 22; omega)
  | ⟨1, _⟩ => exact Nat.le_of_eq (Nat.zero_add _)
theorem chk67_of (v : BitVec 32) (h : v.toInt < 22) : k0_chk67 v := by
  unfold k0_chk67; intro a
  have hs := slot_lt v h
  match a with
  | ⟨0, _⟩ => exact (by show (Scalar.maxsi v 0#32).toNat + 1 ≤ 22; omega)
  | ⟨1, _⟩ => exact Nat.le_of_eq (Nat.zero_add _)
theorem chk68_of (v : BitVec 32) (h : v.toInt < 22) : k0_chk68 v := by
  unfold k0_chk68; intro a
  have hs := slot_lt v h
  match a with
  | ⟨0, _⟩ => exact (by show (Scalar.maxsi v 0#32).toNat + 1 ≤ 22; omega)
  | ⟨1, _⟩ => exact Nat.le_of_eq (Nat.zero_add _)
theorem chk69_of (v : BitVec 32) (h : v.toInt < 22) : k0_chk69 v := by
  unfold k0_chk69; intro a
  have hs := slot_lt v h
  match a with
  | ⟨0, _⟩ => exact (by show (Scalar.maxsi v 0#32).toNat + 1 ≤ 22; omega)
  | ⟨1, _⟩ => exact Nat.le_of_eq (Nat.zero_add _)
theorem chk70_of (v : BitVec 32) (h : v.toInt < 22) : k0_chk70 v := by
  unfold k0_chk70; intro a
  have hs := slot_lt v h
  match a with
  | ⟨0, _⟩ => exact (by show (Scalar.maxsi v 0#32).toNat + 1 ≤ 22; omega)
  | ⟨1, _⟩ => exact Nat.le_of_eq (Nat.zero_add _)
theorem chk71_of (v : BitVec 32) (h : v.toInt < 22) : k0_chk71 v := by
  unfold k0_chk71; intro a
  have hs := slot_lt v h
  match a with
  | ⟨0, _⟩ => exact (by show (Scalar.maxsi v 0#32).toNat + 1 ≤ 22; omega)
  | ⟨1, _⟩ => exact Nat.le_of_eq (Nat.zero_add _)
theorem chk72_of (v : BitVec 32) (h : v.toInt < 22) : k0_chk72 v := by
  unfold k0_chk72; intro a
  have hs := slot_lt v h
  match a with
  | ⟨0, _⟩ => exact (by show (Scalar.maxsi v 0#32).toNat + 1 ≤ 22; omega)
  | ⟨1, _⟩ => exact Nat.le_of_eq (Nat.zero_add _)
theorem chk73_of (v : BitVec 32) (h : v.toInt < 22) : k0_chk73 v := by
  unfold k0_chk73; intro a
  have hs := slot_lt v h
  match a with
  | ⟨0, _⟩ => exact (by show (Scalar.maxsi v 0#32).toNat + 1 ≤ 22; omega)
  | ⟨1, _⟩ => exact Nat.le_of_eq (Nat.zero_add _)
theorem chk74_of (v : BitVec 32) (h : v.toInt < 22) : k0_chk74 v := by
  unfold k0_chk74; intro a
  have hs := slot_lt v h
  match a with
  | ⟨0, _⟩ => exact (by show (Scalar.maxsi v 0#32).toNat + 1 ≤ 22; omega)
  | ⟨1, _⟩ => exact Nat.le_of_eq (Nat.zero_add _)
theorem chk75_of (v : BitVec 32) (h : v.toInt < 22) : k0_chk75 v := by
  unfold k0_chk75; intro a
  have hs := slot_lt v h
  match a with
  | ⟨0, _⟩ => exact (by show (Scalar.maxsi v 0#32).toNat + 1 ≤ 22; omega)
  | ⟨1, _⟩ => exact Nat.le_of_eq (Nat.zero_add _)
theorem chk76_of (v : BitVec 32) (h : v.toInt < 22) : k0_chk76 v := by
  unfold k0_chk76; intro a
  have hs := slot_lt v h
  match a with
  | ⟨0, _⟩ => exact (by show (Scalar.maxsi v 0#32).toNat + 1 ≤ 22; omega)
  | ⟨1, _⟩ => exact Nat.le_of_eq (Nat.zero_add _)
theorem chk77_of (v : BitVec 32) (h : v.toInt < 22) : k0_chk77 v := by
  unfold k0_chk77; intro a
  have hs := slot_lt v h
  match a with
  | ⟨0, _⟩ => exact (by show (Scalar.maxsi v 0#32).toNat + 1 ≤ 22; omega)
  | ⟨1, _⟩ => exact Nat.le_of_eq (Nat.zero_add _)
theorem chk78_of (v : BitVec 32) (h : v.toInt < 22) : k0_chk78 v := by
  unfold k0_chk78; intro a
  have hs := slot_lt v h
  match a with
  | ⟨0, _⟩ => exact (by show (Scalar.maxsi v 0#32).toNat + 1 ≤ 22; omega)
  | ⟨1, _⟩ => exact Nat.le_of_eq (Nat.zero_add _)
theorem chk79_of (v : BitVec 32) (h : v.toInt < 22) : k0_chk79 v := by
  unfold k0_chk79; intro a
  have hs := slot_lt v h
  match a with
  | ⟨0, _⟩ => exact (by show (Scalar.maxsi v 0#32).toNat + 1 ≤ 22; omega)
  | ⟨1, _⟩ => exact Nat.le_of_eq (Nat.zero_add _)
theorem chk80_of (v : BitVec 32) (h : v.toInt < 22) : k0_chk80 v := by
  unfold k0_chk80; intro a
  have hs := slot_lt v h
  match a with
  | ⟨0, _⟩ => exact (by show (Scalar.maxsi v 0#32).toNat + 1 ≤ 22; omega)
  | ⟨1, _⟩ => exact Nat.le_of_eq (Nat.zero_add _)

end Cert.Kernel.Gen

end
-- ==== Proof.K.RunA.lean ====
module

public import proofs.«01_k».proof.Proof.K.Runs
public import proofs.«01_k».proof.Proof.K.Checks
public import proofs.«01_k».proof.Proof.Gen.Kernel.Loops

/-! The kernel body run at the first grid point (row block 0, column block 0). -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at the first grid point (row block 0, column block 0): on whole staging memrefs, the inputs' at their contents, the outputs' and the
    scratch at anything, the body runs to the continuation holding the inputs' as they were. -/
theorem runA (c : Dev nD) (i : grid0.Coords) (hc1 : k0_cond1 i = 1#1) (hc2 : k0_cond2 i = 1#1) (hc3 : k0_cond3 i = 1#1) (hc4 : ¬ k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec F S256x1536 .bf16) (x1 : Vec F S192x256 .i32) (x2 : Vec F S12x1120 .i32) (x3 : Vec F S12x256 .i16) (x4 : Vec F S22x1536x32 .fp8e4m3) (x5 : Vec F S22x32 .f32) (x6 : Vec F S22x32x256 .fp8e4m3) (x7 : Vec F S22x256 .f32) (x8 : Vec F S22 .f32) (xt0 : TbBuf0 (F := F) c tbM0_0) (xt1 : TbBuf0 (F := F) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := F)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HT0]; · iexact HT0
    iexact HT1

end Cert.Kernel.Gen

end
-- ==== Proof.K.RunB.lean ====
module

public import proofs.«01_k».proof.Proof.K.Runs
public import proofs.«01_k».proof.Proof.K.Checks
public import proofs.«01_k».proof.Proof.Gen.Kernel.Loops

/-! The kernel body run at a middle column block of row block 0. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a middle column block of row block 0: on whole staging memrefs, the inputs' at their contents, the outputs' and the
    scratch at anything, the body runs to the continuation holding the inputs' as they were. -/
theorem runB (c : Dev nD) (i : grid0.Coords) (hc1 : ¬ k0_cond1 i = 1#1) (hc2 : ¬ k0_cond2 i = 1#1) (hc3 : k0_cond3 i = 1#1) (hc4 : ¬ k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec F S256x1536 .bf16) (x1 : Vec F S192x256 .i32) (x2 : Vec F S12x1120 .i32) (x3 : Vec F S12x256 .i16) (x4 : Vec F S22x1536x32 .fp8e4m3) (x5 : Vec F S22x32 .f32) (x6 : Vec F S22x32x256 .fp8e4m3) (x7 : Vec F S22x256 .f32) (x8 : Vec F S22 .f32) (xt0 : TbBuf0 (F := F) c tbM0_0) (xt1 : TbBuf0 (F := F) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := F)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HT0]; · iexact HT0
    iexact HT1

end Cert.Kernel.Gen

end
-- ==== Proof.K.RunC.lean ====
module

public import proofs.«01_k».proof.Proof.K.Runs
public import proofs.«01_k».proof.Proof.K.Checks
public import proofs.«01_k».proof.Proof.Gen.Kernel.Loops

/-! The kernel body run at the last column block of row block 0. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at the last column block of row block 0: on whole staging memrefs, the inputs' at their contents, the outputs' and the
    scratch at anything, the body runs to the continuation holding the inputs' as they were. -/
theorem runC (c : Dev nD) (i : grid0.Coords) (hc1 : ¬ k0_cond1 i = 1#1) (hc2 : ¬ k0_cond2 i = 1#1) (hc3 : k0_cond3 i = 1#1) (hc4 : k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec F S256x1536 .bf16) (x1 : Vec F S192x256 .i32) (x2 : Vec F S12x1120 .i32) (x3 : Vec F S12x256 .i16) (x4 : Vec F S22x1536x32 .fp8e4m3) (x5 : Vec F S22x32 .f32) (x6 : Vec F S22x32x256 .fp8e4m3) (x7 : Vec F S22x256 .f32) (x8 : Vec F S22 .f32) (xt0 : TbBuf0 (F := F) c tbM0_0) (xt1 : TbBuf0 (F := F) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := F)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HT0]; · iexact HT0
    iexact HT1

end Cert.Kernel.Gen

end
-- ==== Proof.K.RunD.lean ====
module

public import proofs.«01_k».proof.Proof.K.Runs
public import proofs.«01_k».proof.Proof.K.Checks
public import proofs.«01_k».proof.Proof.Gen.Kernel.Loops

/-! The kernel body run at the first column block of a later row block. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at the first column block of a later row block: on whole staging memrefs, the inputs' at their contents, the outputs' and the
    scratch at anything, the body runs to the continuation holding the inputs' as they were. -/
theorem runD (c : Dev nD) (i : grid0.Coords) (hc1 : ¬ k0_cond1 i = 1#1) (hc2 : k0_cond2 i = 1#1) (hc3 : ¬ k0_cond3 i = 1#1) (hc4 : ¬ k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec F S256x1536 .bf16) (x1 : Vec F S192x256 .i32) (x2 : Vec F S12x1120 .i32) (x3 : Vec F S12x256 .i16) (x4 : Vec F S22x1536x32 .fp8e4m3) (x5 : Vec F S22x32 .f32) (x6 : Vec F S22x32x256 .fp8e4m3) (x7 : Vec F S22x256 .f32) (x8 : Vec F S22 .f32) (xt0 : TbBuf0 (F := F) c tbM0_0) (xt1 : TbBuf0 (F := F) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := F)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HT0]; · iexact HT0
    iexact HT1

end Cert.Kernel.Gen

end
-- ==== Proof.K.RunE.lean ====
module

public import proofs.«01_k».proof.Proof.K.Runs
public import proofs.«01_k».proof.Proof.K.Checks
public import proofs.«01_k».proof.Proof.Gen.Kernel.Loops

/-! The kernel body run at a middle column block of a later row block. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at a middle column block of a later row block: on whole staging memrefs, the inputs' at their contents, the outputs' and the
    scratch at anything, the body runs to the continuation holding the inputs' as they were. -/
theorem runE (c : Dev nD) (i : grid0.Coords) (hc1 : ¬ k0_cond1 i = 1#1) (hc2 : ¬ k0_cond2 i = 1#1) (hc3 : ¬ k0_cond3 i = 1#1) (hc4 : ¬ k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec F S256x1536 .bf16) (x1 : Vec F S192x256 .i32) (x2 : Vec F S12x1120 .i32) (x3 : Vec F S12x256 .i16) (x4 : Vec F S22x1536x32 .fp8e4m3) (x5 : Vec F S22x32 .f32) (x6 : Vec F S22x32x256 .fp8e4m3) (x7 : Vec F S22x256 .f32) (x8 : Vec F S22 .f32) (xt0 : TbBuf0 (F := F) c tbM0_0) (xt1 : TbBuf0 (F := F) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := F)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HT0]; · iexact HT0
    iexact HT1

end Cert.Kernel.Gen

end
-- ==== Proof.K.RunG.lean ====
module

public import proofs.«01_k».proof.Proof.K.Runs
public import proofs.«01_k».proof.Proof.K.Checks
public import proofs.«01_k».proof.Proof.Gen.Kernel.Loops

/-! The kernel body run at the last column block of a later row block. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body's triple at the last column block of a later row block: on whole staging memrefs, the inputs' at their contents, the outputs' and the
    scratch at anything, the body runs to the continuation holding the inputs' as they were. -/
theorem runG (c : Dev nD) (i : grid0.Coords) (hc1 : ¬ k0_cond1 i = 1#1) (hc2 : ¬ k0_cond2 i = 1#1) (hc3 : ¬ k0_cond3 i = 1#1) (hc4 : k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec F S256x1536 .bf16) (x1 : Vec F S192x256 .i32) (x2 : Vec F S12x1120 .i32) (x3 : Vec F S12x256 .i16) (x4 : Vec F S22x1536x32 .fp8e4m3) (x5 : Vec F S22x32 .f32) (x6 : Vec F S22x32x256 .fp8e4m3) (x7 : Vec F S22x256 .f32) (x8 : Vec F S22 .f32) (xt0 : TbBuf0 (F := F) c tbM0_0) (xt1 : TbBuf0 (F := F) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := F)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HT0]; · iexact HT0
    iexact HT1

end Cert.Kernel.Gen

end
-- ==== Proof.K.Body.lean ====
module

public import proofs.«01_k».proof.Proof.K.RunA
public import proofs.«01_k».proof.Proof.K.RunB
public import proofs.«01_k».proof.Proof.K.RunC
public import proofs.«01_k».proof.Proof.K.RunD
public import proofs.«01_k».proof.Proof.K.RunE
public import proofs.«01_k».proof.Proof.K.RunG

/-! The kernel body at any grid point. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The combinations the body's four conditions take over the grid: at (0, 0) the dequantisation state is made, at each row's
    first column block the adapters' products, in row block 0 the weights, at each row's last column block the row is quantised. -/
theorem cond_cases : ∀ i : grid0.Coords, (k0_cond1 i = 1#1 ∧ k0_cond2 i = 1#1 ∧ k0_cond3 i = 1#1 ∧ ¬ k0_cond4 i = 1#1) ∨
    (¬ k0_cond1 i = 1#1 ∧ ¬ k0_cond2 i = 1#1 ∧ k0_cond3 i = 1#1 ∧ ¬ k0_cond4 i = 1#1) ∨
    (¬ k0_cond1 i = 1#1 ∧ ¬ k0_cond2 i = 1#1 ∧ k0_cond3 i = 1#1 ∧ k0_cond4 i = 1#1) ∨
    (¬ k0_cond1 i = 1#1 ∧ k0_cond2 i = 1#1 ∧ ¬ k0_cond3 i = 1#1 ∧ ¬ k0_cond4 i = 1#1) ∨
    (¬ k0_cond1 i = 1#1 ∧ ¬ k0_cond2 i = 1#1 ∧ ¬ k0_cond3 i = 1#1 ∧ ¬ k0_cond4 i = 1#1) ∨
    (¬ k0_cond1 i = 1#1 ∧ ¬ k0_cond2 i = 1#1 ∧ ¬ k0_cond3 i = 1#1 ∧ k0_cond4 i = 1#1) := by
  decide +kernel

set_option maxHeartbeats 1000000 in
/-- The body's triple at any grid point: one of the six combinations of its four conditions. -/
theorem bodyRun (c : Dev nD) (i : grid0.Coords) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec F S256x1536 .bf16) (x1 : Vec F S192x256 .i32) (x2 : Vec F S12x1120 .i32) (x3 : Vec F S12x256 .i16) (x4 : Vec F S22x1536x32 .fp8e4m3) (x5 : Vec F S22x32 .f32) (x6 : Vec F S22x32x256 .fp8e4m3) (x7 : Vec F S22x256 .f32) (x8 : Vec F S22 .f32) (xt0 : TbBuf0 (F := F) c tbM0_0) (xt1 : TbBuf0 (F := F) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := F)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rcases cond_cases i with ⟨h1, h2, h3, h4⟩ | ⟨h1, h2, h3, h4⟩ | ⟨h1, h2, h3, h4⟩ | ⟨h1, h2, h3, h4⟩ | ⟨h1, h2, h3, h4⟩ | ⟨h1, h2, h3, h4⟩
  · exact runA c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 xt0 xt1 hAd
  · exact runB c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 xt0 xt1 hAd
  · exact runC c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 xt0 xt1 hAd
  · exact runD c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 xt0 xt1 hAd
  · exact runE c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 xt0 xt1 hAd
  · exact runG c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 xt0 xt1 hAd

end Cert.Kernel.Gen

end
-- ==== Proof.K.Frame.lean ====
module

public import proofs.«01_k».proof.Proof.K.Body
public import Idealize.ShloMosaic.Lib.Claim

/-! The frame of the launch: the outputs' contents left unnamed. -/

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9, 10, 11, 12, 13, 14, 15): nothing reads what the kernel leaves in them, so nothing
    of it is named (Lib/Pipeline/Dat.lean `Dat.toRForget`). -/
def forgets0 : Fin 16 → Bool := fun w => w.val == 9 || w.val == 10 || w.val == 11 || w.val == 12 || w.val == 13 || w.val == 14 || w.val == 15

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨_ + 16, h⟩ => absurd h (Nat.not_lt.2 (Nat.le_add_left _ _))
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (hO : Ok m) (hAd : ∀ j, (tbl m 1 j : BitVec 32).toInt < 22) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4, HS5, HS6, HS7⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((bodyRun c (grid0.coords t) _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (tbl m 0) (tbl m 1) hAd) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HT0]; · iexact HT0
  isplitl [HT1]; · iexact HT1
  iintro ⟨H0, H1, H2, H3, H4, H5, H6, H7, H8, H9, H10, H11, H12, H13, H14, H15, HS0, HS1, HS2, HS3, HS4, HS5, HS6, HS7, HT0, HT1⟩
  isplitl [HS0 HS1 HS2 HS3 HS4 HS5 HS6 HS7 Hg HT0 HT1]
  · isplitl [HS0 HS1 HS2 HS3 HS4 HS5 HS6 HS7 Hg]
    · isplitl [HS0 HS1 HS2 HS3 HS4 HS5 HS6 HS7]
      · isplitl [HS0]
        · iexact HS0
        isplitl [HS1]
        · iexact HS1
        isplitl [HS2]
        · iexact HS2
        isplitl [HS3]
        · iexact HS3
        isplitl [HS4]
        · iexact HS4
        isplitl [HS5]
        · iexact HS5
        isplitl [HS6]
        · iexact HS6
        iexact HS7
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hAd : ∀ j, (tbl m 1 j : BitVec 32).toInt < 22) (c : Dev nD) : BodyObligation (dats (F := F) m hO 0 c) (defs₀ (F := F)) Variants.none () Set.univ forgets0 := fun t => by
  rw [bigSep_W0, bigSep_W0, defs₀_row m hO]
  exact triple_restated (sound_body m hO hAd c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hAd : ∀ j, (tbl m 1 j : BitVec 32).toInt < 22) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hAd c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 9, 10, 11, 12, 13, 14, 15) (Lib/Pipeline/Frame.lean `RDat.FramePost` over the proof data with those windows
    forgotten, Dat.lean `Dat.toRForget`), and every other unscoped buffer at its region-entry contents. -/
theorem run_main (hO : Ok m) (hAd : ∀ j, (tbl m 1 j : BitVec 32).toInt < 22) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hAd)

/-- `frame` without the counters: the argument arrays end unchanged. -/
theorem unchanged (hO : Ok m) (hAd : ∀ j, (tbl m 1 j : BitVec 32).toInt < 22) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ hO (fun c => (dats m hO 0 c).toRForget forgets0) (A_eq m hO) (run_main m ρ hO hAd)

/-- The frame: every fair execution ends with the arguments as they began and every semaphore counter at zero, for tables
    whose adapter words name one of the 22 slots or none. -/
theorem frame (hO : Ok m) (hAd : ∀ j, (tbl m 1 j : BitVec 32).toInt < 22) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ hO hAd) ((θ_run defs _ _).mono (fun _ h => h.2) (run_main_quiescent m ρ hO hAd))

end Cert.Kernel.Gen

end
-- ==== Proof.KI.Points.lean ====
module

public import proofs.«01_k».proof.Proof.Gen.KernelIdeal
public import Idealize.ShloMosaic.Lib.Pipeline.Kit

/-! The schedule of the pallas_call on its grid: at which points each window is fetched and written back, the staging
memrefs at a point, and the kernel body as the pipeline calls it there. -/

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at the points ≡ 0 (mod 35), at any contents of the tables (its index map reads none). -/
theorem fetch0_0 (a : (pcfg0 (F := F)).Adm) : ∀ t : Fin (cfg0 a).N, ((cfg0 a).win 0).fetch t = true ↔ t.val % 35 = 0 :=
  (fun t => Pipeline.Window.fetchOf_reads cc0_transform_0 reads0_0 hreads0_0 0 (by decide) (by decide) (Pipeline.Window.sep_of_coord cc0_transform_0 0 0 (fun _ => rfl) (by decide)) (P := 35) (by decide) t : ∀ t : Fin grid0.N, Pipeline.Window.fetchOf grid0 false cc0_transform_0 t = true ↔ t.val % 35 = 0)
-- window 1 is fetched at points [0, 1, 2, 3, 4, 5, 6, 7, 8, 9, 10, 11]…: no closed form stated
/-- Window 2 (operand 4 (%arg2)) is fetched at the first point only, at any contents of the tables (its index map reads none). -/
theorem fetch0_2 (a : (pcfg0 (F := F)).Adm) : ∀ t : Fin (cfg0 a).N, ((cfg0 a).win 2).fetch t = true ↔ t.val % 140 = 0 :=
  (fun t => Pipeline.Window.fetchOf_const cc0_transform_2 (fun _ _ => rfl) (n := 140) (by decide) t : ∀ t : Fin grid0.N, Pipeline.Window.fetchOf grid0 false cc0_transform_2 t = true ↔ t.val % 140 = 0)
-- window 3 is fetched at points [0, 1, 2, 3, 4, 5, 6, 7, 8, 9, 10, 11]…: no closed form stated
/-- Window 4 (operand 6 (%arg4)) is fetched at the first point only, at any contents of the tables (its index map reads none). -/
theorem fetch0_4 (a : (pcfg0 (F := F)).Adm) : ∀ t : Fin (cfg0 a).N, ((cfg0 a).win 4).fetch t = true ↔ t.val % 140 = 0 :=
  (fun t => Pipeline.Window.fetchOf_const cc0_transform_4 (fun _ _ => rfl) (n := 140) (by decide) t : ∀ t : Fin grid0.N, Pipeline.Window.fetchOf grid0 false cc0_transform_4 t = true ↔ t.val % 140 = 0)
/-- Window 5 (operand 7 (%arg5)) is fetched at the first point only, at any contents of the tables (its index map reads none). -/
theorem fetch0_5 (a : (pcfg0 (F := F)).Adm) : ∀ t : Fin (cfg0 a).N, ((cfg0 a).win 5).fetch t = true ↔ t.val % 140 = 0 :=
  (fun t => Pipeline.Window.fetchOf_const cc0_transform_5 (fun _ _ => rfl) (n := 140) (by decide) t : ∀ t : Fin grid0.N, Pipeline.Window.fetchOf grid0 false cc0_transform_5 t = true ↔ t.val % 140 = 0)
/-- Window 6 (operand 8 (%arg6)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 2 (fun _ => rfl) (by decide)) (P := 1) (by decide) t).mpr (Nat.mod_one _) : ∀ t : Fin grid0.N, Pipeline.Window.fetchOf grid0 false cc0_transform_6 t = true)
/-- Window 7 (operand 9 (%arg7)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 1 (by decide) (by decide) (Pipeline.Window.sep_of_coord cc0_transform_7 1 1 (fun _ => rfl) (by decide)) (P := 1) (by decide) t).mpr (Nat.mod_one _) : ∀ t : Fin grid0.N, Pipeline.Window.fetchOf grid0 false cc0_transform_7 t = true)
/-- Window 8 (operand 10 (%arg8)) is fetched at the first point only, at any contents of the tables (its index map reads none). -/
theorem fetch0_8 (a : (pcfg0 (F := F)).Adm) : ∀ t : Fin (cfg0 a).N, ((cfg0 a).win 8).fetch t = true ↔ t.val % 140 = 0 :=
  (fun t => Pipeline.Window.fetchOf_const cc0_transform_8 (fun _ _ => rfl) (n := 140) (by decide) t : ∀ t : Fin grid0.N, Pipeline.Window.fetchOf grid0 false cc0_transform_8 t = true ↔ t.val % 140 = 0)
/-- Window 9 (result 0 (%0#0)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 1 (by decide) (by decide) (Pipeline.Window.sep_of_coord cc0_transform_9 1 1 (fun _ => rfl) (by decide)) (P := 1) (m := 0) (by decide) rfl t).mpr (Nat.mod_one _) : ∀ t : Fin grid0.N, Pipeline.Window.flushOf grid0 true cc0_transform_9 t = true)
/-- Window 10 (result 1 (%0#1)) is written back at the points ≡ 34 (mod 35), at any contents of the tables (its index map reads none). -/
theorem flush0_10 (a : (pcfg0 (F := F)).Adm) : ∀ t : Fin (cfg0 a).N, ((cfg0 a).win 10).flush t = true ↔ t.val % 35 = 34 :=
  (fun t => Pipeline.Window.flushOf_reads cc0_transform_10 reads0_10 hreads0_10 0 (by decide) (by decide) (Pipeline.Window.sep_of_coord cc0_transform_10 0 0 (fun _ => rfl) (by decide)) (P := 35) (m := 34) (by decide) rfl t : ∀ t : Fin grid0.N, Pipeline.Window.flushOf grid0 true cc0_transform_10 t = true ↔ t.val % 35 = 34)
/-- Window 11 (result 2 (%0#2)) is written back at every point, at any contents of the tables (its index map reads none). -/
theorem flush0_11 (a : (pcfg0 (F := F)).Adm) : ∀ t : Fin (cfg0 a).N, ((cfg0 a).win 11).flush t = true :=
  (fun t => (Pipeline.Window.flushOf_reads cc0_transform_11 reads0_11 hreads0_11 1 (by decide) (by decide) (Pipeline.Window.sep_of_coord cc0_transform_11 1 1 (fun _ => rfl) (by decide)) (P := 1) (m := 0) (by decide) rfl t).mpr (Nat.mod_one _) : ∀ t : Fin grid0.N, Pipeline.Window.flushOf grid0 true cc0_transform_11 t = true)
/-- Window 12 (result 3 (%0#3)) is written back at the points ≡ 34 (mod 35), at any contents of the tables (its index map reads none). -/
theorem flush0_12 (a : (pcfg0 (F := F)).Adm) : ∀ t : Fin (cfg0 a).N, ((cfg0 a).win 12).flush t = true ↔ t.val % 35 = 34 :=
  (fun t => Pipeline.Window.flushOf_reads cc0_transform_12 reads0_12 hreads0_12 0 (by decide) (by decide) (Pipeline.Window.sep_of_coord cc0_transform_12 0 0 (fun _ => rfl) (by decide)) (P := 35) (m := 34) (by decide) rfl t : ∀ t : Fin grid0.N, Pipeline.Window.flushOf grid0 true cc0_transform_12 t = true ↔ t.val % 35 = 34)
/-- Window 13 (result 4 (%0#4)) is written back at the points ≡ 34 (mod 35), at any contents of the tables (its index map reads none). -/
theorem flush0_13 (a : (pcfg0 (F := F)).Adm) : ∀ t : Fin (cfg0 a).N, ((cfg0 a).win 13).flush t = true ↔ t.val % 35 = 34 :=
  (fun t => Pipeline.Window.flushOf_reads cc0_transform_13 reads0_13 hreads0_13 0 (by decide) (by decide) (Pipeline.Window.sep_of_coord cc0_transform_13 0 0 (fun _ => rfl) (by decide)) (P := 35) (m := 34) (by decide) rfl t : ∀ t : Fin grid0.N, Pipeline.Window.flushOf grid0 true cc0_transform_13 t = true ↔ t.val % 35 = 34)
/-- Window 14 (result 5 (%0#5)) is written back at the points ≡ 34 (mod 35), at any contents of the tables (its index map reads none). -/
theorem flush0_14 (a : (pcfg0 (F := F)).Adm) : ∀ t : Fin (cfg0 a).N, ((cfg0 a).win 14).flush t = true ↔ t.val % 35 = 34 :=
  (fun t => Pipeline.Window.flushOf_reads cc0_transform_14 reads0_14 hreads0_14 0 (by decide) (by decide) (Pipeline.Window.sep_of_coord cc0_transform_14 0 0 (fun _ => rfl) (by decide)) (P := 35) (m := 34) (by decide) rfl t : ∀ t : Fin grid0.N, Pipeline.Window.flushOf grid0 true cc0_transform_14 t = true ↔ t.val % 35 = 34)
/-- Window 15 (result 6 (%0#6)) is written back at the points ≡ 34 (mod 35), at any contents of the tables (its index map reads none). -/
theorem flush0_15 (a : (pcfg0 (F := F)).Adm) : ∀ t : Fin (cfg0 a).N, ((cfg0 a).win 15).flush t = true ↔ t.val % 35 = 34 :=
  (fun t => Pipeline.Window.flushOf_reads cc0_transform_15 reads0_15 hreads0_15 0 (by decide) (by decide) (Pipeline.Window.sep_of_coord cc0_transform_15 0 0 (fun _ => rfl) (by decide)) (P := 35) (m := 34) (by decide) rfl t : ∀ t : Fin grid0.N, Pipeline.Window.flushOf grid0 true cc0_transform_15 t = true ↔ t.val % 35 = 34)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)
abbrev st0_13 (a : (pcfg0 (F := F)).Adm) (t : Fin (cfg0 a).N) := ((cfg0 a).win 13).stage ((cfg0 a).slots t 13)
abbrev st0_14 (a : (pcfg0 (F := F)).Adm) (t : Fin (cfg0 a).N) := ((cfg0 a).win 14).stage ((cfg0 a).slots t 14)
abbrev st0_15 (a : (pcfg0 (F := F)).Adm) (t : Fin (cfg0 a).N) := ((cfg0 a).win 15).stage ((cfg0 a).slots t 15)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_multi_lora (grid0.coords t) (Memref.whole main_arg9) (Memref.isWhole_whole _) (Memref.whole main_arg10) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)

end Cert.KernelIdeal.Gen

end
-- ==== Proof.KI.Runs.lean ====
module

public import proofs.«01_k».proof.Proof.Gen.KernelIdeal.Launch
public import proofs.«01_k».proof.Proof.Gen.KernelIdeal.Skeleton
public import proofs.«01_k».proof.Proof.KI.Points
public import Idealize.ShloMosaic.Lib.Pipeline.FrameBody
public import Idealize.ShloMosaic.Lib.Ring
public import Idealize.ShloMosaic.Lib.Tactic
public import Idealize.ShloMosaic.Lib.WordCmp

/-! What the runs of the kernel body share: the region-entry contents, the prefetched tables, the blocks of the inputs,
the staging and scratch memrefs, and the frame read off a run of the launch. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl
theorem V_main_arg9 (c : Dev nD) : V m c main_arg9 = m ((c : Thread nD τ).loc main_arg9) := rfl
theorem V_main_arg10 (c : Dev nD) : V m c main_arg10 = m ((c : Thread nD τ).loc main_arg10) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S17 .i32 := Memref.whole main_arg9
abbrev htbM0_0 : tbM0_0.IsWhole := Memref.isWhole_whole _
abbrev tbM0_1 : Memref sig .tc .smem S16 .i32 := Memref.whole main_arg10
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c)),
      ((h c).2 main_arg9 (by decide : main_arg9 ∈ Pipeline.restRefs sig spec0)).trans (V_main_arg9 m c),
      ((h c).2 main_arg10 (by decide : main_arg10 ∈ Pipeline.restRefs sig spec0)).trans (V_main_arg10 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x1536 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S192x256 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S12x1120 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S12x256 .i16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S22x1536x32 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S22x32 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S22x32x256 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S22x256 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .smem S22 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S256x256 .bf16 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S256x32 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S256x256 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S256x32 .fp8e4m3 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x2x128 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S256x8960 .fp8e4m3 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x2x128 .f32 := spec0_15.stage ((cfgM m hO).slots t 15)
abbrev hs0_15 (hO : Ok m) (t : Fin (cfgM m hO).N) : (ms0_15 m hO t).IsWhole := hstage0_15 (((cfgM m hO).slots t 15).cast nbuf0_15)
/-- The scratch operands: whole scoped buffers of the kernel's own, passed beside the windows. -/
abbrev scM0_0 : Memref sig .tc .vmem S1536x8960 .bf16 := Memref.whole cc0_scratch0
abbrev scM0_1 : Memref sig .tc .vmem S12x8960 .f32 := Memref.whole cc0_scratch1
abbrev scM0_2 : Memref sig .tc .vmem S1536x512 .bf16 := Memref.whole cc0_scratch2
abbrev scM0_3 : Memref sig .tc .vmem S256x512 .fp8e4m3 := Memref.whole cc0_scratch3
abbrev scM0_4 : Memref sig .tc .vmem S256x128 .f32 := Memref.whole cc0_scratch4
abbrev scM0_5 : Memref sig .tc .vmem S512x256 .fp8e4m3 := Memref.whole cc0_scratch5
abbrev scM0_6 : Memref sig .tc .vmem S256x8960 .f32 := Memref.whole cc0_scratch6
abbrev scM0_7 : Memref sig .tc .vmem S256x128 .f32 := Memref.whole cc0_scratch7

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.KernelIdeal.Gen

end
-- ==== Proof.Val.Half.lean ====
module
public import Idealize.ShloMosaic.Lib.Pointwise
@[expose] public section
/-! The number a half-precision pattern names, read in two ways: by moving its fields into a single-precision word, and by its
fields. -/

namespace Cert.Half
open Idealize.ShloMosaic

theorem toN (k : ℕ) (x : BitVec 32) (hx : x.toNat = k) : x = BitVec.ofNat 32 k := by
  apply BitVec.eq_of_toNat_eq; rw [hx, BitVec.toNat_ofNat]; have := x.isLt; omega

theorem and_low (h : BitVec 16) (k : BitVec 16) : (h.signExtend 32 &&& k.setWidth 32) = ((h &&& k).setWidth 32) := by
  apply BitVec.eq_of_getLsbD_eq
  intro i hi
  rw [BitVec.getLsbD_and, BitVec.getLsbD_signExtend, BitVec.getLsbD_setWidth, BitVec.getLsbD_setWidth, BitVec.getLsbD_and]
  by_cases h16 : i < 16
  · simp [h16, hi]
  · rw [BitVec.getLsbD_of_ge k i (by omega)]; simp

theorem nat_and (x : ℕ) (a n : ℕ) : x &&& ((2 ^ n - 1) * 2 ^ a) = x / 2 ^ a % 2 ^ n * 2 ^ a := by
  apply Nat.eq_of_testBit_eq
  intro i
  rw [Nat.testBit_and, Nat.testBit_mul_two_pow, Nat.testBit_mul_two_pow, Nat.testBit_two_pow_sub_one, Nat.testBit_mod_two_pow, Nat.testBit_div_two_pow]
  by_cases h : a ≤ i
  · simp [h]; rw [Bool.and_comm]
  · simp [h]

theorem f1 (h : BitVec 16) : (h.signExtend 32 &&& 31744#32) = BitVec.ofNat 32 (h.toNat / 1024 % 32 * 1024) := by
  rw [show 31744#32 = (31744#16).setWidth 32 from rfl, and_low]
  apply toN
  have := nat_and h.toNat 10 5
  have hl := h.isLt
  rw [BitVec.toNat_setWidth, BitVec.toNat_and, show (31744#16).toNat = (2^5-1)*2^10 from rfl, this]
  omega

theorem f2 (h : BitVec 16) : (h.signExtend 32 &&& 32768#32) = BitVec.ofNat 32 (h.toNat / 32768 * 32768) := by
  rw [show 32768#32 = (32768#16).setWidth 32 from rfl, and_low]
  apply toN
  have := nat_and h.toNat 15 1
  have hl := h.isLt
  rw [BitVec.toNat_setWidth, BitVec.toNat_and, show (32768#16).toNat = (2^1-1)*2^15 from rfl, this]
  omega

theorem f3 (h : BitVec 16) : (h.signExtend 32 &&& 1023#32) = BitVec.ofNat 32 (h.toNat % 1024) := by
  rw [show 1023#32 = (1023#16).setWidth 32 from rfl, and_low]
  apply toN
  have := nat_and h.toNat 0 10
  have hl := h.isLt
  rw [BitVec.toNat_setWidth, BitVec.toNat_and, show (1023#16).toNat = (2^10-1)*2^0 from rfl, this]
  omega

theorem f5 (h : BitVec 16) : (h.signExtend 32 &&& 32767#32) = BitVec.ofNat 32 (h.toNat % 32768) := by
  rw [show 32767#32 = (32767#16).setWidth 32 from rfl, and_low]
  apply toN
  have := nat_and h.toNat 0 15
  have hl := h.isLt
  rw [BitVec.toNat_setWidth, BitVec.toNat_and, show (32767#16).toNat = (2^15-1)*2^0 from rfl, this]
  omega

theorem f6 (h : BitVec 16) : (h.signExtend 32 &&& 32767#32) <<< 13 = BitVec.ofNat 32 (h.toNat / 1024 % 32 * 8388608 + h.toNat % 1024 * 8192) := by
  rw [f5]
  apply toN
  rw [BitVec.toNat_shiftLeft, BitVec.toNat_ofNat, Nat.shiftLeft_eq]
  omega

theorem f4 (h : BitVec 16) : ((h.signExtend 32).sshiftRight 10 &&& 31#32) = BitVec.ofNat 32 (h.toNat / 1024 % 32) := by
  have e : ((h.signExtend 32).sshiftRight 10 &&& 31#32) = (h.signExtend 32 &&& 31744#32) >>> 10 := by
    apply BitVec.eq_of_getLsbD_eq
    intro i hi
    rw [BitVec.getLsbD_and, BitVec.getLsbD_ushiftRight, BitVec.getLsbD_and, BitVec.getLsbD_sshiftRight]
    by_cases h5 : i < 5
    · rw [if_pos (by omega)]
      interval_cases i <;> simp
    · have h1 : (31#32).getLsbD i = false := by
        rw [show 31#32 = BitVec.ofNat 32 (2^5-1) from rfl, BitVec.getLsbD_ofNat, Nat.testBit_two_pow_sub_one]; simp; omega
      have h2 : (31744#32).getLsbD (10+i) = false := by
        rw [show 31744#32 = BitVec.ofNat 32 ((2^5-1)*2^10) from rfl, BitVec.getLsbD_ofNat, Nat.testBit_mul_two_pow, Nat.testBit_two_pow_sub_one]; simp; omega
      rw [h1, h2]; simp
  rw [e, f1]
  apply toN
  rw [BitVec.toNat_ushiftRight, BitVec.toNat_ofNat, Nat.shiftRight_eq_div_pow]
  omega

theorem f7 (m : ℕ) (hm : m < 1024) : BitVec.ofNat 32 (31 * 8388608 + m * 8192) ||| 2139095040#32 = BitVec.ofNat 32 (255 * 8388608 + m * 8192) := by
  apply BitVec.eq_of_toNat_eq
  rw [BitVec.toNat_or, BitVec.toNat_ofNat, BitVec.toNat_ofNat, BitVec.toNat_ofNat]
  rw [Nat.mod_eq_of_lt (by omega), Nat.mod_eq_of_lt (by omega), Nat.mod_eq_of_lt (by omega)]
  have h2 := Nat.two_pow_add_eq_or_of_lt (i := 23) (b := m * 8192) (by omega) 31
  have h3 := Nat.two_pow_add_eq_or_of_lt (i := 23) (b := m * 8192) (by omega) 255
  rw [show 31 * 8388608 + m * 8192 = 2 ^ 23 * 31 + m * 8192 by ring, show 255 * 8388608 + m * 8192 = 2 ^ 23 * 255 + m * 8192 by ring, h2, h3, Nat.or_assoc, Nat.or_comm (m * 8192), ← Nat.or_assoc]
  rfl
theorem ieee_f32 (e m : ℕ) (he : e < 256) (hm : m < 8388608) : Ideal.ofBits .f32 (BitVec.ofNat 32 (e * 8388608 + m)) =
    (if e = 255 then (if m = 0 then ⊤ else ⊥) else if e = 0 then (((m : ℝ) * (2:ℝ) ^ (-149 : ℤ) : ℝ) : EReal)
      else (((8388608 + m : ℕ) : ℝ) * (2:ℝ)^((e : ℤ) - 150) : ℝ)) := by
  have h0 : (BitVec.ofNat 32 (e * 8388608 + m)).toNat = e * 8388608 + m := by rw [BitVec.toNat_ofNat]; omega
  have h1 : ((BitVec.ofNat 32 (e * 8388608 + m)).extractLsb' (8 + 23) 1 == 1#1) = false := by
    have : (BitVec.ofNat 32 (e * 8388608 + m)).extractLsb' (8 + 23) 1 = 0#1 := by
      apply BitVec.eq_of_toNat_eq; rw [BitVec.extractLsb'_toNat, h0, Nat.shiftRight_eq_div_pow, BitVec.toNat_ofNat]; omega
    rw [this]; rfl
  have h2 : ((BitVec.ofNat 32 (e * 8388608 + m)).extractLsb' 23 8).toNat = e := by
    rw [BitVec.extractLsb'_toNat, h0, Nat.shiftRight_eq_div_pow]; omega
  have h3 : ((BitVec.ofNat 32 (e * 8388608 + m)).extractLsb' 0 23).toNat = m := by
    rw [BitVec.extractLsb'_toNat, h0, Nat.shiftRight_eq_div_pow]; omega
  generalize BitVec.ofNat 32 (e * 8388608 + m) = b at h1 h2 h3
  show Ideal.ieee 8 23 b = _
  unfold Ideal.ieee
  simp only [h1, h2, h3, Bool.false_eq_true, if_false, one_mul]
  have e1 : (2 ^ 8 - 1 : ℕ) = 255 := rfl
  have e2 : (1 - (2 ^ (8 - 1) - 1) - ((23 : ℕ) : ℤ) : ℤ) = -149 := rfl
  have e3 : ((e : ℤ) - (2 ^ (8 - 1) - 1) - ((23 : ℕ) : ℤ) : ℤ) = e - 150 := by
    rw [show (2 ^ (8 - 1) - 1 : ℤ) = 127 from rfl]; omega
  have e4 : (2 ^ 23 + m : ℕ) = 8388608 + m := rfl
  rw [e1, e2, e3, e4]

/-- The magnitude of a half, read by moving its fields into an f32's, is its fields' value. -/
theorem normal (e m : ℕ) (h0 : 0 < e) (he : e < 31) (hm : m < 1024) :
    Ideal.ofBits .f32 (BitVec.ofNat 32 (e * 8388608 + m * 8192) + 939524096#32) = ((((1024 + m : ℕ) : ℝ) * (2:ℝ) ^ ((e:ℤ) - 25) : ℝ) : EReal) := by
  have : BitVec.ofNat 32 (e * 8388608 + m * 8192) + BitVec.ofNat 32 939524096 = BitVec.ofNat 32 ((e + 112) * 8388608 + m * 8192) := by
    rw [← BitVec.ofNat_add]; exact congrArg (BitVec.ofNat 32) (by omega)
  rw [this, ieee_f32 _ _ (by omega) (by omega), if_neg (by omega), if_neg (by omega)]
  congr 1
  push_cast
  rw [show ((e:ℤ) + 112 - 150) = ((e:ℤ) - 25) + (-13) by ring, zpow_add₀ (by norm_num)]
  norm_num
  ring

theorem sub (m : ℕ) (hm : m < 1024) :
    Ideal.ofBits .f32 (BitVec.ofNat 32 (0 * 8388608 + m * 8192) + 947912704#32) - Ideal.ofBits .f32 0x38800000#32 = (((m : ℝ) * (2:ℝ) ^ (-24 : ℤ) : ℝ) : EReal) := by
  have : BitVec.ofNat 32 (0 * 8388608 + m * 8192) + BitVec.ofNat 32 947912704 = BitVec.ofNat 32 (113 * 8388608 + m * 8192) := by
    rw [← BitVec.ofNat_add]; exact congrArg (BitVec.ofNat 32) (by omega)
  have h38 : (0x38800000#32) = BitVec.ofNat 32 (113 * 8388608 + 0) := by norm_num
  rw [this, h38, ieee_f32 _ _ (by omega) (by omega), ieee_f32 _ _ (by omega) (by omega), if_neg (by omega), if_neg (by omega), if_neg (by omega), if_neg (by omega), ← EReal.coe_sub]
  congr 1
  push_cast
  norm_num
  ring

theorem top (m : ℕ) (hm : m < 1024) :
    Ideal.ofBits .f32 (BitVec.ofNat 32 (255 * 8388608 + m * 8192)) = if m = 0 then (⊤ : EReal) else ⊥ := by
  rw [ieee_f32 _ _ (by omega) (by omega), if_pos rfl]
  by_cases hm0 : m = 0
  · simp [hm0]
  · rw [if_neg (by omega), if_neg hm0]

/-- The half's magnitude as the kernel reads it from its 16-bit pattern. -/
noncomputable def kmag (h : BitVec 16) : EReal :=
  if (h.signExtend 32 &&& 31744#32) = 0#32 then
    Ideal.ofBits .f32 (((h.signExtend 32 &&& 32767#32) <<< 13) + 947912704#32) - Ideal.ofBits .f32 0x38800000#32
  else if (h.signExtend 32 &&& 31744#32) = 31744#32 then Ideal.ofBits .f32 (((h.signExtend 32 &&& 32767#32) <<< 13) ||| 2139095040#32)
  else Ideal.ofBits .f32 (((h.signExtend 32 &&& 32767#32) <<< 13) + 939524096#32)

/-- The number a half's 16-bit pattern names. -/
noncomputable def mag (h : BitVec 16) : EReal :=
  if h.toNat / 1024 % 32 = 0 then (((h.toNat % 1024 : ℕ) : ℝ) * (2:ℝ) ^ (-24 : ℤ) : ℝ)
  else if h.toNat / 1024 % 32 = 31 then (if h.toNat % 1024 = 0 then ⊤ else ⊥)
  else (((1024 + h.toNat % 1024 : ℕ) : ℝ) * (2:ℝ) ^ (((h.toNat / 1024 % 32 : ℕ) : ℤ) - 25) : ℝ)

theorem ofNat_eq_iff (a b : ℕ) (ha : a < 2 ^ 32) (hb : b < 2 ^ 32) : (BitVec.ofNat 32 a = BitVec.ofNat 32 b) ↔ a = b := by
  constructor
  · intro h
    have := congrArg BitVec.toNat h
    rw [BitVec.toNat_ofNat, BitVec.toNat_ofNat] at this
    omega
  · rintro rfl; rfl

theorem kmag_eq (h : BitVec 16) : kmag h = mag h := by
  have hl := h.isLt
  unfold kmag mag
  rw [f6, f1]
  have c0 := ofNat_eq_iff (h.toNat / 1024 % 32 * 1024) 0 (by omega) (by omega)
  have c1 := ofNat_eq_iff (h.toNat / 1024 % 32 * 1024) 31744 (by omega) (by omega)
  have hm : h.toNat % 1024 < 1024 := by omega
  have he : h.toNat / 1024 % 32 < 32 := by omega
  generalize h.toNat % 1024 = m at *
  generalize h.toNat / 1024 % 32 = e at *
  by_cases h0 : e = 0
  · subst h0
    rw [if_pos rfl, if_pos rfl]
    exact sub m hm
  · rw [if_neg h0, if_neg (fun q => h0 (by have := c0.1 q; omega))]
    by_cases h1 : e = 31
    · subst h1
      rw [if_pos rfl, if_pos rfl, f7 m hm]
      exact top m hm
    · rw [if_neg h1, if_neg (fun q => h1 (by have := c1.1 q; omega))]
      exact normal e m (by omega) (by omega) hm

end Cert.Half
-- ==== Proof.Val.Words.lean ====
module

public import proofs.«01_k».proof.Proof.Gen.KernelIdeal.Skeleton
public import proofs.«01_k».proof.Proof.Val.Half
public import Idealize.ShloMosaic.Lib.Pointwise

/-! The kernel's payloads of the packed weight, its zero points and its scales, element by element. -/

@[expose] public section

namespace Cert.KernelIdeal.Gen

open Idealize.ShloMosaic Idealize.ShloMosaic.Tactic Idealize.ShloMosaic.Pointwise

/-- The four bits of the word `w` at position `p`. -/
def nib (w : BitVec 32) (p : ℕ) : BitVec 32 :=
  IntOp.andi (IntOp.shrsi .vector w (IntOp.muli (BitVec.ofNat 32 p) 4#32)) 15#32

/-- The four bits as a number. -/
noncomputable def nibf (w : BitVec 32) (p : ℕ) : EReal := FloatOps.sitofp (F := Ideal) FTy.f32 (nib w p)

/-- The number the 16 bits of a half name, with its sign. -/
noncomputable def half (h : BitVec 16) : EReal := if (h.signExtend 32 &&& 32768#32) = 0#32 then Cert.Half.mag h else 0 - Cert.Half.mag h

/-- One 128-lane chunk of the unpacked zero points, from the 128 words of a load and the chunk's first word in them. -/
noncomputable def zchunk (o : BitVec 32) (src : Vec Ideal S12x128 .i32) : FVec Ideal S12x128 .f32 :=
  let v369 : IVec S12x128 32 := iota .tc S12x128 32 [1] iota_S12x128_d1_w32
  let v374 : IVec S12x128 32 := addi (shrsi v369 (broadcast S12x128 3#32)) (broadcast S12x128 o)
  let v379 : IVec S12x128 32 := select (cmpi .slt v374 (broadcast S12x128 0#32)) (addi v374 (broadcast S12x128 128#32)) v374
  let v380 : IVec S12x128x1 32 := shapeCast S12x128x1 v379 shapeCasts_S12x128_S12x128x1
  let v381 : IVec S12x128 32 := shapeCast S12x128 v380 shapeCasts_S12x128x1_S12x128
  let v382 : IVec S12x128 32 := dynamicGather 1 src v381
  let v386 : IVec S12x128 32 := muli (andi v369 (broadcast S12x128 7#32)) (broadcast S12x128 4#32)
  let v389 : IVec S12x128 32 := andi (shrsi v382 v386) (broadcast S12x128 15#32)
  let v390 : FVec Ideal S12x128 .f32 := sitofp .f32 v389
  v390

/-- `zchunk` as the kernel stores it. -/
noncomputable def zchunk' (o : BitVec 32) (src : Vec Ideal S12x128 .i32) : FVec Ideal S12x128 .f32 :=
  shapeCast S12x128 (zchunk o src) shapeCasts_S12x128_S12x128

theorem lane_pos : ∀ n : Fin 128, IntOp.andi (BitVec.ofNat 32 n.val) 7#32 = BitVec.ofNat 32 (n.val % 8) := by decide +kernel

theorem lane_word : ∀ (s : Fin 8) (n : Fin 128), (Scalar.select
      (IntOp.cmpi CmpIPredicate.slt (IntOp.addi (IntOp.shrsi ArithUnit.vector (BitVec.ofNat 32 n.val) 3#32) (BitVec.ofNat 32 (16 * s.val))) 0#32)
      (IntOp.addi (IntOp.addi (IntOp.shrsi ArithUnit.vector (BitVec.ofNat 32 n.val) 3#32) (BitVec.ofNat 32 (16 * s.val))) 128#32)
      (IntOp.addi (IntOp.shrsi ArithUnit.vector (BitVec.ofNat 32 n.val) 3#32) (BitVec.ofNat 32 (16 * s.val)))).toNat % 128 = 16 * s.val + n.val / 8 := by
  decide +kernel

theorem zchunk_apply (s : Fin 8) (src : Vec Ideal S12x128 .i32) (r : Fin 12) (n : Fin 128) :
    zchunk (BitVec.ofNat 32 (16 * s.val)) src (ix2 r n) = nibf (src (ix2 r ⟨16 * s.val + n.val / 8, by omega⟩)) (n.val % 8) := by
  pointwise [zchunk]
  have h1 := lane_pos n
  have h2 := lane_word s n
  unfold nibf nib
  simp only [h1, h2]

theorem zchunk'_apply (s : Fin 8) (src : Vec Ideal S12x128 .i32) (r : Fin 12) (n : Fin 128) :
    zchunk' (BitVec.ofNat 32 (16 * s.val)) src (ix2 r n) = nibf (src (ix2 r ⟨16 * s.val + n.val / 8, by omega⟩)) (n.val % 8) := by
  have : zchunk' (BitVec.ofNat 32 (16 * s.val)) src (ix2 r n) = zchunk (BitVec.ofNat 32 (16 * s.val)) src (ix2 r n) := by
    pointwise [zchunk']
  rw [this, zchunk_apply]

theorem select_eq {α : Type} (a b : BitVec 32) (x y : α) : Scalar.select (IntOp.cmpi .eq a b) x y = if a = b then x else y := by
  by_cases h : a = b
  · subst h; rw [if_pos rfl]; simp [Scalar.select, IntOp.cmpi]
  · rw [if_neg h]; simp only [Scalar.select, IntOp.cmpi, beq_false_of_ne h]; rfl

theorem select_ne {α : Type} (a b : BitVec 32) (x y : α) : Scalar.select (IntOp.cmpi .ne a b) x y = if a = b then y else x := by
  by_cases h : a = b
  · subst h; rw [if_pos rfl]; simp [Scalar.select, IntOp.cmpi]
  · rw [if_neg h]; simp only [Scalar.select, IntOp.cmpi, bne, beq_false_of_ne h]; rfl

theorem ap_cmpi {s : Shape} {w : ℕ} (p : CmpIPredicate) (x y : IVec s w) (i : s.Idx) : cmpi p x y i = IntOp.cmpi p (x i) (y i) := rfl
theorem ap_andi {s : Shape} {w : ℕ} (x y : IVec s w) (i : s.Idx) : andi x y i = (x i) &&& (y i) := rfl
theorem ap_ori {s : Shape} {w : ℕ} (x y : IVec s w) (i : s.Idx) : ori x y i = (x i) ||| (y i) := rfl
theorem ap_addi {s : Shape} {w : ℕ} (x y : IVec s w) (i : s.Idx) : addi x y i = (x i) + (y i) := rfl
theorem ap_shli {s : Shape} (x : IVec s 32) (i : s.Idx) : shli x (broadcast s 13#32) i = (x i) <<< 13 := rfl
theorem ap_broadcast {s : Shape} {α : Type} (x : α) (i : s.Idx) : broadcast s x i = x := rfl
theorem ap_extsi {s : Shape} (x : IVec s 16) (h) (i : s.Idx) : extsi 32 x h i = (x i).signExtend 32 := rfl
theorem ap_subf {s : Shape} (x y : FVec Ideal s .f32) (i : s.Idx) : subf x y i = (x i : EReal) - y i := rfl
theorem ap_bitcast {s : Shape} (x : IVec s 32) (i : s.Idx) : bitcastToFloat (F := Ideal) .f32 x i = Ideal.ofBits .f32 (x i) := rfl
theorem ap_ofBits (b : BitVec 32) : FloatOps.ofBits (F := Ideal) .f32 b = Ideal.ofBits .f32 b := rfl

/-- The magnitude of a half as the kernel decodes it. -/
theorem mag_apply (h : Vec Ideal S12x256 .i16) (k : Fin 12) (n : Fin 256) : k0_pay235 (F := Ideal) h (ix2 k n) = Cert.Half.mag (h (ix2 k n)) := by
    rw [← Cert.Half.kmag_eq]
    unfold Cert.Half.kmag
    rw [← select_eq, ← select_eq]
    unfold k0_pay235 k0_pay234
    dsimp only [Idealize.ShloMosaic.select]
    rw [ap_cmpi, ap_cmpi, ap_subf, ap_bitcast, ap_bitcast, ap_bitcast, ap_ori, ap_addi, ap_addi, ap_shli, ap_andi, ap_andi, ap_extsi, ap_broadcast, ap_broadcast, ap_broadcast, ap_broadcast, ap_broadcast, ap_broadcast, ap_broadcast, ap_ofBits]

/-- The scale of a column group as the kernel decodes it. -/
theorem scale_apply (h : Vec Ideal S12x256 .i16) (k : Fin 12) (n : Fin 256) :
    k0_pay238 (F := Ideal) (k0_pay235 h) (k0_pay236 h) k0_pay237 (ix2 k n) = half (h (ix2 k n)) := by
  have e := mag_apply h k n
  generalize k0_pay235 (F := Ideal) h = g at e
  pointwise [k0_pay238, k0_pay236, k0_pay237, k0_pay234]
  rw [e, select_ne]
  rfl

/-- The word array unpacked, element by element. -/
theorem words_apply (v : Vec Ideal S192x256 .i32) (r : Fin 1536) (n : Fin 256) :
    k0_pay233 (F := Ideal) v (ix2 r n) = nibf (v (ix2 ⟨r.val / 8, by omega⟩ n)) (r.val % 8) := by
  pointwise [k0_pay233]
  rfl

theorem wpay0 (a : FVec Ideal S1536x256 .bf16) (b : FVec Ideal S12x256 .f32) (c : IVec S12x256 1) (d : FVec Ideal S12x256 .f32) (z : Vec Ideal S12x256 .f32) (r : Fin 128) (n : Fin 256) :
    k0_pay239 a b c d z (ix2 r n) = (a (ix2 ⟨0 + r.val, by omega⟩ n) - z (ix2 0 n) : EReal) * k0_pay238 b c d (ix2 0 n) := by
  pointwise [k0_pay239]

theorem wpay1 (a : FVec Ideal S1536x256 .bf16) (b : FVec Ideal S12x256 .f32) (c : IVec S12x256 1) (d : FVec Ideal S12x256 .f32) (z : Vec Ideal S12x256 .f32) (r : Fin 128) (n : Fin 256) :
    k0_pay240 a b c d z (ix2 r n) = (a (ix2 ⟨128 + r.val, by omega⟩ n) - z (ix2 1 n) : EReal) * k0_pay238 b c d (ix2 1 n) := by
  pointwise [k0_pay240]

theorem wpay2 (a : FVec Ideal S1536x256 .bf16) (b : FVec Ideal S12x256 .f32) (c : IVec S12x256 1) (d : FVec Ideal S12x256 .f32) (z : Vec Ideal S12x256 .f32) (r : Fin 128) (n : Fin 256) :
    k0_pay241 a b c d z (ix2 r n) = (a (ix2 ⟨256 + r.val, by omega⟩ n) - z (ix2 2 n) : EReal) * k0_pay238 b c d (ix2 2 n) := by
  pointwise [k0_pay241]

theorem wpay3 (a : FVec Ideal S1536x256 .bf16) (s : FVec Ideal S12x256 .f32) (z : Vec Ideal S12x256 .f32) (r : Fin 128) (n : Fin 256) :
    k0_pay243 a s (k0_pay242 z) (ix2 r n) = (a (ix2 ⟨384 + r.val, by omega⟩ n) - z (ix2 3 n) : EReal) * s (ix2 3 n) := by
  pointwise [k0_pay243, k0_pay242]

theorem wpay4 (a : FVec Ideal S1536x256 .bf16) (s : FVec Ideal S12x256 .f32) (z : Vec Ideal S12x256 .f32) (r : Fin 128) (n : Fin 256) :
    k0_pay244 a s z (ix2 r n) = (a (ix2 ⟨512 + r.val, by omega⟩ n) - z (ix2 4 n) : EReal) * s (ix2 4 n) := by
  pointwise [k0_pay244]

theorem wpay5 (a : FVec Ideal S1536x256 .bf16) (s : FVec Ideal S12x256 .f32) (z : Vec Ideal S12x256 .f32) (r : Fin 128) (n : Fin 256) :
    k0_pay245 a s z (ix2 r n) = (a (ix2 ⟨640 + r.val, by omega⟩ n) - z (ix2 5 n) : EReal) * s (ix2 5 n) := by
  pointwise [k0_pay245]

theorem wpay6 (a : FVec Ideal S1536x256 .bf16) (s : FVec Ideal S12x256 .f32) (z : Vec Ideal S12x256 .f32) (r : Fin 128) (n : Fin 256) :
    k0_pay247 (k0_pay246 a s z) (ix2 r n) = (a (ix2 ⟨768 + r.val, by omega⟩ n) - z (ix2 6 n) : EReal) * s (ix2 6 n) := by
  pointwise [k0_pay247, k0_pay246]

theorem wpay7 (a : FVec Ideal S1536x256 .bf16) (s : FVec Ideal S12x256 .f32) (z : Vec Ideal S12x256 .f32) (r : Fin 128) (n : Fin 256) :
    k0_pay248 a s z (ix2 r n) = (a (ix2 ⟨896 + r.val, by omega⟩ n) - z (ix2 7 n) : EReal) * s (ix2 7 n) := by
  pointwise [k0_pay248]

theorem wpay8 (a : FVec Ideal S1536x256 .bf16) (s : FVec Ideal S12x256 .f32) (z : Vec Ideal S12x256 .f32) (r : Fin 128) (n : Fin 256) :
    k0_pay249 a s z (ix2 r n) = (a (ix2 ⟨1024 + r.val, by omega⟩ n) - z (ix2 8 n) : EReal) * s (ix2 8 n) := by
  pointwise [k0_pay249]

theorem wpay9 (a : FVec Ideal S1536x256 .bf16) (s : FVec Ideal S12x256 .f32) (z : Vec Ideal S12x256 .f32) (r : Fin 128) (n : Fin 256) :
    k0_pay250 a s z (ix2 r n) = (a (ix2 ⟨1152 + r.val, by omega⟩ n) - z (ix2 9 n) : EReal) * s (ix2 9 n) := by
  pointwise [k0_pay250]

theorem wpay10 (a : FVec Ideal S1536x256 .bf16) (s : FVec Ideal S12x256 .f32) (z : Vec Ideal S12x256 .f32) (r : Fin 128) (n : Fin 256) :
    k0_pay260 s (k0_pay251 z) (k0_pay252 a) (ix2 r n) = (a (ix2 ⟨1280 + r.val, by omega⟩ n) - z (ix2 10 n) : EReal) * s (ix2 10 n) := by
  pointwise [k0_pay260, k0_pay251, k0_pay252]

theorem wpay11 (a : FVec Ideal S1536x256 .bf16) (s : FVec Ideal S12x256 .f32) (z : Vec Ideal S12x256 .f32) (r : Fin 128) (n : Fin 256) :
    k0_pay261 a s z (ix2 r n) = (a (ix2 ⟨1408 + r.val, by omega⟩ n) - z (ix2 11 n) : EReal) * s (ix2 11 n) := by
  pointwise [k0_pay261]

end Cert.KernelIdeal.Gen
-- ==== Proof.Val.Pieces.lean ====
module

public import proofs.«01_k».proof.Proof.Val.Words
public import Idealize.ShloMosaic.Lib.Pipeline.ValueKit.Geometry

/-! What the stores of the decoded weight and of the unpacked zero points leave in their buffers. -/

@[expose] public section

namespace Cert.KernelIdeal.Gen

open Idealize.ShloMosaic Idealize.ShloMosaic.Tactic Idealize.ShloMosaic.Pointwise Idealize.SL

/-- The unpacked zero point of a column group at a column. -/
noncomputable def zv (x2 : Vec Ideal S12x1120 .i32) (r : Fin 12) (m : Fin 8960) : EReal :=
  nibf (x2 (ix2 r ⟨m.val / 8, by omega⟩)) (m.val % 8)

/-- The decoded weight at a row and a column: nibble minus zero point, times scale; the blocks hold the column's own tile of 256 columns. -/
noncomputable def wv (x1 : Vec Ideal S192x256 .i32) (x3 : Vec Ideal S12x256 .i16) (z : Vec Ideal S12x8960 .f32) (d : Fin 1536) (n : Fin 8960) : EReal :=
  (nibf (x1 (ix2 ⟨d.val / 8, by omega⟩ ⟨n.val % 256, by omega⟩)) (d.val % 8) - z (ix2 ⟨d.val / 128, by omega⟩ n))
    * half (x3 (ix2 ⟨d.val / 128, by omega⟩ ⟨n.val % 256, by omega⟩))

/-- The tile of 256 columns of the zero points at a tile's number. -/
def ztile (z : Vec Ideal S12x8960 .f32) (j : ℕ) (hj : j < 35) : Vec Ideal S12x256 .f32 :=
  fun y => z (ix2 (y 0) ⟨256 * j + (y 1).val, by have := (y 1).isLt; change _ < 256 at this; omega⟩)

/-- One group of 128 rows of the decoded weight, placed in the weight's buffer. -/
theorem wpiece (x1 : Vec Ideal S192x256 .i32) (x3 : Vec Ideal S12x256 .i16) (z : Vec Ideal S12x8960 .f32) (j : ℕ) (hj : j < 35) (k : Fin 12)
    (off : Fin 2 → ℕ) (hoff : off = ![128 * k.val, 256 * j]) (inb : ∀ a, off a + S128x256.size a ≤ S1536x8960.size a)
    (P : FVec Ideal S128x256 .bf16)
    (hP : ∀ (r : Fin 128) (n : Fin 256), P (ix2 r n) = (k0_pay233 (F := Ideal) x1 (ix2 ⟨128 * k.val + r.val, by omega⟩ n) - ztile z j hj (ix2 k n) : EReal)
      * k0_pay238 (F := Ideal) (k0_pay235 x3) (k0_pay236 x3) k0_pay237 (ix2 k n))
    (x : (Rect.unit (s := S1536x8960) off S128x256.size inb).shape.Idx) :
    P x = wv x1 x3 z ((Rect.unit (s := S1536x8960) off S128x256.size inb).emb x 0) ((Rect.unit (s := S1536x8960) off S128x256.size inb).emb x 1) := by
  subst hoff
  obtain ⟨r, n, rfl⟩ : ∃ (r : Fin 128) (n : Fin 256), x = ix2 r n := ⟨x 0, x 1, eq_ix2 x⟩
  have e0 : (Rect.unit (s := S1536x8960) ![128 * k.val, 256 * j] S128x256.size inb).emb (ix2 r n) 0 = (⟨128 * k.val + r.val, by omega⟩ : Fin 1536) :=
    Fin.ext (ValueKit.rect_emb_unit_val (s := S1536x8960) _ _ inb (ix2 r n) 0)
  have e1 : (Rect.unit (s := S1536x8960) ![128 * k.val, 256 * j] S128x256.size inb).emb (ix2 r n) 1 = (⟨256 * j + n.val, by omega⟩ : Fin 8960) :=
    Fin.ext (ValueKit.rect_emb_unit_val (s := S1536x8960) _ _ inb (ix2 r n) 1)
  rw [e0, e1, hP, words_apply, scale_apply]
  unfold wv ztile
  have h1 : (⟨(256 * j + n.val) % 256, by omega⟩ : Fin 256) = n := Fin.ext (by simp only []; omega)
  have h2 : (⟨(128 * k.val + r.val) / 128, by omega⟩ : Fin 12) = k := Fin.ext (by simp only []; omega)
  simp only [h1, h2]
  rfl

/-- The weight's buffer after a step stored the twelve groups of its tile: that tile is decoded, the others are what they were. -/
theorem wread {sig : RefSig} {κ : Kind} {sp : Space} (v : View sig κ sp S1536x8960 .bf16) (f : v.ty.Contents (Elt Ideal))
    (x1 : Vec Ideal S192x256 .i32) (x3 : Vec Ideal S12x256 .i16) (z : Vec Ideal S12x8960 .f32) (j : ℕ) (hj : j < 35)
    (off : Fin 12 → Fin 2 → ℕ) (hoff : ∀ k, off k = ![128 * k.val, 256 * j]) (inb : ∀ k, ∀ a, off k a + S128x256.size a ≤ S1536x8960.size a)
    (P : Fin 12 → FVec Ideal S128x256 .bf16)
    (hP : ∀ (k : Fin 12) (r : Fin 128) (n : Fin 256), P k (ix2 r n) = (k0_pay233 (F := Ideal) x1 (ix2 ⟨128 * k.val + r.val, by omega⟩ n) - ztile z j hj (ix2 k n) : EReal)
      * k0_pay238 (F := Ideal) (k0_pay235 x3) (k0_pay236 x3) k0_pay237 (ix2 k n))
    (L : List (View.Piece (Elt Ideal) S1536x8960 .bf16))
    (hL : L = (List.finRange 12).reverse.map fun k => (⟨Rect.unit (off k) S128x256.size (inb k), P k⟩ : View.Piece (Elt Ideal) S1536x8960 .bf16))
    (d : Fin 1536) (n : Fin 8960) :
    v.read (Elt Ideal) (v.writes (Elt Ideal) f L) (ix2 d n) = if n.val / 256 = j then wv x1 x3 z d n else v.read (Elt Ideal) f (ix2 d n) := by
  subst hL
  split
  · rename_i hn
    refine View.read_writes_apply_of_pieces (v := v) (f := f) (fun y => wv x1 x3 z (y 0) (y 1)) _ ?_ (ix2 d n) ?_
    · intro p hp
      obtain ⟨k, -, rfl⟩ := List.mem_map.mp hp
      exact wpiece x1 x3 z j hj k _ (hoff k) (inb k) (P k) (hP k)
    · refine ⟨_, List.mem_map.mpr ⟨⟨d.val / 128, by omega⟩, by simp, rfl⟩, ?_⟩
      rw [Rect.mem_set_unit]
      intro a
      rw [hoff]
      fin_cases a
      · show 128 * (d.val / 128) ≤ d.val ∧ d.val < 128 * (d.val / 128) + 128
        omega
      · show 256 * j ≤ n.val ∧ n.val < 256 * j + 256
        omega
  · rename_i hn
    refine View.read_writes_apply_of_forall_not_mem (v := v) (f := f) (ix2 d n) _ ?_
    intro p hp
    obtain ⟨k, -, rfl⟩ := List.mem_map.mp hp
    rw [Rect.mem_set_unit]
    intro hm
    have := hm 1
    rw [hoff] at this
    change 256 * j ≤ n.val ∧ n.val < 256 * j + 256 at this
    omega

/-- One 128-lane chunk of zero points, placed in the zero points' buffer. -/
theorem zpiece (x2 : Vec Ideal S12x1120 .i32) (g : ℕ) (s : Fin 8) (hk : 8 * g + s.val < 70) (src : Vec Ideal S12x128 .i32)
    (hsrc : ∀ (r : Fin 12) (n : Fin 128), (h : 128 * g + n.val < 1120) → src (ix2 r n) = x2 (ix2 r ⟨128 * g + n.val, h⟩))
    (o : BitVec 32) (ho : o = BitVec.ofNat 32 (16 * s.val)) (off : ℕ) (hoff : off = 128 * (8 * g + s.val))
    (inb : ∀ a, (![0, off] : Fin 2 → ℕ) a + S12x128.size a ≤ S12x8960.size a)
    (P : FVec Ideal S12x128 .f32) (hP : P = zchunk' o src)
    (x : (Rect.unit (s := S12x8960) ![0, off] S12x128.size inb).shape.Idx) :
    P x = zv x2 ((Rect.unit (s := S12x8960) ![0, off] S12x128.size inb).emb x 0) ((Rect.unit (s := S12x8960) ![0, off] S12x128.size inb).emb x 1) := by
  subst hP ho hoff
  obtain ⟨r, n, rfl⟩ : ∃ (r : Fin 12) (n : Fin 128), x = ix2 r n := ⟨x 0, x 1, eq_ix2 x⟩
  have e0 : (Rect.unit (s := S12x8960) ![0, 128 * (8 * g + s.val)] S12x128.size inb).emb (ix2 r n) 0 = r :=
    Fin.ext ((ValueKit.rect_emb_unit_val (s := S12x8960) _ _ inb (ix2 r n) 0).trans (Nat.zero_add _))
  have e1 : (Rect.unit (s := S12x8960) ![0, 128 * (8 * g + s.val)] S12x128.size inb).emb (ix2 r n) 1 = (⟨128 * (8 * g + s.val) + n.val, by omega⟩ : Fin 8960) :=
    Fin.ext (ValueKit.rect_emb_unit_val (s := S12x8960) _ _ inb (ix2 r n) 1)
  rw [e0, e1]
  unfold zv
  refine (zchunk'_apply s src r n).trans ?_
  rw [hsrc r _ (by simp only []; omega)]
  have h1 : (⟨128 * g + (16 * s.val + n.val / 8), by omega⟩ : Fin 1120) = ⟨(128 * (8 * g + s.val) + n.val) / 8, by omega⟩ := Fin.ext (by simp only []; omega)
  have h2 : n.val % 8 = (128 * (8 * g + s.val) + n.val) % 8 := by omega
  rw [h1, h2]

end Cert.KernelIdeal.Gen
-- ==== Proof.Val.Step.lean ====
module

public import proofs.«01_k».proof.Proof.Val.Pieces

/-! What one step of the kernel's grid leaves in the base output's block, in the weight's buffer and in the zero points' buffer. -/

@[expose] public section

set_option maxRecDepth 16384

namespace Cert.KernelIdeal.Gen

open Idealize.ShloMosaic Idealize.ShloMosaic.Tactic Idealize.ShloMosaic.Pointwise Idealize.SL

theorem col_lt (i : grid0.Coords) : (i 1).val < 35 := (i 1).isLt

/-- One step, as a relation between what its buffers held and what they hold: the zero points are unpacked at the first step, the step's
    tile of the weight is decoded in the first row block, and the base block is the activations times the weight's tile. -/
structure Step (i : grid0.Coords) (x0 : Vec Ideal S256x1536 .bf16) (x1 : Vec Ideal S192x256 .i32) (x2 : Vec Ideal S12x1120 .i32) (x3 : Vec Ideal S12x256 .i16)
    (d20 : Vec Ideal S1536x8960 .bf16) (d21 : Vec Ideal S12x8960 .f32) (n13 : Vec Ideal S256x256 .bf16) (n20 : Vec Ideal S1536x8960 .bf16) (n21 : Vec Ideal S12x8960 .f32) : Prop where
  z1 : k0_cond1 i = 1#1 → ∀ (r : Fin 12) (n : Fin 8960), n21 (ix2 r n) = zv x2 r n
  z0 : ¬ k0_cond1 i = 1#1 → n21 = d21
  w1 : k0_cond3 i = 1#1 → ∀ (d : Fin 1536) (n : Fin 8960), n20 (ix2 d n) = if n.val / 256 = (i 1).val then wv x1 x3 n21 d n else d20 (ix2 d n)
  w0 : ¬ k0_cond3 i = 1#1 → n20 = d20
  b : ∀ (r n : Fin 256), n13 (ix2 r n) = ∑ x : Fin 1536, (x0 (ix2 r x) * n20 (ix2 x ⟨256 * (i 1).val + n.val, by have := col_lt i; omega⟩) : EReal)

/-- A buffer read whole through the rectangle at the origin. -/
theorem readAt_origin {sig : RefSig} {κ : Kind} {sp : Space} {a b : ℕ} {e : EltTy} (v : View sig κ sp ⟨2, ![a, b]⟩ e) (f : v.ty.Contents (Elt Ideal))
    (inb : ∀ k, (![0, 0] : Fin 2 → ℕ) k + (⟨2, ![a, b]⟩ : Shape).size k ≤ (⟨2, ![a, b]⟩ : Shape).size k) :
    View.readAt (Elt Ideal) v (Rect.unit (s := ⟨2, ![a, b]⟩) ![0, 0] (⟨2, ![a, b]⟩ : Shape).size inb).toLoadRect f = v.read (Elt Ideal) f := by
  funext y
  rw [View.readAt_apply]
  congr 1
  funext k
  refine Fin.ext ((ValueKit.rect_emb_unit_val (s := ⟨2, ![a, b]⟩) _ _ inb y k).trans ?_)
  fin_cases k <;> exact Nat.zero_add _

/-- A tile of 256 columns read out of a buffer. -/
theorem readAt_tile {sig : RefSig} {κ : Kind} {sp : Space} {a : ℕ} {e : EltTy} (v : View sig κ sp ⟨2, ![a, 8960]⟩ e) (f : v.ty.Contents (Elt Ideal))
    (j : ℕ) (hj : j < 35) (off : Fin 2 → ℕ) (hoff : off = ![0, 256 * j])
    (inb : ∀ k, off k + (⟨2, ![a, 256]⟩ : Shape).size k ≤ (⟨2, ![a, 8960]⟩ : Shape).size k) (r : Fin a) (n : Fin 256) :
    View.readAt (Elt Ideal) v (Rect.unit (s := ⟨2, ![a, 8960]⟩) off (⟨2, ![a, 256]⟩ : Shape).size inb).toLoadRect f (ix2 r n)
      = v.read (Elt Ideal) f (ix2 r ⟨256 * j + n.val, by omega⟩) := by
  subst hoff
  rw [View.readAt_apply]
  congr 1
  funext k
  refine Fin.ext ((ValueKit.rect_emb_unit_val (s := ⟨2, ![a, 8960]⟩) _ _ inb (ix2 r n) k).trans ?_)
  fin_cases k
  · exact Nat.zero_add _
  · rfl

/-- The base block stored whole: activations times the weight's tile. -/
theorem bread {sig : RefSig} {κ : Kind} {sp : Space} (v : View sig κ sp S256x256 .bf16) (f : v.ty.Contents (Elt Ideal))
    (inb : ∀ a, (![0, 0] : Fin 2 → ℕ) a + S256x256.size a ≤ S256x256.size a)
    (x0 : Vec Ideal S256x1536 .bf16) (w : Vec Ideal S1536x256 .bf16) (r n : Fin 256) :
    v.read (Elt Ideal) (v.writes (Elt Ideal) f [(⟨Rect.unit ![0, 0] S256x256.size inb, k0_pay291 (F := Ideal) (k0_pay279 x0 w)⟩ : View.Piece (Elt Ideal) S256x256 .bf16)]) (ix2 r n)
      = ∑ x : Fin 1536, (x0 (ix2 r x) * w (ix2 x n) : EReal) := by
  have h := View.read_writes_cons_emb (v := v) (f := f) (Rect.unit (s := S256x256) ![0, 0] S256x256.size inb) (k0_pay291 (F := Ideal) (k0_pay279 x0 w)) [] (ix2 r n)
  have e : (Rect.unit (s := S256x256) ![0, 0] S256x256.size inb).emb (ix2 r n) = ix2 r n := by
    funext k
    refine Fin.ext ((ValueKit.rect_emb_unit_val (s := S256x256) _ _ inb (ix2 r n) k).trans ?_)
    fin_cases k <;> exact Nat.zero_add _
  rw [e] at h
  refine h.trans ?_
  pointwise [k0_pay291, k0_pay279]

/-- The offsets of the twelve groups of rows of a step's tile. -/
def woff (i : grid0.Coords) : Fin 12 → Fin 2 → ℕ :=
  ![k0_off50 i, k0_off51 i, k0_off52 i, k0_off53 i, k0_off54 i, k0_off55 i, k0_off56 i, k0_off57 i, k0_off58 i, k0_off59 i, k0_off60 i, k0_off61 i]

theorem woff_eq (i : grid0.Coords) : ∀ k, woff i k = ![128 * k.val, 256 * (i 1).val] := by
  intro k
  fin_cases k
  · exact k0_off50_eq i
  · exact k0_off51_eq i
  · exact k0_off52_eq i
  · exact k0_off53_eq i
  · exact k0_off54_eq i
  · exact k0_off55_eq i
  · exact k0_off56_eq i
  · exact k0_off57_eq i
  · exact k0_off58_eq i
  · exact k0_off59_eq i
  · exact k0_off60_eq i
  · exact k0_off61_eq i

theorem woff_inb (i : grid0.Coords) (k : Fin 12) : ∀ a, woff i k a + S128x256.size a ≤ S1536x8960.size a := by
  intro a
  rw [woff_eq]
  have := col_lt i
  fin_cases a
  · show 128 * k.val + 128 ≤ 1536
    omega
  · show 256 * (i 1).val + 256 ≤ 8960
    omega

/-- The twelve groups of rows a step decodes, from its words, its scales and its zero points. -/
noncomputable def wpays (x1 : Vec Ideal S192x256 .i32) (x3 : Vec Ideal S12x256 .i16) (z : Vec Ideal S12x256 .f32) : Fin 12 → FVec Ideal S128x256 .bf16 :=
  let a := k0_pay233 (F := Ideal) x1
  let b := k0_pay235 (F := Ideal) x3
  let c := k0_pay236 (F := Ideal) x3
  let d := k0_pay237 (F := Ideal)
  let s := k0_pay238 b c d
  ![k0_pay239 a b c d z, k0_pay240 a b c d z, k0_pay241 a b c d z, k0_pay243 a s (k0_pay242 z), k0_pay244 a s z, k0_pay245 a s z,
    k0_pay247 (k0_pay246 a s z), k0_pay248 a s z, k0_pay249 a s z, k0_pay250 a s z, k0_pay260 s (k0_pay251 z) (k0_pay252 a), k0_pay261 a s z]

theorem wpays_apply (x1 : Vec Ideal S192x256 .i32) (x3 : Vec Ideal S12x256 .i16) (z : Vec Ideal S12x256 .f32) (k : Fin 12) (r : Fin 128) (n : Fin 256) :
    wpays x1 x3 z k (ix2 r n) = (k0_pay233 (F := Ideal) x1 (ix2 ⟨128 * k.val + r.val, by omega⟩ n) - z (ix2 k n) : EReal)
      * k0_pay238 (F := Ideal) (k0_pay235 x3) (k0_pay236 x3) k0_pay237 (ix2 k n) := by
  unfold wpays
  fin_cases k
  · exact wpay0 _ _ _ _ _ r n
  · exact wpay1 _ _ _ _ _ r n
  · exact wpay2 _ _ _ _ _ r n
  · exact wpay3 _ _ _ r n
  · exact wpay4 _ _ _ r n
  · exact wpay5 _ _ _ r n
  · exact wpay6 _ _ _ r n
  · exact wpay7 _ _ _ r n
  · exact wpay8 _ _ _ r n
  · exact wpay9 _ _ _ r n
  · exact wpay10 _ _ _ r n
  · exact wpay11 _ _ _ r n

/-- The stores of the twelve groups, the last one first. -/
noncomputable def wlist (i : grid0.Coords) (P : Fin 12 → FVec Ideal S128x256 .bf16) : List (View.Piece (Elt Ideal) S1536x8960 .bf16) :=
  [⟨Rect.unit (woff i 11) S128x256.size (woff_inb i 11), P 11⟩, ⟨Rect.unit (woff i 10) S128x256.size (woff_inb i 10), P 10⟩,
   ⟨Rect.unit (woff i 9) S128x256.size (woff_inb i 9), P 9⟩, ⟨Rect.unit (woff i 8) S128x256.size (woff_inb i 8), P 8⟩,
   ⟨Rect.unit (woff i 7) S128x256.size (woff_inb i 7), P 7⟩, ⟨Rect.unit (woff i 6) S128x256.size (woff_inb i 6), P 6⟩,
   ⟨Rect.unit (woff i 5) S128x256.size (woff_inb i 5), P 5⟩, ⟨Rect.unit (woff i 4) S128x256.size (woff_inb i 4), P 4⟩,
   ⟨Rect.unit (woff i 3) S128x256.size (woff_inb i 3), P 3⟩, ⟨Rect.unit (woff i 2) S128x256.size (woff_inb i 2), P 2⟩,
   ⟨Rect.unit (woff i 1) S128x256.size (woff_inb i 1), P 1⟩, ⟨Rect.unit (woff i 0) S128x256.size (woff_inb i 0), P 0⟩]

theorem wlist_read {sig : RefSig} {κ : Kind} {sp : Space} (v : View sig κ sp S1536x8960 .bf16) (f : v.ty.Contents (Elt Ideal)) (i : grid0.Coords)
    (x1 : Vec Ideal S192x256 .i32) (x3 : Vec Ideal S12x256 .i16) (z : Vec Ideal S12x8960 .f32) (z' : Vec Ideal S12x256 .f32)
    (hz : ∀ (r : Fin 12) (n : Fin 256), z' (ix2 r n) = z (ix2 r ⟨256 * (i 1).val + n.val, by have := col_lt i; omega⟩)) (d : Fin 1536) (n : Fin 8960) :
    v.read (Elt Ideal) (v.writes (Elt Ideal) f (wlist i (wpays x1 x3 z'))) (ix2 d n)
      = if n.val / 256 = (i 1).val then wv x1 x3 z d n else v.read (Elt Ideal) f (ix2 d n) :=
  wread v f x1 x3 z (i 1).val (col_lt i) (woff i) (woff_eq i) (woff_inb i) (wpays x1 x3 z') (fun k r n => by
    rw [wpays_apply]
    have e : ztile z (i 1).val (col_lt i) (ix2 k n) = z' (ix2 k n) := (hz k n).symm
    rw [e]) _ rfl d n

/-- A step of a later row block. -/
theorem step_rest (i : grid0.Coords) (hc1 : ¬ k0_cond1 i = 1#1) (hc3 : ¬ k0_cond3 i = 1#1)
    {κ : Kind} {sp13 sp20 sp21 : Space} (v13 : View sig κ sp13 S256x256 .bf16) (v20 : View sig κ sp20 S1536x8960 .bf16) (v21 : View sig κ sp21 S12x8960 .f32)
    (f13 : v13.ty.Contents (Elt Ideal)) (f20 : v20.ty.Contents (Elt Ideal)) (f21 : v21.ty.Contents (Elt Ideal))
    (x0 X0 : Vec Ideal S256x1536 .bf16) (x1 : Vec Ideal S192x256 .i32) (x2 : Vec Ideal S12x1120 .i32) (x3 : Vec Ideal S12x256 .i16) (hX0 : X0 = x0)
    (d20 : Vec Ideal S1536x8960 .bf16) (d21 : Vec Ideal S12x8960 .f32) (h20 : v20.read (Elt Ideal) f20 = d20) (h21 : v21.read (Elt Ideal) f21 = d21)
    (inb : ∀ a, (![0, 0] : Fin 2 → ℕ) a + S256x256.size a ≤ S256x256.size a)
    (inb78 : ∀ k, k0_off78 i k + S1536x256.size k ≤ S1536x8960.size k) :
    Step i x0 x1 x2 x3 d20 d21
      (v13.read (Elt Ideal) (v13.writes (Elt Ideal) f13 [(⟨Rect.unit ![0, 0] S256x256.size inb, k0_pay291 (F := Ideal) (k0_pay279 X0
        (View.readAt (Elt Ideal) v20 (Rect.unit (s := S1536x8960) (k0_off78 i) S1536x256.size inb78).toLoadRect f20))⟩ : View.Piece (Elt Ideal) S256x256 .bf16)]))
      (v20.read (Elt Ideal) f20) (v21.read (Elt Ideal) f21) where
  z1 h := absurd h hc1
  z0 _ := h21
  w1 h := absurd h hc3
  w0 _ := h20
  b r n := by
    subst hX0
    refine (bread v13 f13 inb X0 _ r n).trans (Finset.sum_congr rfl fun x _ => ?_)
    exact congrArg (X0 (ix2 r x) * ·) (readAt_tile v20 f20 (i 1).val (col_lt i) _ (k0_off78_eq i) inb78 x n)

/-- A step of the first row block, its zero points at hand. -/
theorem step_first (i : grid0.Coords) (hc1 : ¬ k0_cond1 i = 1#1) (hc3 : k0_cond3 i = 1#1)
    {κ : Kind} {sp13 sp20 sp21 : Space} (v13 : View sig κ sp13 S256x256 .bf16) (v20 : View sig κ sp20 S1536x8960 .bf16) (v21 : View sig κ sp21 S12x8960 .f32)
    (f13 : v13.ty.Contents (Elt Ideal)) (f20 : v20.ty.Contents (Elt Ideal)) (f21 : v21.ty.Contents (Elt Ideal))
    (x0 X0 : Vec Ideal S256x1536 .bf16) (x1 X1 : Vec Ideal S192x256 .i32) (x2 : Vec Ideal S12x1120 .i32) (x3 X3 : Vec Ideal S12x256 .i16) (hX0 : X0 = x0) (hX1 : X1 = x1) (hX3 : X3 = x3)
    (d20 : Vec Ideal S1536x8960 .bf16) (d21 : Vec Ideal S12x8960 .f32) (h20 : v20.read (Elt Ideal) f20 = d20) (h21 : v21.read (Elt Ideal) f21 = d21)
    (inb : ∀ a, (![0, 0] : Fin 2 → ℕ) a + S256x256.size a ≤ S256x256.size a)
    (inb78 : ∀ k, k0_off78 i k + S1536x256.size k ≤ S1536x8960.size k)
    (inb49 : ∀ k, k0_off49 i k + S12x256.size k ≤ S12x8960.size k)
    (L L' : List (View.Piece (Elt Ideal) S1536x8960 .bf16))
    (hL : L = wlist i (wpays X1 X3 (View.readAt (Elt Ideal) v21 (Rect.unit (s := S12x8960) (k0_off49 i) S12x256.size inb49).toLoadRect f21)))
    (hL' : L' = L) :
    Step i x0 x1 x2 x3 d20 d21
      (v13.read (Elt Ideal) (v13.writes (Elt Ideal) f13 [(⟨Rect.unit ![0, 0] S256x256.size inb, k0_pay291 (F := Ideal) (k0_pay279 X0
        (v20.readCov L' (Rect.unit (s := S1536x8960) (k0_off78 i) S1536x256.size inb78).toLoadRect))⟩ : View.Piece (Elt Ideal) S256x256 .bf16)]))
      (v20.read (Elt Ideal) (v20.writes (Elt Ideal) f20 L)) (v21.read (Elt Ideal) f21) := by
  subst hX0 hX1 hX3 hL' hL
  have hr := fun f d n => wlist_read v20 f i X1 X3 (v21.read (Elt Ideal) f21)
    (View.readAt (Elt Ideal) v21 (Rect.unit (s := S12x8960) (k0_off49 i) S12x256.size inb49).toLoadRect f21)
    (fun r n => readAt_tile v21 f21 (i 1).val (col_lt i) _ (k0_off49_eq i) inb49 r n) d n
  refine ⟨fun h => absurd h hc1, fun _ => h21, fun _ d n => ?_, fun h => absurd hc3 h, fun r n => ?_⟩
  · rw [hr, h20]
  · refine (bread v13 f13 inb X0 _ r n).trans (Finset.sum_congr rfl fun x _ => congrArg (X0 (ix2 r x) * ·) ?_)
    refine (readAt_tile v20 _ (i 1).val (col_lt i) _ (k0_off78_eq i) inb78 x n).trans ?_
    rw [hr, hr, if_pos (by simp only []; omega), if_pos (by simp only []; omega)]

/-- The first step, which unpacks the zero points. -/
theorem step_zero (i : grid0.Coords) (hc1 : k0_cond1 i = 1#1) (hc3 : k0_cond3 i = 1#1)
    {κ : Kind} {sp13 sp20 sp21 : Space} (v13 : View sig κ sp13 S256x256 .bf16) (v20 : View sig κ sp20 S1536x8960 .bf16) (v21 : View sig κ sp21 S12x8960 .f32)
    (f13 : v13.ty.Contents (Elt Ideal)) (f20 : v20.ty.Contents (Elt Ideal)) (f21 : v21.ty.Contents (Elt Ideal))
    (x0 X0 : Vec Ideal S256x1536 .bf16) (x1 X1 : Vec Ideal S192x256 .i32) (x2 : Vec Ideal S12x1120 .i32) (x3 X3 : Vec Ideal S12x256 .i16) (hX0 : X0 = x0) (hX1 : X1 = x1) (hX3 : X3 = x3)
    (d20 : Vec Ideal S1536x8960 .bf16) (d21 : Vec Ideal S12x8960 .f32) (h20 : v20.read (Elt Ideal) f20 = d20)
    (inb : ∀ a, (![0, 0] : Fin 2 → ℕ) a + S256x256.size a ≤ S256x256.size a)
    (inb78 : ∀ k, k0_off78 i k + S1536x256.size k ≤ S1536x8960.size k)
    (inb49 : ∀ k, k0_off49 i k + S12x256.size k ≤ S12x8960.size k)
    (Z : List (View.Piece (Elt Ideal) S12x8960 .f32))
    (hZ : ∀ (f : v21.ty.Contents (Elt Ideal)) (r : Fin 12) (n : Fin 8960), v21.read (Elt Ideal) (v21.writes (Elt Ideal) f Z) (ix2 r n) = zv x2 r n)
    (L L' : List (View.Piece (Elt Ideal) S1536x8960 .bf16))
    (hL : L = wlist i (wpays X1 X3 (v21.readCov Z (Rect.unit (s := S12x8960) (k0_off49 i) S12x256.size inb49).toLoadRect)))
    (hL' : L' = L) :
    Step i x0 x1 x2 x3 d20 d21
      (v13.read (Elt Ideal) (v13.writes (Elt Ideal) f13 [(⟨Rect.unit ![0, 0] S256x256.size inb, k0_pay291 (F := Ideal) (k0_pay279 X0
        (v20.readCov L' (Rect.unit (s := S1536x8960) (k0_off78 i) S1536x256.size inb78).toLoadRect))⟩ : View.Piece (Elt Ideal) S256x256 .bf16)]))
      (v20.read (Elt Ideal) (v20.writes (Elt Ideal) f20 L)) (v21.read (Elt Ideal) (v21.writes (Elt Ideal) f21 Z)) := by
  subst hX0 hX1 hX3 hL' hL
  have hr := fun f d n => wlist_read v20 f i X1 X3 (v21.read (Elt Ideal) (v21.writes (Elt Ideal) f21 Z))
    (v21.readCov Z (Rect.unit (s := S12x8960) (k0_off49 i) S12x256.size inb49).toLoadRect)
    (fun r n => by
      refine (readAt_tile v21 _ (i 1).val (col_lt i) _ (k0_off49_eq i) inb49 r n).trans ?_
      rw [hZ, hZ]) d n
  refine ⟨fun _ => hZ f21, fun h => absurd hc1 h, fun _ d n => ?_, fun h => absurd hc3 h, fun r n => ?_⟩
  · rw [hr, h20]
  · refine (bread v13 f13 inb X0 _ r n).trans (Finset.sum_congr rfl fun x _ => congrArg (X0 (ix2 r x) * ·) ?_)
    refine (readAt_tile v20 _ (i 1).val (col_lt i) _ (k0_off78_eq i) inb78 x n).trans ?_
    rw [hr, hr, if_pos (by simp only []; omega), if_pos (by simp only []; omega)]

end Cert.KernelIdeal.Gen
-- ==== Proof.Val.Zero.lean ====
module

public import proofs.«01_k».proof.Proof.Val.Step

/-! The zero points' buffer after the first step's seventy stores. -/

@[expose] public section

set_option maxRecDepth 16384

namespace Cert.KernelIdeal.Gen

open Idealize.ShloMosaic Idealize.ShloMosaic.Tactic Idealize.ShloMosaic.Pointwise Idealize.SL

/-- The last load's 96 words, filled up to 128 with zeros. -/
def zpad (s96 : Vec Ideal S12x96 .i32) : Vec Ideal S12x128 .i32 :=
  concatenate S12x128 1 [⟨S12x96, s96⟩, ⟨S12x32, broadcast S12x32 0#32⟩] concatenates_S12x96_S12x32_S12x128_d1

theorem zpad_apply (s96 : Vec Ideal S12x96 .i32) (r : Fin 12) (n : Fin 128) (h : n.val < 96) : zpad s96 (ix2 r n) = s96 (ix2 r ⟨n.val, h⟩) := by
  pointwise [zpad]
  rw [dif_pos h]

/-- 128 words of the packed zero points as a load reads them. -/
theorem zsrc {sig : RefSig} {κ : Kind} {sp : Space} (v : View sig κ sp S12x1120 .i32) (f : v.ty.Contents (Elt Ideal)) (x2 : Vec Ideal S12x1120 .i32)
    (hf : v.read (Elt Ideal) f = x2) (g off : ℕ) (hoff : off = 128 * g) (inb : ∀ k, (![0, off] : Fin 2 → ℕ) k + S12x128.size k ≤ S12x1120.size k)
    (r : Fin 12) (n : Fin 128) (h : 128 * g + n.val < 1120) :
    View.readAt (Elt Ideal) v (Rect.unit (s := S12x1120) ![0, off] S12x128.size inb).toLoadRect f (ix2 r n) = x2 (ix2 r ⟨128 * g + n.val, h⟩) := by
  subst hf hoff
  rw [View.readAt_apply]
  congr 1
  funext k
  refine Fin.ext ((ValueKit.rect_emb_unit_val (s := S12x1120) _ _ inb (ix2 r n) k).trans ?_)
  fin_cases k
  · exact Nat.zero_add _
  · rfl

/-- The last 96 words of the packed zero points as a load reads them. -/
theorem zsrc96 {sig : RefSig} {κ : Kind} {sp : Space} (v : View sig κ sp S12x1120 .i32) (f : v.ty.Contents (Elt Ideal)) (x2 : Vec Ideal S12x1120 .i32)
    (hf : v.read (Elt Ideal) f = x2) (inb : ∀ k, (![0, 1024] : Fin 2 → ℕ) k + S12x96.size k ≤ S12x1120.size k)
    (r : Fin 12) (n : Fin 96) :
    View.readAt (Elt Ideal) v (Rect.unit (s := S12x1120) ![0, 1024] S12x96.size inb).toLoadRect f (ix2 r n) = x2 (ix2 r ⟨1024 + n.val, by omega⟩) := by
  subst hf
  rw [View.readAt_apply]
  congr 1
  funext k
  refine Fin.ext ((ValueKit.rect_emb_unit_val (s := S12x1120) _ _ inb (ix2 r n) k).trans ?_)
  fin_cases k
  · exact Nat.zero_add _
  · rfl

theorem zchunk_0 (s0 : Vec Ideal S12x128 .i32) : k0_pay4 (F := Ideal) s0 = zchunk' 0#32 s0 := rfl
theorem zchunk_1 (s0 : Vec Ideal S12x128 .i32) : k0_pay7 (F := Ideal) (k0_pay5 s0) k0_pay6 4#32 = zchunk' 16#32 s0 := rfl
theorem zchunk_2 (s0 : Vec Ideal S12x128 .i32) : k0_pay8 (F := Ideal) (iota .tc S12x128 32 [1] iota_S12x128_d1_w32) s0 = zchunk' 32#32 s0 := rfl
theorem zchunk_3 (s0 : Vec Ideal S12x128 .i32) : k0_pay11 (F := Ideal) (iota .tc S12x128 32 [1] iota_S12x128_d1_w32) s0 (k0_pay9 (iota .tc S12x128 32 [1] iota_S12x128_d1_w32)) k0_pay10 = zchunk' 48#32 s0 := rfl
theorem zchunk_4 (s0 : Vec Ideal S12x128 .i32) : k0_pay12 (F := Ideal) (iota .tc S12x128 32 [1] iota_S12x128_d1_w32) s0 = zchunk' 64#32 s0 := rfl
theorem zchunk_5 (s0 : Vec Ideal S12x128 .i32) : k0_pay13 (F := Ideal) (iota .tc S12x128 32 [1] iota_S12x128_d1_w32) s0 = zchunk' 80#32 s0 := rfl
theorem zchunk_6 (s0 : Vec Ideal S12x128 .i32) : k0_pay16 (F := Ideal) (k0_pay14 (iota .tc S12x128 32 [1] iota_S12x128_d1_w32) s0) (k0_pay15 (iota .tc S12x128 32 [1] iota_S12x128_d1_w32)) 4#32 = zchunk' 96#32 s0 := rfl
theorem zchunk_7 (s0 : Vec Ideal S12x128 .i32) : k0_pay17 (F := Ideal) (iota .tc S12x128 32 [1] iota_S12x128_d1_w32) s0 = zchunk' 112#32 s0 := rfl
theorem zchunk_8 (s1 : Vec Ideal S12x128 .i32) : k0_pay20 (F := Ideal) (iota .tc S12x128 32 [1] iota_S12x128_d1_w32) s1 (k0_pay18 (iota .tc S12x128 32 [1] iota_S12x128_d1_w32)) k0_pay19 = zchunk' 0#32 s1 := rfl
theorem zchunk_9 (s1 : Vec Ideal S12x128 .i32) : k0_pay21 (F := Ideal) (iota .tc S12x128 32 [1] iota_S12x128_d1_w32) s1 = zchunk' 16#32 s1 := rfl
theorem zchunk_10 (s1 : Vec Ideal S12x128 .i32) : k0_pay22 (F := Ideal) (iota .tc S12x128 32 [1] iota_S12x128_d1_w32) s1 = zchunk' 32#32 s1 := rfl
theorem zchunk_11 (s1 : Vec Ideal S12x128 .i32) : k0_pay25 (F := Ideal) (k0_pay23 (iota .tc S12x128 32 [1] iota_S12x128_d1_w32) s1) (k0_pay24 (iota .tc S12x128 32 [1] iota_S12x128_d1_w32)) 4#32 = zchunk' 48#32 s1 := rfl
theorem zchunk_12 (s1 : Vec Ideal S12x128 .i32) : k0_pay26 (F := Ideal) (iota .tc S12x128 32 [1] iota_S12x128_d1_w32) s1 = zchunk' 64#32 s1 := rfl
theorem zchunk_13 (s1 : Vec Ideal S12x128 .i32) : k0_pay29 (F := Ideal) (iota .tc S12x128 32 [1] iota_S12x128_d1_w32) s1 (k0_pay27 (iota .tc S12x128 32 [1] iota_S12x128_d1_w32)) k0_pay28 = zchunk' 80#32 s1 := rfl
theorem zchunk_14 (s1 : Vec Ideal S12x128 .i32) : k0_pay30 (F := Ideal) (iota .tc S12x128 32 [1] iota_S12x128_d1_w32) s1 = zchunk' 96#32 s1 := rfl
theorem zchunk_15 (s1 : Vec Ideal S12x128 .i32) : k0_pay31 (F := Ideal) (iota .tc S12x128 32 [1] iota_S12x128_d1_w32) s1 = zchunk' 112#32 s1 := rfl
theorem zchunk_16 (s2 : Vec Ideal S12x128 .i32) : k0_pay34 (F := Ideal) (k0_pay32 (iota .tc S12x128 32 [1] iota_S12x128_d1_w32) s2) (k0_pay33 (iota .tc S12x128 32 [1] iota_S12x128_d1_w32)) 4#32 = zchunk' 0#32 s2 := rfl
theorem zchunk_17 (s2 : Vec Ideal S12x128 .i32) : k0_pay35 (F := Ideal) (iota .tc S12x128 32 [1] iota_S12x128_d1_w32) s2 = zchunk' 16#32 s2 := rfl
theorem zchunk_18 (s2 : Vec Ideal S12x128 .i32) : k0_pay38 (F := Ideal) (iota .tc S12x128 32 [1] iota_S12x128_d1_w32) s2 (k0_pay36 (iota .tc S12x128 32 [1] iota_S12x128_d1_w32)) k0_pay37 = zchunk' 32#32 s2 := rfl
theorem zchunk_19 (s2 : Vec Ideal S12x128 .i32) : k0_pay39 (F := Ideal) (iota .tc S12x128 32 [1] iota_S12x128_d1_w32) s2 = zchunk' 48#32 s2 := rfl
theorem zchunk_20 (s2 : Vec Ideal S12x128 .i32) : k0_pay40 (F := Ideal) (iota .tc S12x128 32 [1] iota_S12x128_d1_w32) s2 = zchunk' 64#32 s2 := rfl
theorem zchunk_21 (s2 : Vec Ideal S12x128 .i32) : k0_pay43 (F := Ideal) (k0_pay41 (iota .tc S12x128 32 [1] iota_S12x128_d1_w32) s2) (k0_pay42 (iota .tc S12x128 32 [1] iota_S12x128_d1_w32)) 4#32 = zchunk' 80#32 s2 := rfl
theorem zchunk_22 (s2 : Vec Ideal S12x128 .i32) : k0_pay44 (F := Ideal) (iota .tc S12x128 32 [1] iota_S12x128_d1_w32) s2 = zchunk' 96#32 s2 := rfl
theorem zchunk_23 (s2 : Vec Ideal S12x128 .i32) : k0_pay47 (F := Ideal) (iota .tc S12x128 32 [1] iota_S12x128_d1_w32) s2 (k0_pay45 (iota .tc S12x128 32 [1] iota_S12x128_d1_w32)) k0_pay46 = zchunk' 112#32 s2 := rfl
theorem zchunk_24 (s3 : Vec Ideal S12x128 .i32) : k0_pay48 (F := Ideal) (iota .tc S12x128 32 [1] iota_S12x128_d1_w32) s3 = zchunk' 0#32 s3 := rfl
theorem zchunk_25 (s3 : Vec Ideal S12x128 .i32) : k0_pay49 (F := Ideal) (iota .tc S12x128 32 [1] iota_S12x128_d1_w32) s3 = zchunk' 16#32 s3 := rfl
theorem zchunk_26 (s3 : Vec Ideal S12x128 .i32) : k0_pay52 (F := Ideal) (k0_pay50 (iota .tc S12x128 32 [1] iota_S12x128_d1_w32) s3) (k0_pay51 (iota .tc S12x128 32 [1] iota_S12x128_d1_w32)) 4#32 = zchunk' 32#32 s3 := rfl
theorem zchunk_27 (s3 : Vec Ideal S12x128 .i32) : k0_pay53 (F := Ideal) (iota .tc S12x128 32 [1] iota_S12x128_d1_w32) s3 = zchunk' 48#32 s3 := rfl
theorem zchunk_28 (s3 : Vec Ideal S12x128 .i32) : k0_pay56 (F := Ideal) (iota .tc S12x128 32 [1] iota_S12x128_d1_w32) s3 (k0_pay54 (iota .tc S12x128 32 [1] iota_S12x128_d1_w32)) k0_pay55 = zchunk' 64#32 s3 := rfl
theorem zchunk_29 (s3 : Vec Ideal S12x128 .i32) : k0_pay57 (F := Ideal) (iota .tc S12x128 32 [1] iota_S12x128_d1_w32) s3 = zchunk' 80#32 s3 := rfl
theorem zchunk_30 (s3 : Vec Ideal S12x128 .i32) : k0_pay58 (F := Ideal) (iota .tc S12x128 32 [1] iota_S12x128_d1_w32) s3 = zchunk' 96#32 s3 := rfl
theorem zchunk_31 (s3 : Vec Ideal S12x128 .i32) : k0_pay61 (F := Ideal) (k0_pay59 (iota .tc S12x128 32 [1] iota_S12x128_d1_w32) s3) (k0_pay60 (iota .tc S12x128 32 [1] iota_S12x128_d1_w32)) 4#32 = zchunk' 112#32 s3 := rfl
theorem zchunk_32 (s4 : Vec Ideal S12x128 .i32) : k0_pay62 (F := Ideal) (iota .tc S12x128 32 [1] iota_S12x128_d1_w32) s4 = zchunk' 0#32 s4 := rfl
theorem zchunk_33 (s4 : Vec Ideal S12x128 .i32) : k0_pay65 (F := Ideal) (iota .tc S12x128 32 [1] iota_S12x128_d1_w32) s4 (k0_pay63 (iota .tc S12x128 32 [1] iota_S12x128_d1_w32)) k0_pay64 = zchunk' 16#32 s4 := rfl
theorem zchunk_34 (s4 : Vec Ideal S12x128 .i32) : k0_pay66 (F := Ideal) (iota .tc S12x128 32 [1] iota_S12x128_d1_w32) s4 = zchunk' 32#32 s4 := rfl
theorem zchunk_35 (s4 : Vec Ideal S12x128 .i32) : k0_pay67 (F := Ideal) (iota .tc S12x128 32 [1] iota_S12x128_d1_w32) s4 = zchunk' 48#32 s4 := rfl
theorem zchunk_36 (s4 : Vec Ideal S12x128 .i32) : k0_pay70 (F := Ideal) (k0_pay68 (iota .tc S12x128 32 [1] iota_S12x128_d1_w32) s4) (k0_pay69 (iota .tc S12x128 32 [1] iota_S12x128_d1_w32)) 4#32 = zchunk' 64#32 s4 := rfl
theorem zchunk_37 (s4 : Vec Ideal S12x128 .i32) : k0_pay71 (F := Ideal) (iota .tc S12x128 32 [1] iota_S12x128_d1_w32) s4 = zchunk' 80#32 s4 := rfl
theorem zchunk_38 (s4 : Vec Ideal S12x128 .i32) : k0_pay74 (F := Ideal) (iota .tc S12x128 32 [1] iota_S12x128_d1_w32) s4 (k0_pay72 (iota .tc S12x128 32 [1] iota_S12x128_d1_w32)) k0_pay73 = zchunk' 96#32 s4 := rfl
theorem zchunk_39 (s4 : Vec Ideal S12x128 .i32) : k0_pay75 (F := Ideal) (iota .tc S12x128 32 [1] iota_S12x128_d1_w32) s4 = zchunk' 112#32 s4 := rfl
theorem zchunk_40 (s5 : Vec Ideal S12x128 .i32) : k0_pay76 (F := Ideal) (iota .tc S12x128 32 [1] iota_S12x128_d1_w32) s5 = zchunk' 0#32 s5 := rfl
theorem zchunk_41 (s5 : Vec Ideal S12x128 .i32) : k0_pay79 (F := Ideal) (k0_pay77 (iota .tc S12x128 32 [1] iota_S12x128_d1_w32) s5) (k0_pay78 (iota .tc S12x128 32 [1] iota_S12x128_d1_w32)) 4#32 = zchunk' 16#32 s5 := rfl
theorem zchunk_42 (s5 : Vec Ideal S12x128 .i32) : k0_pay80 (F := Ideal) (iota .tc S12x128 32 [1] iota_S12x128_d1_w32) s5 = zchunk' 32#32 s5 := rfl
theorem zchunk_43 (s5 : Vec Ideal S12x128 .i32) : k0_pay83 (F := Ideal) (iota .tc S12x128 32 [1] iota_S12x128_d1_w32) s5 (k0_pay81 (iota .tc S12x128 32 [1] iota_S12x128_d1_w32)) k0_pay82 = zchunk' 48#32 s5 := rfl
theorem zchunk_44 (s5 : Vec Ideal S12x128 .i32) : k0_pay84 (F := Ideal) (iota .tc S12x128 32 [1] iota_S12x128_d1_w32) s5 = zchunk' 64#32 s5 := rfl
theorem zchunk_45 (s5 : Vec Ideal S12x128 .i32) : k0_pay85 (F := Ideal) (iota .tc S12x128 32 [1] iota_S12x128_d1_w32) s5 = zchunk' 80#32 s5 := rfl
theorem zchunk_46 (s5 : Vec Ideal S12x128 .i32) : k0_pay88 (F := Ideal) (k0_pay86 (iota .tc S12x128 32 [1] iota_S12x128_d1_w32) s5) (k0_pay87 (iota .tc S12x128 32 [1] iota_S12x128_d1_w32)) 4#32 = zchunk' 96#32 s5 := rfl
theorem zchunk_47 (s5 : Vec Ideal S12x128 .i32) : k0_pay89 (F := Ideal) (iota .tc S12x128 32 [1] iota_S12x128_d1_w32) s5 = zchunk' 112#32 s5 := rfl
theorem zchunk_48 (s6 : Vec Ideal S12x128 .i32) : k0_pay92 (F := Ideal) (iota .tc S12x128 32 [1] iota_S12x128_d1_w32) s6 (k0_pay90 (iota .tc S12x128 32 [1] iota_S12x128_d1_w32)) k0_pay91 = zchunk' 0#32 s6 := rfl
theorem zchunk_49 (s6 : Vec Ideal S12x128 .i32) : k0_pay93 (F := Ideal) (iota .tc S12x128 32 [1] iota_S12x128_d1_w32) s6 = zchunk' 16#32 s6 := rfl
theorem zchunk_50 (s6 : Vec Ideal S12x128 .i32) : k0_pay94 (F := Ideal) (iota .tc S12x128 32 [1] iota_S12x128_d1_w32) s6 = zchunk' 32#32 s6 := rfl
theorem zchunk_51 (s6 : Vec Ideal S12x128 .i32) : k0_pay97 (F := Ideal) (k0_pay95 (iota .tc S12x128 32 [1] iota_S12x128_d1_w32) s6) (k0_pay96 (iota .tc S12x128 32 [1] iota_S12x128_d1_w32)) 4#32 = zchunk' 48#32 s6 := rfl
theorem zchunk_52 (s6 : Vec Ideal S12x128 .i32) : k0_pay98 (F := Ideal) (iota .tc S12x128 32 [1] iota_S12x128_d1_w32) s6 = zchunk' 64#32 s6 := rfl
theorem zchunk_53 (s6 : Vec Ideal S12x128 .i32) : k0_pay101 (F := Ideal) (iota .tc S12x128 32 [1] iota_S12x128_d1_w32) s6 (k0_pay99 (iota .tc S12x128 32 [1] iota_S12x128_d1_w32)) k0_pay100 = zchunk' 80#32 s6 := rfl
theorem zchunk_54 (s6 : Vec Ideal S12x128 .i32) : k0_pay102 (F := Ideal) (iota .tc S12x128 32 [1] iota_S12x128_d1_w32) s6 = zchunk' 96#32 s6 := rfl
theorem zchunk_55 (s6 : Vec Ideal S12x128 .i32) : k0_pay103 (F := Ideal) (iota .tc S12x128 32 [1] iota_S12x128_d1_w32) s6 = zchunk' 112#32 s6 := rfl
theorem zchunk_56 (s7 : Vec Ideal S12x128 .i32) : k0_pay106 (F := Ideal) (k0_pay104 (iota .tc S12x128 32 [1] iota_S12x128_d1_w32) s7) (k0_pay105 (iota .tc S12x128 32 [1] iota_S12x128_d1_w32)) 4#32 = zchunk' 0#32 s7 := rfl
theorem zchunk_57 (s7 : Vec Ideal S12x128 .i32) : k0_pay107 (F := Ideal) (iota .tc S12x128 32 [1] iota_S12x128_d1_w32) s7 = zchunk' 16#32 s7 := rfl
theorem zchunk_58 (s7 : Vec Ideal S12x128 .i32) : k0_pay110 (F := Ideal) (iota .tc S12x128 32 [1] iota_S12x128_d1_w32) s7 (k0_pay108 (iota .tc S12x128 32 [1] iota_S12x128_d1_w32)) k0_pay109 = zchunk' 32#32 s7 := rfl
theorem zchunk_59 (s7 : Vec Ideal S12x128 .i32) : k0_pay111 (F := Ideal) (iota .tc S12x128 32 [1] iota_S12x128_d1_w32) s7 = zchunk' 48#32 s7 := rfl
theorem zchunk_60 (s7 : Vec Ideal S12x128 .i32) : k0_pay112 (F := Ideal) (iota .tc S12x128 32 [1] iota_S12x128_d1_w32) s7 = zchunk' 64#32 s7 := rfl
theorem zchunk_61 (s7 : Vec Ideal S12x128 .i32) : k0_pay115 (F := Ideal) (k0_pay113 (iota .tc S12x128 32 [1] iota_S12x128_d1_w32) s7) (k0_pay114 (iota .tc S12x128 32 [1] iota_S12x128_d1_w32)) 4#32 = zchunk' 80#32 s7 := rfl
theorem zchunk_62 (s7 : Vec Ideal S12x128 .i32) : k0_pay116 (F := Ideal) (iota .tc S12x128 32 [1] iota_S12x128_d1_w32) s7 = zchunk' 96#32 s7 := rfl
theorem zchunk_63 (s7 : Vec Ideal S12x128 .i32) : k0_pay119 (F := Ideal) (iota .tc S12x128 32 [1] iota_S12x128_d1_w32) s7 (k0_pay117 (iota .tc S12x128 32 [1] iota_S12x128_d1_w32)) k0_pay118 = zchunk' 112#32 s7 := rfl
theorem zchunk_64 (s96 : Vec Ideal S12x96 .i32) : k0_pay121 (F := Ideal) (k0_pay120 (iota .tc S12x128 32 [1] iota_S12x128_d1_w32) s96) = zchunk' 0#32 (zpad s96) := rfl
theorem zchunk_65 (s96 : Vec Ideal S12x96 .i32) : k0_pay122 (F := Ideal) (iota .tc S12x128 32 [1] iota_S12x128_d1_w32) s96 = zchunk' 16#32 (zpad s96) := rfl
theorem zchunk_66 (s96 : Vec Ideal S12x96 .i32) : k0_pay127 (F := Ideal) (iota .tc S12x128 32 [1] iota_S12x128_d1_w32) (k0_pay123 s96) (k0_pay124 (iota .tc S12x128 32 [1] iota_S12x128_d1_w32)) (k0_pay125 (iota .tc S12x128 32 [1] iota_S12x128_d1_w32)) k0_pay126 = zchunk' 32#32 (zpad s96) := rfl
theorem zchunk_67 (s96 : Vec Ideal S12x96 .i32) : k0_pay128 (F := Ideal) (iota .tc S12x128 32 [1] iota_S12x128_d1_w32) s96 = zchunk' 48#32 (zpad s96) := rfl
theorem zchunk_68 (s96 : Vec Ideal S12x96 .i32) : k0_pay129 (F := Ideal) (iota .tc S12x128 32 [1] iota_S12x128_d1_w32) s96 = zchunk' 64#32 (zpad s96) := rfl
theorem zchunk_69 (s96 : Vec Ideal S12x96 .i32) : k0_pay132 (F := Ideal) (iota .tc S12x128 32 [1] iota_S12x128_d1_w32) (k0_pay130 s96) (k0_pay131 (iota .tc S12x128 32 [1] iota_S12x128_d1_w32)) = zchunk' 80#32 (zpad s96) := rfl

/-- The seventy stores, the last one first. -/
noncomputable def zlist (s0 s1 s2 s3 s4 s5 s6 s7 : Vec Ideal S12x128 .i32) (s96 : Vec Ideal S12x96 .i32) : List (View.Piece (Elt Ideal) S12x8960 .f32) :=
  ⟨Rect.unit ![0, 8832] S12x128.size inb_S12x8960_S12x128_0_8832, k0_pay132 (F := Ideal) (iota .tc S12x128 32 [1] iota_S12x128_d1_w32) (k0_pay130 s96) (k0_pay131 (iota .tc S12x128 32 [1] iota_S12x128_d1_w32))⟩ ::
   ⟨Rect.unit ![0, 8704] S12x128.size inb_S12x8960_S12x128_0_8704, k0_pay129 (F := Ideal) (iota .tc S12x128 32 [1] iota_S12x128_d1_w32) s96⟩ ::
   ⟨Rect.unit ![0, 8576] S12x128.size inb_S12x8960_S12x128_0_8576, k0_pay128 (F := Ideal) (iota .tc S12x128 32 [1] iota_S12x128_d1_w32) s96⟩ ::
   ⟨Rect.unit ![0, 8448] S12x128.size inb_S12x8960_S12x128_0_8448, k0_pay127 (F := Ideal) (iota .tc S12x128 32 [1] iota_S12x128_d1_w32) (k0_pay123 s96) (k0_pay124 (iota .tc S12x128 32 [1] iota_S12x128_d1_w32)) (k0_pay125 (iota .tc S12x128 32 [1] iota_S12x128_d1_w32)) k0_pay126⟩ ::
   ⟨Rect.unit ![0, 8320] S12x128.size inb_S12x8960_S12x128_0_8320, k0_pay122 (F := Ideal) (iota .tc S12x128 32 [1] iota_S12x128_d1_w32) s96⟩ ::
   ⟨Rect.unit ![0, 8192] S12x128.size inb_S12x8960_S12x128_0_8192, k0_pay121 (F := Ideal) (k0_pay120 (iota .tc S12x128 32 [1] iota_S12x128_d1_w32) s96)⟩ ::
   ⟨Rect.unit ![0, 8064] S12x128.size inb_S12x8960_S12x128_0_8064, k0_pay119 (F := Ideal) (iota .tc S12x128 32 [1] iota_S12x128_d1_w32) s7 (k0_pay117 (iota .tc S12x128 32 [1] iota_S12x128_d1_w32)) k0_pay118⟩ ::
   ⟨Rect.unit ![0, 7936] S12x128.size inb_S12x8960_S12x128_0_7936, k0_pay116 (F := Ideal) (iota .tc S12x128 32 [1] iota_S12x128_d1_w32) s7⟩ ::
   ⟨Rect.unit ![0, 7808] S12x128.size inb_S12x8960_S12x128_0_7808, k0_pay115 (F := Ideal) (k0_pay113 (iota .tc S12x128 32 [1] iota_S12x128_d1_w32) s7) (k0_pay114 (iota .tc S12x128 32 [1] iota_S12x128_d1_w32)) 4#32⟩ ::
   ⟨Rect.unit ![0, 7680] S12x128.size inb_S12x8960_S12x128_0_7680, k0_pay112 (F := Ideal) (iota .tc S12x128 32 [1] iota_S12x128_d1_w32) s7⟩ ::
   ⟨Rect.unit ![0, 7552] S12x128.size inb_S12x8960_S12x128_0_7552, k0_pay111 (F := Ideal) (iota .tc S12x128 32 [1] iota_S12x128_d1_w32) s7⟩ ::
   ⟨Rect.unit ![0, 7424] S12x128.size inb_S12x8960_S12x128_0_7424, k0_pay110 (F := Ideal) (iota .tc S12x128 32 [1] iota_S12x128_d1_w32) s7 (k0_pay108 (iota .tc S12x128 32 [1] iota_S12x128_d1_w32)) k0_pay109⟩ ::
   ⟨Rect.unit ![0, 7296] S12x128.size inb_S12x8960_S12x128_0_7296, k0_pay107 (F := Ideal) (iota .tc S12x128 32 [1] iota_S12x128_d1_w32) s7⟩ ::
   ⟨Rect.unit ![0, 7168] S12x128.size inb_S12x8960_S12x128_0_7168, k0_pay106 (F := Ideal) (k0_pay104 (iota .tc S12x128 32 [1] iota_S12x128_d1_w32) s7) (k0_pay105 (iota .tc S12x128 32 [1] iota_S12x128_d1_w32)) 4#32⟩ ::
   ⟨Rect.unit ![0, 7040] S12x128.size inb_S12x8960_S12x128_0_7040, k0_pay103 (F := Ideal) (iota .tc S12x128 32 [1] iota_S12x128_d1_w32) s6⟩ ::
   ⟨Rect.unit ![0, 6912] S12x128.size inb_S12x8960_S12x128_0_6912, k0_pay102 (F := Ideal) (iota .tc S12x128 32 [1] iota_S12x128_d1_w32) s6⟩ ::
   ⟨Rect.unit ![0, 6784] S12x128.size inb_S12x8960_S12x128_0_6784, k0_pay101 (F := Ideal) (iota .tc S12x128 32 [1] iota_S12x128_d1_w32) s6 (k0_pay99 (iota .tc S12x128 32 [1] iota_S12x128_d1_w32)) k0_pay100⟩ ::
   ⟨Rect.unit ![0, 6656] S12x128.size inb_S12x8960_S12x128_0_6656, k0_pay98 (F := Ideal) (iota .tc S12x128 32 [1] iota_S12x128_d1_w32) s6⟩ ::
   ⟨Rect.unit ![0, 6528] S12x128.size inb_S12x8960_S12x128_0_6528, k0_pay97 (F := Ideal) (k0_pay95 (iota .tc S12x128 32 [1] iota_S12x128_d1_w32) s6) (k0_pay96 (iota .tc S12x128 32 [1] iota_S12x128_d1_w32)) 4#32⟩ ::
   ⟨Rect.unit ![0, 6400] S12x128.size inb_S12x8960_S12x128_0_6400, k0_pay94 (F := Ideal) (iota .tc S12x128 32 [1] iota_S12x128_d1_w32) s6⟩ ::
   ⟨Rect.unit ![0, 6272] S12x128.size inb_S12x8960_S12x128_0_6272, k0_pay93 (F := Ideal) (iota .tc S12x128 32 [1] iota_S12x128_d1_w32) s6⟩ ::
   ⟨Rect.unit ![0, 6144] S12x128.size inb_S12x8960_S12x128_0_6144, k0_pay92 (F := Ideal) (iota .tc S12x128 32 [1] iota_S12x128_d1_w32) s6 (k0_pay90 (iota .tc S12x128 32 [1] iota_S12x128_d1_w32)) k0_pay91⟩ ::
   ⟨Rect.unit ![0, 6016] S12x128.size inb_S12x8960_S12x128_0_6016, k0_pay89 (F := Ideal) (iota .tc S12x128 32 [1] iota_S12x128_d1_w32) s5⟩ ::
   ⟨Rect.unit ![0, 5888] S12x128.size inb_S12x8960_S12x128_0_5888, k0_pay88 (F := Ideal) (k0_pay86 (iota .tc S12x128 32 [1] iota_S12x128_d1_w32) s5) (k0_pay87 (iota .tc S12x128 32 [1] iota_S12x128_d1_w32)) 4#32⟩ ::
   ⟨Rect.unit ![0, 5760] S12x128.size inb_S12x8960_S12x128_0_5760, k0_pay85 (F := Ideal) (iota .tc S12x128 32 [1] iota_S12x128_d1_w32) s5⟩ ::
   ⟨Rect.unit ![0, 5632] S12x128.size inb_S12x8960_S12x128_0_5632, k0_pay84 (F := Ideal) (iota .tc S12x128 32 [1] iota_S12x128_d1_w32) s5⟩ ::
   ⟨Rect.unit ![0, 5504] S12x128.size inb_S12x8960_S12x128_0_5504, k0_pay83 (F := Ideal) (iota .tc S12x128 32 [1] iota_S12x128_d1_w32) s5 (k0_pay81 (iota .tc S12x128 32 [1] iota_S12x128_d1_w32)) k0_pay82⟩ ::
   ⟨Rect.unit ![0, 5376] S12x128.size inb_S12x8960_S12x128_0_5376, k0_pay80 (F := Ideal) (iota .tc S12x128 32 [1] iota_S12x128_d1_w32) s5⟩ ::
   ⟨Rect.unit ![0, 5248] S12x128.size inb_S12x8960_S12x128_0_5248, k0_pay79 (F := Ideal) (k0_pay77 (iota .tc S12x128 32 [1] iota_S12x128_d1_w32) s5) (k0_pay78 (iota .tc S12x128 32 [1] iota_S12x128_d1_w32)) 4#32⟩ ::
   ⟨Rect.unit ![0, 5120] S12x128.size inb_S12x8960_S12x128_0_5120, k0_pay76 (F := Ideal) (iota .tc S12x128 32 [1] iota_S12x128_d1_w32) s5⟩ ::
   ⟨Rect.unit ![0, 4992] S12x128.size inb_S12x8960_S12x128_0_4992, k0_pay75 (F := Ideal) (iota .tc S12x128 32 [1] iota_S12x128_d1_w32) s4⟩ ::
   ⟨Rect.unit ![0, 4864] S12x128.size inb_S12x8960_S12x128_0_4864, k0_pay74 (F := Ideal) (iota .tc S12x128 32 [1] iota_S12x128_d1_w32) s4 (k0_pay72 (iota .tc S12x128 32 [1] iota_S12x128_d1_w32)) k0_pay73⟩ ::
   ⟨Rect.unit ![0, 4736] S12x128.size inb_S12x8960_S12x128_0_4736, k0_pay71 (F := Ideal) (iota .tc S12x128 32 [1] iota_S12x128_d1_w32) s4⟩ ::
   ⟨Rect.unit ![0, 4608] S12x128.size inb_S12x8960_S12x128_0_4608, k0_pay70 (F := Ideal) (k0_pay68 (iota .tc S12x128 32 [1] iota_S12x128_d1_w32) s4) (k0_pay69 (iota .tc S12x128 32 [1] iota_S12x128_d1_w32)) 4#32⟩ ::
   ⟨Rect.unit ![0, 4480] S12x128.size inb_S12x8960_S12x128_0_4480, k0_pay67 (F := Ideal) (iota .tc S12x128 32 [1] iota_S12x128_d1_w32) s4⟩ ::
   ⟨Rect.unit ![0, 4352] S12x128.size inb_S12x8960_S12x128_0_4352, k0_pay66 (F := Ideal) (iota .tc S12x128 32 [1] iota_S12x128_d1_w32) s4⟩ ::
   ⟨Rect.unit ![0, 4224] S12x128.size inb_S12x8960_S12x128_0_4224, k0_pay65 (F := Ideal) (iota .tc S12x128 32 [1] iota_S12x128_d1_w32) s4 (k0_pay63 (iota .tc S12x128 32 [1] iota_S12x128_d1_w32)) k0_pay64⟩ ::
   ⟨Rect.unit ![0, 4096] S12x128.size inb_S12x8960_S12x128_0_4096, k0_pay62 (F := Ideal) (iota .tc S12x128 32 [1] iota_S12x128_d1_w32) s4⟩ ::
   ⟨Rect.unit ![0, 3968] S12x128.size inb_S12x8960_S12x128_0_3968, k0_pay61 (F := Ideal) (k0_pay59 (iota .tc S12x128 32 [1] iota_S12x128_d1_w32) s3) (k0_pay60 (iota .tc S12x128 32 [1] iota_S12x128_d1_w32)) 4#32⟩ ::
   ⟨Rect.unit ![0, 3840] S12x128.size inb_S12x8960_S12x128_0_3840, k0_pay58 (F := Ideal) (iota .tc S12x128 32 [1] iota_S12x128_d1_w32) s3⟩ ::
   ⟨Rect.unit ![0, 3712] S12x128.size inb_S12x8960_S12x128_0_3712, k0_pay57 (F := Ideal) (iota .tc S12x128 32 [1] iota_S12x128_d1_w32) s3⟩ ::
   ⟨Rect.unit ![0, 3584] S12x128.size inb_S12x8960_S12x128_0_3584, k0_pay56 (F := Ideal) (iota .tc S12x128 32 [1] iota_S12x128_d1_w32) s3 (k0_pay54 (iota .tc S12x128 32 [1] iota_S12x128_d1_w32)) k0_pay55⟩ ::
   ⟨Rect.unit ![0, 3456] S12x128.size inb_S12x8960_S12x128_0_3456, k0_pay53 (F := Ideal) (iota .tc S12x128 32 [1] iota_S12x128_d1_w32) s3⟩ ::
   ⟨Rect.unit ![0, 3328] S12x128.size inb_S12x8960_S12x128_0_3328, k0_pay52 (F := Ideal) (k0_pay50 (iota .tc S12x128 32 [1] iota_S12x128_d1_w32) s3) (k0_pay51 (iota .tc S12x128 32 [1] iota_S12x128_d1_w32)) 4#32⟩ ::
   ⟨Rect.unit ![0, 3200] S12x128.size inb_S12x8960_S12x128_0_3200, k0_pay49 (F := Ideal) (iota .tc S12x128 32 [1] iota_S12x128_d1_w32) s3⟩ ::
   ⟨Rect.unit ![0, 3072] S12x128.size inb_S12x8960_S12x128_0_3072, k0_pay48 (F := Ideal) (iota .tc S12x128 32 [1] iota_S12x128_d1_w32) s3⟩ ::
   ⟨Rect.unit ![0, 2944] S12x128.size inb_S12x8960_S12x128_0_2944, k0_pay47 (F := Ideal) (iota .tc S12x128 32 [1] iota_S12x128_d1_w32) s2 (k0_pay45 (iota .tc S12x128 32 [1] iota_S12x128_d1_w32)) k0_pay46⟩ ::
   ⟨Rect.unit ![0, 2816] S12x128.size inb_S12x8960_S12x128_0_2816, k0_pay44 (F := Ideal) (iota .tc S12x128 32 [1] iota_S12x128_d1_w32) s2⟩ ::
   ⟨Rect.unit ![0, 2688] S12x128.size inb_S12x8960_S12x128_0_2688, k0_pay43 (F := Ideal) (k0_pay41 (iota .tc S12x128 32 [1] iota_S12x128_d1_w32) s2) (k0_pay42 (iota .tc S12x128 32 [1] iota_S12x128_d1_w32)) 4#32⟩ ::
   ⟨Rect.unit ![0, 2560] S12x128.size inb_S12x8960_S12x128_0_2560, k0_pay40 (F := Ideal) (iota .tc S12x128 32 [1] iota_S12x128_d1_w32) s2⟩ ::
   ⟨Rect.unit ![0, 2432] S12x128.size inb_S12x8960_S12x128_0_2432, k0_pay39 (F := Ideal) (iota .tc S12x128 32 [1] iota_S12x128_d1_w32) s2⟩ ::
   ⟨Rect.unit ![0, 2304] S12x128.size inb_S12x8960_S12x128_0_2304, k0_pay38 (F := Ideal) (iota .tc S12x128 32 [1] iota_S12x128_d1_w32) s2 (k0_pay36 (iota .tc S12x128 32 [1] iota_S12x128_d1_w32)) k0_pay37⟩ ::
   ⟨Rect.unit ![0, 2176] S12x128.size inb_S12x8960_S12x128_0_2176, k0_pay35 (F := Ideal) (iota .tc S12x128 32 [1] iota_S12x128_d1_w32) s2⟩ ::
   ⟨Rect.unit ![0, 2048] S12x128.size inb_S12x8960_S12x128_0_2048, k0_pay34 (F := Ideal) (k0_pay32 (iota .tc S12x128 32 [1] iota_S12x128_d1_w32) s2) (k0_pay33 (iota .tc S12x128 32 [1] iota_S12x128_d1_w32)) 4#32⟩ ::
   ⟨Rect.unit ![0, 1920] S12x128.size inb_S12x8960_S12x128_0_1920, k0_pay31 (F := Ideal) (iota .tc S12x128 32 [1] iota_S12x128_d1_w32) s1⟩ ::
   ⟨Rect.unit ![0, 1792] S12x128.size inb_S12x8960_S12x128_0_1792, k0_pay30 (F := Ideal) (iota .tc S12x128 32 [1] iota_S12x128_d1_w32) s1⟩ ::
   ⟨Rect.unit ![0, 1664] S12x128.size inb_S12x8960_S12x128_0_1664, k0_pay29 (F := Ideal) (iota .tc S12x128 32 [1] iota_S12x128_d1_w32) s1 (k0_pay27 (iota .tc S12x128 32 [1] iota_S12x128_d1_w32)) k0_pay28⟩ ::
   ⟨Rect.unit ![0, 1536] S12x128.size inb_S12x8960_S12x128_0_1536, k0_pay26 (F := Ideal) (iota .tc S12x128 32 [1] iota_S12x128_d1_w32) s1⟩ ::
   ⟨Rect.unit ![0, 1408] S12x128.size inb_S12x8960_S12x128_0_1408, k0_pay25 (F := Ideal) (k0_pay23 (iota .tc S12x128 32 [1] iota_S12x128_d1_w32) s1) (k0_pay24 (iota .tc S12x128 32 [1] iota_S12x128_d1_w32)) 4#32⟩ ::
   ⟨Rect.unit ![0, 1280] S12x128.size inb_S12x8960_S12x128_0_1280, k0_pay22 (F := Ideal) (iota .tc S12x128 32 [1] iota_S12x128_d1_w32) s1⟩ ::
   ⟨Rect.unit ![0, 1152] S12x128.size inb_S12x8960_S12x128_0_1152, k0_pay21 (F := Ideal) (iota .tc S12x128 32 [1] iota_S12x128_d1_w32) s1⟩ ::
   ⟨Rect.unit ![0, 1024] S12x128.size inb_S12x8960_S12x128_0_1024, k0_pay20 (F := Ideal) (iota .tc S12x128 32 [1] iota_S12x128_d1_w32) s1 (k0_pay18 (iota .tc S12x128 32 [1] iota_S12x128_d1_w32)) k0_pay19⟩ ::
   ⟨Rect.unit ![0, 896] S12x128.size inb_S12x8960_S12x128_0_896, k0_pay17 (F := Ideal) (iota .tc S12x128 32 [1] iota_S12x128_d1_w32) s0⟩ ::
   ⟨Rect.unit ![0, 768] S12x128.size inb_S12x8960_S12x128_0_768, k0_pay16 (F := Ideal) (k0_pay14 (iota .tc S12x128 32 [1] iota_S12x128_d1_w32) s0) (k0_pay15 (iota .tc S12x128 32 [1] iota_S12x128_d1_w32)) 4#32⟩ ::
   ⟨Rect.unit ![0, 640] S12x128.size inb_S12x8960_S12x128_0_640, k0_pay13 (F := Ideal) (iota .tc S12x128 32 [1] iota_S12x128_d1_w32) s0⟩ ::
   ⟨Rect.unit ![0, 512] S12x128.size inb_S12x8960_S12x128_0_512, k0_pay12 (F := Ideal) (iota .tc S12x128 32 [1] iota_S12x128_d1_w32) s0⟩ ::
   ⟨Rect.unit ![0, 384] S12x128.size inb_S12x8960_S12x128_0_384, k0_pay11 (F := Ideal) (iota .tc S12x128 32 [1] iota_S12x128_d1_w32) s0 (k0_pay9 (iota .tc S12x128 32 [1] iota_S12x128_d1_w32)) k0_pay10⟩ ::
   ⟨Rect.unit ![0, 256] S12x128.size inb_S12x8960_S12x128_0_256, k0_pay8 (F := Ideal) (iota .tc S12x128 32 [1] iota_S12x128_d1_w32) s0⟩ ::
   ⟨Rect.unit ![0, 128] S12x128.size inb_S12x8960_S12x128_0_128, k0_pay7 (F := Ideal) (k0_pay5 s0) k0_pay6 4#32⟩ ::
   ⟨Rect.unit ![0, 0] S12x128.size inb_S12x8960_S12x128_0_0, k0_pay4 (F := Ideal) s0⟩ :: []

/-- The zero points after the seventy stores, whatever the buffer held. -/
theorem zread {sig : RefSig} {κ : Kind} {sp : Space} (v : View sig κ sp S12x8960 .f32) (x2 : Vec Ideal S12x1120 .i32)
    (s0 s1 s2 s3 s4 s5 s6 s7 : Vec Ideal S12x128 .i32) (s96 : Vec Ideal S12x96 .i32)
    (h0 : ∀ (r : Fin 12) (n : Fin 128) (h : 128 * 0 + n.val < 1120), s0 (ix2 r n) = x2 (ix2 r ⟨128 * 0 + n.val, h⟩))
    (h1 : ∀ (r : Fin 12) (n : Fin 128) (h : 128 * 1 + n.val < 1120), s1 (ix2 r n) = x2 (ix2 r ⟨128 * 1 + n.val, h⟩))
    (h2 : ∀ (r : Fin 12) (n : Fin 128) (h : 128 * 2 + n.val < 1120), s2 (ix2 r n) = x2 (ix2 r ⟨128 * 2 + n.val, h⟩))
    (h3 : ∀ (r : Fin 12) (n : Fin 128) (h : 128 * 3 + n.val < 1120), s3 (ix2 r n) = x2 (ix2 r ⟨128 * 3 + n.val, h⟩))
    (h4 : ∀ (r : Fin 12) (n : Fin 128) (h : 128 * 4 + n.val < 1120), s4 (ix2 r n) = x2 (ix2 r ⟨128 * 4 + n.val, h⟩))
    (h5 : ∀ (r : Fin 12) (n : Fin 128) (h : 128 * 5 + n.val < 1120), s5 (ix2 r n) = x2 (ix2 r ⟨128 * 5 + n.val, h⟩))
    (h6 : ∀ (r : Fin 12) (n : Fin 128) (h : 128 * 6 + n.val < 1120), s6 (ix2 r n) = x2 (ix2 r ⟨128 * 6 + n.val, h⟩))
    (h7 : ∀ (r : Fin 12) (n : Fin 128) (h : 128 * 7 + n.val < 1120), s7 (ix2 r n) = x2 (ix2 r ⟨128 * 7 + n.val, h⟩))
    (h96 : ∀ (r : Fin 12) (n : Fin 96), s96 (ix2 r n) = x2 (ix2 r ⟨1024 + n.val, by omega⟩))
    (f : v.ty.Contents (Elt Ideal)) (r : Fin 12) (n : Fin 8960) :
    v.read (Elt Ideal) (v.writes (Elt Ideal) f (zlist s0 s1 s2 s3 s4 s5 s6 s7 s96)) (ix2 r n) = zv x2 r n := by
  have h8 : ∀ (r : Fin 12) (n : Fin 128) (h : 128 * 8 + n.val < 1120), zpad s96 (ix2 r n) = x2 (ix2 r ⟨128 * 8 + n.val, h⟩) := fun r n h => by
    rw [zpad_apply s96 r n (by omega), h96]
  refine View.read_writes_apply_of_pieces (v := v) (f := f) (fun y => zv x2 (y 0) (y 1)) (zlist s0 s1 s2 s3 s4 s5 s6 s7 s96) ?_ (ix2 r n)
    (View.cover_of_tiled (s := S12x8960) (zlist s0 s1 s2 s3 s4 s5 s6 s7 s96) S12x128.size rfl (ix2 r n))
  unfold zlist
  refine List.forall_mem_cons.mpr ⟨fun x => zpiece x2 8 5 (by decide) (zpad s96) h8 80#32 rfl 8832 rfl inb_S12x8960_S12x128_0_8832 _ (zchunk_69 s96) x, ?_⟩
  refine List.forall_mem_cons.mpr ⟨fun x => zpiece x2 8 4 (by decide) (zpad s96) h8 64#32 rfl 8704 rfl inb_S12x8960_S12x128_0_8704 _ (zchunk_68 s96) x, ?_⟩
  refine List.forall_mem_cons.mpr ⟨fun x => zpiece x2 8 3 (by decide) (zpad s96) h8 48#32 rfl 8576 rfl inb_S12x8960_S12x128_0_8576 _ (zchunk_67 s96) x, ?_⟩
  refine List.forall_mem_cons.mpr ⟨fun x => zpiece x2 8 2 (by decide) (zpad s96) h8 32#32 rfl 8448 rfl inb_S12x8960_S12x128_0_8448 _ (zchunk_66 s96) x, ?_⟩
  refine List.forall_mem_cons.mpr ⟨fun x => zpiece x2 8 1 (by decide) (zpad s96) h8 16#32 rfl 8320 rfl inb_S12x8960_S12x128_0_8320 _ (zchunk_65 s96) x, ?_⟩
  refine List.forall_mem_cons.mpr ⟨fun x => zpiece x2 8 0 (by decide) (zpad s96) h8 0#32 rfl 8192 rfl inb_S12x8960_S12x128_0_8192 _ (zchunk_64 s96) x, ?_⟩
  refine List.forall_mem_cons.mpr ⟨fun x => zpiece x2 7 7 (by decide) s7 h7 112#32 rfl 8064 rfl inb_S12x8960_S12x128_0_8064 _ (zchunk_63 s7) x, ?_⟩
  refine List.forall_mem_cons.mpr ⟨fun x => zpiece x2 7 6 (by decide) s7 h7 96#32 rfl 7936 rfl inb_S12x8960_S12x128_0_7936 _ (zchunk_62 s7) x, ?_⟩
  refine List.forall_mem_cons.mpr ⟨fun x => zpiece x2 7 5 (by decide) s7 h7 80#32 rfl 7808 rfl inb_S12x8960_S12x128_0_7808 _ (zchunk_61 s7) x, ?_⟩
  refine List.forall_mem_cons.mpr ⟨fun x => zpiece x2 7 4 (by decide) s7 h7 64#32 rfl 7680 rfl inb_S12x8960_S12x128_0_7680 _ (zchunk_60 s7) x, ?_⟩
  refine List.forall_mem_cons.mpr ⟨fun x => zpiece x2 7 3 (by decide) s7 h7 48#32 rfl 7552 rfl inb_S12x8960_S12x128_0_7552 _ (zchunk_59 s7) x, ?_⟩
  refine List.forall_mem_cons.mpr ⟨fun x => zpiece x2 7 2 (by decide) s7 h7 32#32 rfl 7424 rfl inb_S12x8960_S12x128_0_7424 _ (zchunk_58 s7) x, ?_⟩
  refine List.forall_mem_cons.mpr ⟨fun x => zpiece x2 7 1 (by decide) s7 h7 16#32 rfl 7296 rfl inb_S12x8960_S12x128_0_7296 _ (zchunk_57 s7) x, ?_⟩
  refine List.forall_mem_cons.mpr ⟨fun x => zpiece x2 7 0 (by decide) s7 h7 0#32 rfl 7168 rfl inb_S12x8960_S12x128_0_7168 _ (zchunk_56 s7) x, ?_⟩
  refine List.forall_mem_cons.mpr ⟨fun x => zpiece x2 6 7 (by decide) s6 h6 112#32 rfl 7040 rfl inb_S12x8960_S12x128_0_7040 _ (zchunk_55 s6) x, ?_⟩
  refine List.forall_mem_cons.mpr ⟨fun x => zpiece x2 6 6 (by decide) s6 h6 96#32 rfl 6912 rfl inb_S12x8960_S12x128_0_6912 _ (zchunk_54 s6) x, ?_⟩
  refine List.forall_mem_cons.mpr ⟨fun x => zpiece x2 6 5 (by decide) s6 h6 80#32 rfl 6784 rfl inb_S12x8960_S12x128_0_6784 _ (zchunk_53 s6) x, ?_⟩
  refine List.forall_mem_cons.mpr ⟨fun x => zpiece x2 6 4 (by decide) s6 h6 64#32 rfl 6656 rfl inb_S12x8960_S12x128_0_6656 _ (zchunk_52 s6) x, ?_⟩
  refine List.forall_mem_cons.mpr ⟨fun x => zpiece x2 6 3 (by decide) s6 h6 48#32 rfl 6528 rfl inb_S12x8960_S12x128_0_6528 _ (zchunk_51 s6) x, ?_⟩
  refine List.forall_mem_cons.mpr ⟨fun x => zpiece x2 6 2 (by decide) s6 h6 32#32 rfl 6400 rfl inb_S12x8960_S12x128_0_6400 _ (zchunk_50 s6) x, ?_⟩
  refine List.forall_mem_cons.mpr ⟨fun x => zpiece x2 6 1 (by decide) s6 h6 16#32 rfl 6272 rfl inb_S12x8960_S12x128_0_6272 _ (zchunk_49 s6) x, ?_⟩
  refine List.forall_mem_cons.mpr ⟨fun x => zpiece x2 6 0 (by decide) s6 h6 0#32 rfl 6144 rfl inb_S12x8960_S12x128_0_6144 _ (zchunk_48 s6) x, ?_⟩
  refine List.forall_mem_cons.mpr ⟨fun x => zpiece x2 5 7 (by decide) s5 h5 112#32 rfl 6016 rfl inb_S12x8960_S12x128_0_6016 _ (zchunk_47 s5) x, ?_⟩
  refine List.forall_mem_cons.mpr ⟨fun x => zpiece x2 5 6 (by decide) s5 h5 96#32 rfl 5888 rfl inb_S12x8960_S12x128_0_5888 _ (zchunk_46 s5) x, ?_⟩
  refine List.forall_mem_cons.mpr ⟨fun x => zpiece x2 5 5 (by decide) s5 h5 80#32 rfl 5760 rfl inb_S12x8960_S12x128_0_5760 _ (zchunk_45 s5) x, ?_⟩
  refine List.forall_mem_cons.mpr ⟨fun x => zpiece x2 5 4 (by decide) s5 h5 64#32 rfl 5632 rfl inb_S12x8960_S12x128_0_5632 _ (zchunk_44 s5) x, ?_⟩
  refine List.forall_mem_cons.mpr ⟨fun x => zpiece x2 5 3 (by decide) s5 h5 48#32 rfl 5504 rfl inb_S12x8960_S12x128_0_5504 _ (zchunk_43 s5) x, ?_⟩
  refine List.forall_mem_cons.mpr ⟨fun x => zpiece x2 5 2 (by decide) s5 h5 32#32 rfl 5376 rfl inb_S12x8960_S12x128_0_5376 _ (zchunk_42 s5) x, ?_⟩
  refine List.forall_mem_cons.mpr ⟨fun x => zpiece x2 5 1 (by decide) s5 h5 16#32 rfl 5248 rfl inb_S12x8960_S12x128_0_5248 _ (zchunk_41 s5) x, ?_⟩
  refine List.forall_mem_cons.mpr ⟨fun x => zpiece x2 5 0 (by decide) s5 h5 0#32 rfl 5120 rfl inb_S12x8960_S12x128_0_5120 _ (zchunk_40 s5) x, ?_⟩
  refine List.forall_mem_cons.mpr ⟨fun x => zpiece x2 4 7 (by decide) s4 h4 112#32 rfl 4992 rfl inb_S12x8960_S12x128_0_4992 _ (zchunk_39 s4) x, ?_⟩
  refine List.forall_mem_cons.mpr ⟨fun x => zpiece x2 4 6 (by decide) s4 h4 96#32 rfl 4864 rfl inb_S12x8960_S12x128_0_4864 _ (zchunk_38 s4) x, ?_⟩
  refine List.forall_mem_cons.mpr ⟨fun x => zpiece x2 4 5 (by decide) s4 h4 80#32 rfl 4736 rfl inb_S12x8960_S12x128_0_4736 _ (zchunk_37 s4) x, ?_⟩
  refine List.forall_mem_cons.mpr ⟨fun x => zpiece x2 4 4 (by decide) s4 h4 64#32 rfl 4608 rfl inb_S12x8960_S12x128_0_4608 _ (zchunk_36 s4) x, ?_⟩
  refine List.forall_mem_cons.mpr ⟨fun x => zpiece x2 4 3 (by decide) s4 h4 48#32 rfl 4480 rfl inb_S12x8960_S12x128_0_4480 _ (zchunk_35 s4) x, ?_⟩
  refine List.forall_mem_cons.mpr ⟨fun x => zpiece x2 4 2 (by decide) s4 h4 32#32 rfl 4352 rfl inb_S12x8960_S12x128_0_4352 _ (zchunk_34 s4) x, ?_⟩
  refine List.forall_mem_cons.mpr ⟨fun x => zpiece x2 4 1 (by decide) s4 h4 16#32 rfl 4224 rfl inb_S12x8960_S12x128_0_4224 _ (zchunk_33 s4) x, ?_⟩
  refine List.forall_mem_cons.mpr ⟨fun x => zpiece x2 4 0 (by decide) s4 h4 0#32 rfl 4096 rfl inb_S12x8960_S12x128_0_4096 _ (zchunk_32 s4) x, ?_⟩
  refine List.forall_mem_cons.mpr ⟨fun x => zpiece x2 3 7 (by decide) s3 h3 112#32 rfl 3968 rfl inb_S12x8960_S12x128_0_3968 _ (zchunk_31 s3) x, ?_⟩
  refine List.forall_mem_cons.mpr ⟨fun x => zpiece x2 3 6 (by decide) s3 h3 96#32 rfl 3840 rfl inb_S12x8960_S12x128_0_3840 _ (zchunk_30 s3) x, ?_⟩
  refine List.forall_mem_cons.mpr ⟨fun x => zpiece x2 3 5 (by decide) s3 h3 80#32 rfl 3712 rfl inb_S12x8960_S12x128_0_3712 _ (zchunk_29 s3) x, ?_⟩
  refine List.forall_mem_cons.mpr ⟨fun x => zpiece x2 3 4 (by decide) s3 h3 64#32 rfl 3584 rfl inb_S12x8960_S12x128_0_3584 _ (zchunk_28 s3) x, ?_⟩
  refine List.forall_mem_cons.mpr ⟨fun x => zpiece x2 3 3 (by decide) s3 h3 48#32 rfl 3456 rfl inb_S12x8960_S12x128_0_3456 _ (zchunk_27 s3) x, ?_⟩
  refine List.forall_mem_cons.mpr ⟨fun x => zpiece x2 3 2 (by decide) s3 h3 32#32 rfl 3328 rfl inb_S12x8960_S12x128_0_3328 _ (zchunk_26 s3) x, ?_⟩
  refine List.forall_mem_cons.mpr ⟨fun x => zpiece x2 3 1 (by decide) s3 h3 16#32 rfl 3200 rfl inb_S12x8960_S12x128_0_3200 _ (zchunk_25 s3) x, ?_⟩
  refine List.forall_mem_cons.mpr ⟨fun x => zpiece x2 3 0 (by decide) s3 h3 0#32 rfl 3072 rfl inb_S12x8960_S12x128_0_3072 _ (zchunk_24 s3) x, ?_⟩
  refine List.forall_mem_cons.mpr ⟨fun x => zpiece x2 2 7 (by decide) s2 h2 112#32 rfl 2944 rfl inb_S12x8960_S12x128_0_2944 _ (zchunk_23 s2) x, ?_⟩
  refine List.forall_mem_cons.mpr ⟨fun x => zpiece x2 2 6 (by decide) s2 h2 96#32 rfl 2816 rfl inb_S12x8960_S12x128_0_2816 _ (zchunk_22 s2) x, ?_⟩
  refine List.forall_mem_cons.mpr ⟨fun x => zpiece x2 2 5 (by decide) s2 h2 80#32 rfl 2688 rfl inb_S12x8960_S12x128_0_2688 _ (zchunk_21 s2) x, ?_⟩
  refine List.forall_mem_cons.mpr ⟨fun x => zpiece x2 2 4 (by decide) s2 h2 64#32 rfl 2560 rfl inb_S12x8960_S12x128_0_2560 _ (zchunk_20 s2) x, ?_⟩
  refine List.forall_mem_cons.mpr ⟨fun x => zpiece x2 2 3 (by decide) s2 h2 48#32 rfl 2432 rfl inb_S12x8960_S12x128_0_2432 _ (zchunk_19 s2) x, ?_⟩
  refine List.forall_mem_cons.mpr ⟨fun x => zpiece x2 2 2 (by decide) s2 h2 32#32 rfl 2304 rfl inb_S12x8960_S12x128_0_2304 _ (zchunk_18 s2) x, ?_⟩
  refine List.forall_mem_cons.mpr ⟨fun x => zpiece x2 2 1 (by decide) s2 h2 16#32 rfl 2176 rfl inb_S12x8960_S12x128_0_2176 _ (zchunk_17 s2) x, ?_⟩
  refine List.forall_mem_cons.mpr ⟨fun x => zpiece x2 2 0 (by decide) s2 h2 0#32 rfl 2048 rfl inb_S12x8960_S12x128_0_2048 _ (zchunk_16 s2) x, ?_⟩
  refine List.forall_mem_cons.mpr ⟨fun x => zpiece x2 1 7 (by decide) s1 h1 112#32 rfl 1920 rfl inb_S12x8960_S12x128_0_1920 _ (zchunk_15 s1) x, ?_⟩
  refine List.forall_mem_cons.mpr ⟨fun x => zpiece x2 1 6 (by decide) s1 h1 96#32 rfl 1792 rfl inb_S12x8960_S12x128_0_1792 _ (zchunk_14 s1) x, ?_⟩
  refine List.forall_mem_cons.mpr ⟨fun x => zpiece x2 1 5 (by decide) s1 h1 80#32 rfl 1664 rfl inb_S12x8960_S12x128_0_1664 _ (zchunk_13 s1) x, ?_⟩
  refine List.forall_mem_cons.mpr ⟨fun x => zpiece x2 1 4 (by decide) s1 h1 64#32 rfl 1536 rfl inb_S12x8960_S12x128_0_1536 _ (zchunk_12 s1) x, ?_⟩
  refine List.forall_mem_cons.mpr ⟨fun x => zpiece x2 1 3 (by decide) s1 h1 48#32 rfl 1408 rfl inb_S12x8960_S12x128_0_1408 _ (zchunk_11 s1) x, ?_⟩
  refine List.forall_mem_cons.mpr ⟨fun x => zpiece x2 1 2 (by decide) s1 h1 32#32 rfl 1280 rfl inb_S12x8960_S12x128_0_1280 _ (zchunk_10 s1) x, ?_⟩
  refine List.forall_mem_cons.mpr ⟨fun x => zpiece x2 1 1 (by decide) s1 h1 16#32 rfl 1152 rfl inb_S12x8960_S12x128_0_1152 _ (zchunk_9 s1) x, ?_⟩
  refine List.forall_mem_cons.mpr ⟨fun x => zpiece x2 1 0 (by decide) s1 h1 0#32 rfl 1024 rfl inb_S12x8960_S12x128_0_1024 _ (zchunk_8 s1) x, ?_⟩
  refine List.forall_mem_cons.mpr ⟨fun x => zpiece x2 0 7 (by decide) s0 h0 112#32 rfl 896 rfl inb_S12x8960_S12x128_0_896 _ (zchunk_7 s0) x, ?_⟩
  refine List.forall_mem_cons.mpr ⟨fun x => zpiece x2 0 6 (by decide) s0 h0 96#32 rfl 768 rfl inb_S12x8960_S12x128_0_768 _ (zchunk_6 s0) x, ?_⟩
  refine List.forall_mem_cons.mpr ⟨fun x => zpiece x2 0 5 (by decide) s0 h0 80#32 rfl 640 rfl inb_S12x8960_S12x128_0_640 _ (zchunk_5 s0) x, ?_⟩
  refine List.forall_mem_cons.mpr ⟨fun x => zpiece x2 0 4 (by decide) s0 h0 64#32 rfl 512 rfl inb_S12x8960_S12x128_0_512 _ (zchunk_4 s0) x, ?_⟩
  refine List.forall_mem_cons.mpr ⟨fun x => zpiece x2 0 3 (by decide) s0 h0 48#32 rfl 384 rfl inb_S12x8960_S12x128_0_384 _ (zchunk_3 s0) x, ?_⟩
  refine List.forall_mem_cons.mpr ⟨fun x => zpiece x2 0 2 (by decide) s0 h0 32#32 rfl 256 rfl inb_S12x8960_S12x128_0_256 _ (zchunk_2 s0) x, ?_⟩
  refine List.forall_mem_cons.mpr ⟨fun x => zpiece x2 0 1 (by decide) s0 h0 16#32 rfl 128 rfl inb_S12x8960_S12x128_0_128 _ (zchunk_1 s0) x, ?_⟩
  refine List.forall_mem_cons.mpr ⟨fun x => zpiece x2 0 0 (by decide) s0 h0 0#32 rfl 0 rfl inb_S12x8960_S12x128_0_0 _ (zchunk_0 s0) x, ?_⟩
  exact List.forall_mem_nil _

end Cert.KernelIdeal.Gen
-- ==== Proof.KI.Checks.lean ====
module

public import proofs.«01_k».proof.Proof.Gen.KernelIdeal

/-! The side conditions the body assumes of the adapter words it reads: a word below 22 (a signed comparison; a negative
word stands for no adapter and is read as slot 0) addresses a slot of each of the adapters' arrays. -/

@[expose] public section

namespace Cert.KernelIdeal.Gen

open Idealize.ShloMosaic Idealize.ShloMosaic.TcCoe

/-- The slot a word addresses, for a word below 22. -/
theorem slot_lt (v : BitVec 32) (h : v.toInt < 22) : (Scalar.maxsi v 0#32).toNat < 22 := by
  have h0 : (Scalar.maxsi v 0#32) = if (0#32).slt v then v else 0#32 := rfl
  rw [h0]
  split
  · rename_i hs
    have hs' : (0#32).toInt < v.toInt := by simpa [BitVec.slt] using hs
    have h00 : (0#32).toInt = 0 := by decide
    have e := BitVec.toInt_eq_toNat_cond v
    split at e <;> omega
  · decide

theorem chk1_of (i : grid0.Coords) (v : BitVec 32) (h : v.toInt < 22) : k0_chk1 i v := by
  unfold k0_chk1; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk2_of (i : grid0.Coords) (v : BitVec 32) (h : v.toInt < 22) : k0_chk2 i v := by
  unfold k0_chk2; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk3_of (i : grid0.Coords) (v : BitVec 32) (h : v.toInt < 22) : k0_chk3 i v := by
  unfold k0_chk3; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk4_of (i : grid0.Coords) (v : BitVec 32) (h : v.toInt < 22) : k0_chk4 i v := by
  unfold k0_chk4; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk5_of (i : grid0.Coords) (v : BitVec 32) (h : v.toInt < 22) : k0_chk5 i v := by
  unfold k0_chk5; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk6_of (i : grid0.Coords) (v : BitVec 32) (h : v.toInt < 22) : k0_chk6 i v := by
  unfold k0_chk6; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk7_of (i : grid0.Coords) (v : BitVec 32) (h : v.toInt < 22) : k0_chk7 i v := by
  unfold k0_chk7; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk8_of (i : grid0.Coords) (v : BitVec 32) (h : v.toInt < 22) : k0_chk8 i v := by
  unfold k0_chk8; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk9_of (i : grid0.Coords) (v : BitVec 32) (h : v.toInt < 22) : k0_chk9 i v := by
  unfold k0_chk9; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk10_of (i : grid0.Coords) (v : BitVec 32) (h : v.toInt < 22) : k0_chk10 i v := by
  unfold k0_chk10; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk11_of (i : grid0.Coords) (v : BitVec 32) (h : v.toInt < 22) : k0_chk11 i v := by
  unfold k0_chk11; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk12_of (i : grid0.Coords) (v : BitVec 32) (h : v.toInt < 22) : k0_chk12 i v := by
  unfold k0_chk12; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk13_of (i : grid0.Coords) (v : BitVec 32) (h : v.toInt < 22) : k0_chk13 i v := by
  unfold k0_chk13; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk14_of (i : grid0.Coords) (v : BitVec 32) (h : v.toInt < 22) : k0_chk14 i v := by
  unfold k0_chk14; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk15_of (i : grid0.Coords) (v : BitVec 32) (h : v.toInt < 22) : k0_chk15 i v := by
  unfold k0_chk15; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk16_of (i : grid0.Coords) (v : BitVec 32) (h : v.toInt < 22) : k0_chk16 i v := by
  unfold k0_chk16; intro _ a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk17_of (i : grid0.Coords) (v : BitVec 32) (h : v.toInt < 22) : k0_chk17 i v := by
  unfold k0_chk17; intro _ a
  have hs := slot_lt v h
  match a with
  | ⟨0, _⟩ => exact (by show (Scalar.maxsi v 0#32).toNat + 1 ≤ 22; omega)
  | ⟨1, _⟩ => exact Nat.le_of_eq (Nat.zero_add _)
theorem chk18_of (i : grid0.Coords) (v : BitVec 32) (h : v.toInt < 22) : k0_chk18 i v := by
  unfold k0_chk18; intro _ a
  have hs := slot_lt v h
  match a with
  | ⟨0, _⟩ => exact (by show (Scalar.maxsi v 0#32).toNat + 1 ≤ 22; omega)
  | ⟨1, _⟩ => exact Nat.le_of_eq (Nat.zero_add _)
theorem chk19_of (i : grid0.Coords) (v : BitVec 32) (h : v.toInt < 22) : k0_chk19 i v := by
  unfold k0_chk19; intro _ a
  have hs := slot_lt v h
  match a with
  | ⟨0, _⟩ => exact (by show (Scalar.maxsi v 0#32).toNat + 1 ≤ 22; omega)
  | ⟨1, _⟩ => exact Nat.le_of_eq (Nat.zero_add _)
theorem chk20_of (i : grid0.Coords) (v : BitVec 32) (h : v.toInt < 22) : k0_chk20 i v := by
  unfold k0_chk20; intro _ a
  have hs := slot_lt v h
  match a with
  | ⟨0, _⟩ => exact (by show (Scalar.maxsi v 0#32).toNat + 1 ≤ 22; omega)
  | ⟨1, _⟩ => exact Nat.le_of_eq (Nat.zero_add _)
theorem chk21_of (i : grid0.Coords) (v : BitVec 32) (h : v.toInt < 22) : k0_chk21 i v := by
  unfold k0_chk21; intro _ a
  have hs := slot_lt v h
  match a with
  | ⟨0, _⟩ => exact (by show (Scalar.maxsi v 0#32).toNat + 1 ≤ 22; omega)
  | ⟨1, _⟩ => exact Nat.le_of_eq (Nat.zero_add _)
theorem chk22_of (i : grid0.Coords) (v : BitVec 32) (h : v.toInt < 22) : k0_chk22 i v := by
  unfold k0_chk22; intro _ a
  have hs := slot_lt v h
  match a with
  | ⟨0, _⟩ => exact (by show (Scalar.maxsi v 0#32).toNat + 1 ≤ 22; omega)
  | ⟨1, _⟩ => exact Nat.le_of_eq (Nat.zero_add _)
theorem chk23_of (i : grid0.Coords) (v : BitVec 32) (h : v.toInt < 22) : k0_chk23 i v := by
  unfold k0_chk23; intro _ a
  have hs := slot_lt v h
  match a with
  | ⟨0, _⟩ => exact (by show (Scalar.maxsi v 0#32).toNat + 1 ≤ 22; omega)
  | ⟨1, _⟩ => exact Nat.le_of_eq (Nat.zero_add _)
theorem chk24_of (i : grid0.Coords) (v : BitVec 32) (h : v.toInt < 22) : k0_chk24 i v := by
  unfold k0_chk24; intro _ a
  have hs := slot_lt v h
  match a with
  | ⟨0, _⟩ => exact (by show (Scalar.maxsi v 0#32).toNat + 1 ≤ 22; omega)
  | ⟨1, _⟩ => exact Nat.le_of_eq (Nat.zero_add _)
theorem chk25_of (i : grid0.Coords) (v : BitVec 32) (h : v.toInt < 22) : k0_chk25 i v := by
  unfold k0_chk25; intro _ a
  have hs := slot_lt v h
  match a with
  | ⟨0, _⟩ => exact (by show (Scalar.maxsi v 0#32).toNat + 1 ≤ 22; omega)
  | ⟨1, _⟩ => exact Nat.le_of_eq (Nat.zero_add _)
theorem chk26_of (i : grid0.Coords) (v : BitVec 32) (h : v.toInt < 22) : k0_chk26 i v := by
  unfold k0_chk26; intro _ a
  have hs := slot_lt v h
  match a with
  | ⟨0, _⟩ => exact (by show (Scalar.maxsi v 0#32).toNat + 1 ≤ 22; omega)
  | ⟨1, _⟩ => exact Nat.le_of_eq (Nat.zero_add _)
theorem chk27_of (i : grid0.Coords) (v : BitVec 32) (h : v.toInt < 22) : k0_chk27 i v := by
  unfold k0_chk27; intro _ a
  have hs := slot_lt v h
  match a with
  | ⟨0, _⟩ => exact (by show (Scalar.maxsi v 0#32).toNat + 1 ≤ 22; omega)
  | ⟨1, _⟩ => exact Nat.le_of_eq (Nat.zero_add _)
theorem chk28_of (i : grid0.Coords) (v : BitVec 32) (h : v.toInt < 22) : k0_chk28 i v := by
  unfold k0_chk28; intro _ a
  have hs := slot_lt v h
  match a with
  | ⟨0, _⟩ => exact (by show (Scalar.maxsi v 0#32).toNat + 1 ≤ 22; omega)
  | ⟨1, _⟩ => exact Nat.le_of_eq (Nat.zero_add _)
theorem chk29_of (i : grid0.Coords) (v : BitVec 32) (h : v.toInt < 22) : k0_chk29 i v := by
  unfold k0_chk29; intro _ a
  have hs := slot_lt v h
  match a with
  | ⟨0, _⟩ => exact (by show (Scalar.maxsi v 0#32).toNat + 1 ≤ 22; omega)
  | ⟨1, _⟩ => exact Nat.le_of_eq (Nat.zero_add _)
theorem chk30_of (i : grid0.Coords) (v : BitVec 32) (h : v.toInt < 22) : k0_chk30 i v := by
  unfold k0_chk30; intro _ a
  have hs := slot_lt v h
  match a with
  | ⟨0, _⟩ => exact (by show (Scalar.maxsi v 0#32).toNat + 1 ≤ 22; omega)
  | ⟨1, _⟩ => exact Nat.le_of_eq (Nat.zero_add _)
theorem chk31_of (i : grid0.Coords) (v : BitVec 32) (h : v.toInt < 22) : k0_chk31 i v := by
  unfold k0_chk31; intro _ a
  have hs := slot_lt v h
  match a with
  | ⟨0, _⟩ => exact (by show (Scalar.maxsi v 0#32).toNat + 1 ≤ 22; omega)
  | ⟨1, _⟩ => exact Nat.le_of_eq (Nat.zero_add _)
theorem chk32_of (i : grid0.Coords) (v : BitVec 32) (h : v.toInt < 22) : k0_chk32 i v := by
  unfold k0_chk32; intro _ a
  have hs := slot_lt v h
  match a with
  | ⟨0, _⟩ => exact (by show (Scalar.maxsi v 0#32).toNat + 1 ≤ 22; omega)
  | ⟨1, _⟩ => exact Nat.le_of_eq (Nat.zero_add _)
theorem chk33_of (i : grid0.Coords) (v : BitVec 32) (h : v.toInt < 22) : k0_chk33 i v := by
  unfold k0_chk33; intro _ a
  have hs := slot_lt v h
  match a with
  | ⟨0, _⟩ => exact (by show (Scalar.maxsi v 0#32).toNat + 1 ≤ 22; omega)
theorem chk34_of (i : grid0.Coords) (v : BitVec 32) (h : v.toInt < 22) : k0_chk34 i v := by
  unfold k0_chk34; intro _ a
  have hs := slot_lt v h
  match a with
  | ⟨0, _⟩ => exact (by show (Scalar.maxsi v 0#32).toNat + 1 ≤ 22; omega)
theorem chk35_of (i : grid0.Coords) (v : BitVec 32) (h : v.toInt < 22) : k0_chk35 i v := by
  unfold k0_chk35; intro _ a
  have hs := slot_lt v h
  match a with
  | ⟨0, _⟩ => exact (by show (Scalar.maxsi v 0#32).toNat + 1 ≤ 22; omega)
theorem chk36_of (i : grid0.Coords) (v : BitVec 32) (h : v.toInt < 22) : k0_chk36 i v := by
  unfold k0_chk36; intro _ a
  have hs := slot_lt v h
  match a with
  | ⟨0, _⟩ => exact (by show (Scalar.maxsi v 0#32).toNat + 1 ≤ 22; omega)
theorem chk37_of (i : grid0.Coords) (v : BitVec 32) (h : v.toInt < 22) : k0_chk37 i v := by
  unfold k0_chk37; intro _ a
  have hs := slot_lt v h
  match a with
  | ⟨0, _⟩ => exact (by show (Scalar.maxsi v 0#32).toNat + 1 ≤ 22; omega)
theorem chk38_of (i : grid0.Coords) (v : BitVec 32) (h : v.toInt < 22) : k0_chk38 i v := by
  unfold k0_chk38; intro _ a
  have hs := slot_lt v h
  match a with
  | ⟨0, _⟩ => exact (by show (Scalar.maxsi v 0#32).toNat + 1 ≤ 22; omega)
theorem chk39_of (i : grid0.Coords) (v : BitVec 32) (h : v.toInt < 22) : k0_chk39 i v := by
  unfold k0_chk39; intro _ a
  have hs := slot_lt v h
  match a with
  | ⟨0, _⟩ => exact (by show (Scalar.maxsi v 0#32).toNat + 1 ≤ 22; omega)
theorem chk40_of (i : grid0.Coords) (v : BitVec 32) (h : v.toInt < 22) : k0_chk40 i v := by
  unfold k0_chk40; intro _ a
  have hs := slot_lt v h
  match a with
  | ⟨0, _⟩ => exact (by show (Scalar.maxsi v 0#32).toNat + 1 ≤ 22; omega)
theorem chk41_of (i : grid0.Coords) (v : BitVec 32) (h : v.toInt < 22) : k0_chk41 i v := by
  unfold k0_chk41; intro _ a
  have hs := slot_lt v h
  match a with
  | ⟨0, _⟩ => exact (by show (Scalar.maxsi v 0#32).toNat + 1 ≤ 22; omega)
theorem chk42_of (i : grid0.Coords) (v : BitVec 32) (h : v.toInt < 22) : k0_chk42 i v := by
  unfold k0_chk42; intro _ a
  have hs := slot_lt v h
  match a with
  | ⟨0, _⟩ => exact (by show (Scalar.maxsi v 0#32).toNat + 1 ≤ 22; omega)
theorem chk43_of (i : grid0.Coords) (v : BitVec 32) (h : v.toInt < 22) : k0_chk43 i v := by
  unfold k0_chk43; intro _ a
  have hs := slot_lt v h
  match a with
  | ⟨0, _⟩ => exact (by show (Scalar.maxsi v 0#32).toNat + 1 ≤ 22; omega)
theorem chk44_of (i : grid0.Coords) (v : BitVec 32) (h : v.toInt < 22) : k0_chk44 i v := by
  unfold k0_chk44; intro _ a
  have hs := slot_lt v h
  match a with
  | ⟨0, _⟩ => exact (by show (Scalar.maxsi v 0#32).toNat + 1 ≤ 22; omega)
theorem chk45_of (i : grid0.Coords) (v : BitVec 32) (h : v.toInt < 22) : k0_chk45 i v := by
  unfold k0_chk45; intro _ a
  have hs := slot_lt v h
  match a with
  | ⟨0, _⟩ => exact (by show (Scalar.maxsi v 0#32).toNat + 1 ≤ 22; omega)
theorem chk46_of (i : grid0.Coords) (v : BitVec 32) (h : v.toInt < 22) : k0_chk46 i v := by
  unfold k0_chk46; intro _ a
  have hs := slot_lt v h
  match a with
  | ⟨0, _⟩ => exact (by show (Scalar.maxsi v 0#32).toNat + 1 ≤ 22; omega)
theorem chk47_of (i : grid0.Coords) (v : BitVec 32) (h : v.toInt < 22) : k0_chk47 i v := by
  unfold k0_chk47; intro _ a
  have hs := slot_lt v h
  match a with
  | ⟨0, _⟩ => exact (by show (Scalar.maxsi v 0#32).toNat + 1 ≤ 22; omega)
theorem chk48_of (i : grid0.Coords) (v : BitVec 32) (h : v.toInt < 22) : k0_chk48 i v := by
  unfold k0_chk48; intro _ a
  have hs := slot_lt v h
  match a with
  | ⟨0, _⟩ => exact (by show (Scalar.maxsi v 0#32).toNat + 1 ≤ 22; omega)
theorem chk49_of (v : BitVec 32) (h : v.toInt < 22) : k0_chk49 v := by
  unfold k0_chk49; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk50_of (v : BitVec 32) (h : v.toInt < 22) : k0_chk50 v := by
  unfold k0_chk50; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk51_of (v : BitVec 32) (h : v.toInt < 22) : k0_chk51 v := by
  unfold k0_chk51; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk52_of (v : BitVec 32) (h : v.toInt < 22) : k0_chk52 v := by
  unfold k0_chk52; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk53_of (v : BitVec 32) (h : v.toInt < 22) : k0_chk53 v := by
  unfold k0_chk53; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk54_of (v : BitVec 32) (h : v.toInt < 22) : k0_chk54 v := by
  unfold k0_chk54; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk55_of (v : BitVec 32) (h : v.toInt < 22) : k0_chk55 v := by
  unfold k0_chk55; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk56_of (v : BitVec 32) (h : v.toInt < 22) : k0_chk56 v := by
  unfold k0_chk56; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk57_of (v : BitVec 32) (h : v.toInt < 22) : k0_chk57 v := by
  unfold k0_chk57; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk58_of (v : BitVec 32) (h : v.toInt < 22) : k0_chk58 v := by
  unfold k0_chk58; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk59_of (v : BitVec 32) (h : v.toInt < 22) : k0_chk59 v := by
  unfold k0_chk59; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk60_of (v : BitVec 32) (h : v.toInt < 22) : k0_chk60 v := by
  unfold k0_chk60; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk61_of (v : BitVec 32) (h : v.toInt < 22) : k0_chk61 v := by
  unfold k0_chk61; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk62_of (v : BitVec 32) (h : v.toInt < 22) : k0_chk62 v := by
  unfold k0_chk62; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk63_of (v : BitVec 32) (h : v.toInt < 22) : k0_chk63 v := by
  unfold k0_chk63; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk64_of (v : BitVec 32) (h : v.toInt < 22) : k0_chk64 v := by
  unfold k0_chk64; intro a
  have hs := slot_lt v h
  match a with
  | ⟨0, _⟩ => exact (by show (Scalar.maxsi v 0#32).toNat + 1 ≤ 22; omega)
  | ⟨1, _⟩ => exact Nat.le_of_eq (Nat.zero_add _)
  | ⟨2, _⟩ => exact Nat.le_of_eq (Nat.zero_add _)
theorem chk65_of (v : BitVec 32) (h : v.toInt < 22) : k0_chk65 v := by
  unfold k0_chk65; intro a
  have hs := slot_lt v h
  match a with
  | ⟨0, _⟩ => exact (by show (Scalar.maxsi v 0#32).toNat + 1 ≤ 22; omega)
  | ⟨1, _⟩ => exact Nat.le_of_eq (Nat.zero_add _)
theorem chk66_of (v : BitVec 32) (h : v.toInt < 22) : k0_chk66 v := by
  unfold k0_chk66; intro a
  have hs := slot_lt v h
  match a with
  | ⟨0, _⟩ => exact (by show (Scalar.maxsi v 0#32).toNat + 1 ≤ 22; omega)
  | ⟨1, _⟩ => exact Nat.le_of_eq (Nat.zero_add _)
theorem chk67_of (v : BitVec 32) (h : v.toInt < 22) : k0_chk67 v := by
  unfold k0_chk67; intro a
  have hs := slot_lt v h
  match a with
  | ⟨0, _⟩ => exact (by show (Scalar.maxsi v 0#32).toNat + 1 ≤ 22; omega)
  | ⟨1, _⟩ => exact Nat.le_of_eq (Nat.zero_add _)
theorem chk68_of (v : BitVec 32) (h : v.toInt < 22) : k0_chk68 v := by
  unfold k0_chk68; intro a
  have hs := slot_lt v h
  match a with
  | ⟨0, _⟩ => exact (by show (Scalar.maxsi v 0#32).toNat + 1 ≤ 22; omega)
  | ⟨1, _⟩ => exact Nat.le_of_eq (Nat.zero_add _)
theorem chk69_of (v : BitVec 32) (h : v.toInt < 22) : k0_chk69 v := by
  unfold k0_chk69; intro a
  have hs := slot_lt v h
  match a with
  | ⟨0, _⟩ => exact (by show (Scalar.maxsi v 0#32).toNat + 1 ≤ 22; omega)
  | ⟨1, _⟩ => exact Nat.le_of_eq (Nat.zero_add _)
theorem chk70_of (v : BitVec 32) (h : v.toInt < 22) : k0_chk70 v := by
  unfold k0_chk70; intro a
  have hs := slot_lt v h
  match a with
  | ⟨0, _⟩ => exact (by show (Scalar.maxsi v 0#32).toNat + 1 ≤ 22; omega)
  | ⟨1, _⟩ => exact Nat.le_of_eq (Nat.zero_add _)
theorem chk71_of (v : BitVec 32) (h : v.toInt < 22) : k0_chk71 v := by
  unfold k0_chk71; intro a
  have hs := slot_lt v h
  match a with
  | ⟨0, _⟩ => exact (by show (Scalar.maxsi v 0#32).toNat + 1 ≤ 22; omega)
  | ⟨1, _⟩ => exact Nat.le_of_eq (Nat.zero_add _)
theorem chk72_of (v : BitVec 32) (h : v.toInt < 22) : k0_chk72 v := by
  unfold k0_chk72; intro a
  have hs := slot_lt v h
  match a with
  | ⟨0, _⟩ => exact (by show (Scalar.maxsi v 0#32).toNat + 1 ≤ 22; omega)
  | ⟨1, _⟩ => exact Nat.le_of_eq (Nat.zero_add _)
theorem chk73_of (v : BitVec 32) (h : v.toInt < 22) : k0_chk73 v := by
  unfold k0_chk73; intro a
  have hs := slot_lt v h
  match a with
  | ⟨0, _⟩ => exact (by show (Scalar.maxsi v 0#32).toNat + 1 ≤ 22; omega)
  | ⟨1, _⟩ => exact Nat.le_of_eq (Nat.zero_add _)
theorem chk74_of (v : BitVec 32) (h : v.toInt < 22) : k0_chk74 v := by
  unfold k0_chk74; intro a
  have hs := slot_lt v h
  match a with
  | ⟨0, _⟩ => exact (by show (Scalar.maxsi v 0#32).toNat + 1 ≤ 22; omega)
  | ⟨1, _⟩ => exact Nat.le_of_eq (Nat.zero_add _)
theorem chk75_of (v : BitVec 32) (h : v.toInt < 22) : k0_chk75 v := by
  unfold k0_chk75; intro a
  have hs := slot_lt v h
  match a with
  | ⟨0, _⟩ => exact (by show (Scalar.maxsi v 0#32).toNat + 1 ≤ 22; omega)
  | ⟨1, _⟩ => exact Nat.le_of_eq (Nat.zero_add _)
theorem chk76_of (v : BitVec 32) (h : v.toInt < 22) : k0_chk76 v := by
  unfold k0_chk76; intro a
  have hs := slot_lt v h
  match a with
  | ⟨0, _⟩ => exact (by show (Scalar.maxsi v 0#32).toNat + 1 ≤ 22; omega)
  | ⟨1, _⟩ => exact Nat.le_of_eq (Nat.zero_add _)
theorem chk77_of (v : BitVec 32) (h : v.toInt < 22) : k0_chk77 v := by
  unfold k0_chk77; intro a
  have hs := slot_lt v h
  match a with
  | ⟨0, _⟩ => exact (by show (Scalar.maxsi v 0#32).toNat + 1 ≤ 22; omega)
  | ⟨1, _⟩ => exact Nat.le_of_eq (Nat.zero_add _)
theorem chk78_of (v : BitVec 32) (h : v.toInt < 22) : k0_chk78 v := by
  unfold k0_chk78; intro a
  have hs := slot_lt v h
  match a with
  | ⟨0, _⟩ => exact (by show (Scalar.maxsi v 0#32).toNat + 1 ≤ 22; omega)
  | ⟨1, _⟩ => exact Nat.le_of_eq (Nat.zero_add _)
theorem chk79_of (v : BitVec 32) (h : v.toInt < 22) : k0_chk79 v := by
  unfold k0_chk79; intro a
  have hs := slot_lt v h
  match a with
  | ⟨0, _⟩ => exact (by show (Scalar.maxsi v 0#32).toNat + 1 ≤ 22; omega)
  | ⟨1, _⟩ => exact Nat.le_of_eq (Nat.zero_add _)
theorem chk80_of (v : BitVec 32) (h : v.toInt < 22) : k0_chk80 v := by
  unfold k0_chk80; intro a
  have hs := slot_lt v h
  match a with
  | ⟨0, _⟩ => exact (by show (Scalar.maxsi v 0#32).toNat + 1 ≤ 22; omega)
  | ⟨1, _⟩ => exact Nat.le_of_eq (Nat.zero_add _)

end Cert.KernelIdeal.Gen

end
-- ==== Proof.Val.RunA.lean ====
module

public import proofs.«01_k».proof.Proof.KI.Runs
public import proofs.«01_k».proof.Proof.Val.Zero
public import proofs.«01_k».proof.Proof.KI.Checks
public import proofs.«01_k».proof.Proof.Gen.KernelIdeal.Loops

/-! The kernel body run at the first grid point (row block 0, column block 0). -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body's triple at the first grid point (row block 0, column block 0): on whole staging memrefs, the inputs' at their contents, the outputs' and the
    scratch at anything, the body runs to the continuation holding the inputs' as they were, and the base block, the weight's buffer and
    the zero points' buffer as `Step` relates them to what they held. -/
theorem vrunA (c : Dev nD) (i : grid0.Coords) (hc1 : k0_cond1 i = 1#1) (hc2 : k0_cond2 i = 1#1) (hc3 : k0_cond3 i = 1#1) (hc4 : ¬ k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec Ideal S256x1536 .bf16) (x1 : Vec Ideal S192x256 .i32) (x2 : Vec Ideal S12x1120 .i32) (x3 : Vec Ideal S12x256 .i16) (x4 : Vec Ideal S22x1536x32 .fp8e4m3) (x5 : Vec Ideal S22x32 .f32) (x6 : Vec Ideal S22x32x256 .fp8e4m3) (x7 : Vec Ideal S22x256 .f32) (x8 : Vec Ideal S22 .f32) (d20 : Vec Ideal S1536x8960 .bf16) (d21 : Vec Ideal S12x8960 .f32) (xt0 : TbBuf0 (F := Ideal) c tbM0_0) (xt1 : TbBuf0 (F := Ideal) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare d21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(∃ n13 n20 n21, ⌜Step i x0 x1 x2 x3 d20 d21 n13 n20 n21⌝ ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare n13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare n20 ∗ owns (c : Thread nD τ) arg21 fullShare n21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := Ideal)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    iexists _, _, _
    isplitr; swap
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; · ipureintro; exact harg9.read_unread _
        iexact H5
      isplitl [H6]
      · iexists _; isplitr; · ipureintro; exact harg10.read_unread _
        iexact H6
      isplitl [H7]
      · iexists _; isplitr; · ipureintro; exact harg11.read_unread _
        iexact H7
      isplitl [H8]
      · iexists _; isplitr; · ipureintro; exact harg12.read_unread _
        iexact H8
      isplitl [H9]
      · iexists _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [HS0]
      · iexists _; isplitr; swap; · iexact HS0
        ipureintro; rfl
      isplitl [HS1]
      · iexists _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HT0]; · iexact HT0
      iexact HT1
    ipureintro
    exact step_zero i hc1 hc3 arg13.view arg20.view arg21.view _ _ _ x0 _ x1 _ x2 x3 _ ((readAt_origin _ _ _).trans (harg4.read_unread x0)) ((readAt_origin _ _ _).trans (harg5.read_unread x1)) ((readAt_origin _ _ _).trans (harg7.read_unread x3)) _ _ hfs0 _ _ (k0_off49_inb i hc3) _ (zread arg21.view x2 _ _ _ _ _ _ _ _ _ (zsrc arg6.view _ x2 (harg6.read_unread x2) 0 0 rfl inb_S12x1120_S12x128_0_0) (zsrc arg6.view _ x2 (harg6.read_unread x2) 1 128 rfl inb_S12x1120_S12x128_0_128) (zsrc arg6.view _ x2 (harg6.read_unread x2) 2 256 rfl inb_S12x1120_S12x128_0_256) (zsrc arg6.view _ x2 (harg6.read_unread x2) 3 384 rfl inb_S12x1120_S12x128_0_384) (zsrc arg6.view _ x2 (harg6.read_unread x2) 4 512 rfl inb_S12x1120_S12x128_0_512) (zsrc arg6.view _ x2 (harg6.read_unread x2) 5 640 rfl inb_S12x1120_S12x128_0_640) (zsrc arg6.view _ x2 (harg6.read_unread x2) 6 768 rfl inb_S12x1120_S12x128_0_768) (zsrc arg6.view _ x2 (harg6.read_unread x2) 7 896 rfl inb_S12x1120_S12x128_0_896) (zsrc96 arg6.view _ x2 (harg6.read_unread x2) inb_S12x1120_S12x96_0_1024)) _ _ rfl rfl

end Cert.KernelIdeal.Gen

end
-- ==== Proof.Val.RunB.lean ====
module

public import proofs.«01_k».proof.Proof.KI.Runs
public import proofs.«01_k».proof.Proof.Val.Step
public import proofs.«01_k».proof.Proof.KI.Checks
public import proofs.«01_k».proof.Proof.Gen.KernelIdeal.Loops

/-! The kernel body run at a middle column block of row block 0. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body's triple at a middle column block of row block 0: on whole staging memrefs, the inputs' at their contents, the outputs' and the
    scratch at anything, the body runs to the continuation holding the inputs' as they were, and the base block, the weight's buffer and
    the zero points' buffer as `Step` relates them to what they held. -/
theorem vrunB (c : Dev nD) (i : grid0.Coords) (hc1 : ¬ k0_cond1 i = 1#1) (hc2 : ¬ k0_cond2 i = 1#1) (hc3 : k0_cond3 i = 1#1) (hc4 : ¬ k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec Ideal S256x1536 .bf16) (x1 : Vec Ideal S192x256 .i32) (x2 : Vec Ideal S12x1120 .i32) (x3 : Vec Ideal S12x256 .i16) (x4 : Vec Ideal S22x1536x32 .fp8e4m3) (x5 : Vec Ideal S22x32 .f32) (x6 : Vec Ideal S22x32x256 .fp8e4m3) (x7 : Vec Ideal S22x256 .f32) (x8 : Vec Ideal S22 .f32) (d20 : Vec Ideal S1536x8960 .bf16) (d21 : Vec Ideal S12x8960 .f32) (xt0 : TbBuf0 (F := Ideal) c tbM0_0) (xt1 : TbBuf0 (F := Ideal) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare d21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(∃ n13 n20 n21, ⌜Step i x0 x1 x2 x3 d20 d21 n13 n20 n21⌝ ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare n13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare n20 ∗ owns (c : Thread nD τ) arg21 fullShare n21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := Ideal)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    iexists _, _, _
    isplitr; swap
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; · ipureintro; exact harg9.read_unread _
        iexact H5
      isplitl [H6]
      · iexists _; isplitr; · ipureintro; exact harg10.read_unread _
        iexact H6
      isplitl [H7]
      · iexists _; isplitr; · ipureintro; exact harg11.read_unread _
        iexact H7
      isplitl [H8]
      · iexists _; isplitr; · ipureintro; exact harg12.read_unread _
        iexact H8
      isplitl [H9]
      · iexists _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [HS0]
      · iexists _; isplitr; swap; · iexact HS0
        ipureintro; rfl
      isplitl [HS1]
      · iexists _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HT0]; · iexact HT0
      iexact HT1
    ipureintro
    exact step_first i hc1 hc3 arg13.view arg20.view arg21.view _ _ _ x0 _ x1 _ x2 x3 _ ((readAt_origin _ _ _).trans (harg4.read_unread x0)) ((readAt_origin _ _ _).trans (harg5.read_unread x1)) ((readAt_origin _ _ _).trans (harg7.read_unread x3)) _ _ hfs0 hfs1 _ _ (k0_off49_inb i hc3) _ _ rfl rfl

end Cert.KernelIdeal.Gen

end
-- ==== Proof.Val.RunC.lean ====
module

public import proofs.«01_k».proof.Proof.KI.Runs
public import proofs.«01_k».proof.Proof.Val.Step
public import proofs.«01_k».proof.Proof.KI.Checks
public import proofs.«01_k».proof.Proof.Gen.KernelIdeal.Loops

/-! The kernel body run at the last column block of row block 0. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body's triple at the last column block of row block 0: on whole staging memrefs, the inputs' at their contents, the outputs' and the
    scratch at anything, the body runs to the continuation holding the inputs' as they were, and the base block, the weight's buffer and
    the zero points' buffer as `Step` relates them to what they held. -/
theorem vrunC (c : Dev nD) (i : grid0.Coords) (hc1 : ¬ k0_cond1 i = 1#1) (hc2 : ¬ k0_cond2 i = 1#1) (hc3 : k0_cond3 i = 1#1) (hc4 : k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec Ideal S256x1536 .bf16) (x1 : Vec Ideal S192x256 .i32) (x2 : Vec Ideal S12x1120 .i32) (x3 : Vec Ideal S12x256 .i16) (x4 : Vec Ideal S22x1536x32 .fp8e4m3) (x5 : Vec Ideal S22x32 .f32) (x6 : Vec Ideal S22x32x256 .fp8e4m3) (x7 : Vec Ideal S22x256 .f32) (x8 : Vec Ideal S22 .f32) (d20 : Vec Ideal S1536x8960 .bf16) (d21 : Vec Ideal S12x8960 .f32) (xt0 : TbBuf0 (F := Ideal) c tbM0_0) (xt1 : TbBuf0 (F := Ideal) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare d21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(∃ n13 n20 n21, ⌜Step i x0 x1 x2 x3 d20 d21 n13 n20 n21⌝ ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare n13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare n20 ∗ owns (c : Thread nD τ) arg21 fullShare n21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := Ideal)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    iexists _, _, _
    isplitr; swap
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; · ipureintro; exact harg9.read_unread _
        iexact H5
      isplitl [H6]
      · iexists _; isplitr; · ipureintro; exact harg10.read_unread _
        iexact H6
      isplitl [H7]
      · iexists _; isplitr; · ipureintro; exact harg11.read_unread _
        iexact H7
      isplitl [H8]
      · iexists _; isplitr; · ipureintro; exact harg12.read_unread _
        iexact H8
      isplitl [H9]
      · iexists _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [HS0]
      · iexists _; isplitr; swap; · iexact HS0
        ipureintro; rfl
      isplitl [HS1]
      · iexists _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HT0]; · iexact HT0
      iexact HT1
    ipureintro
    exact step_first i hc1 hc3 arg13.view arg20.view arg21.view _ _ _ x0 _ x1 _ x2 x3 _ ((readAt_origin _ _ _).trans (harg4.read_unread x0)) ((readAt_origin _ _ _).trans (harg5.read_unread x1)) ((readAt_origin _ _ _).trans (harg7.read_unread x3)) _ _ hfs0 hfs1 _ _ (k0_off49_inb i hc3) _ _ rfl rfl

end Cert.KernelIdeal.Gen

end
-- ==== Proof.Val.RunD.lean ====
module

public import proofs.«01_k».proof.Proof.KI.Runs
public import proofs.«01_k».proof.Proof.Val.Step
public import proofs.«01_k».proof.Proof.KI.Checks
public import proofs.«01_k».proof.Proof.Gen.KernelIdeal.Loops

/-! The kernel body run at the first column block of a later row block. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body's triple at the first column block of a later row block: on whole staging memrefs, the inputs' at their contents, the outputs' and the
    scratch at anything, the body runs to the continuation holding the inputs' as they were, and the base block, the weight's buffer and
    the zero points' buffer as `Step` relates them to what they held. -/
theorem vrunD (c : Dev nD) (i : grid0.Coords) (hc1 : ¬ k0_cond1 i = 1#1) (hc2 : k0_cond2 i = 1#1) (hc3 : ¬ k0_cond3 i = 1#1) (hc4 : ¬ k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec Ideal S256x1536 .bf16) (x1 : Vec Ideal S192x256 .i32) (x2 : Vec Ideal S12x1120 .i32) (x3 : Vec Ideal S12x256 .i16) (x4 : Vec Ideal S22x1536x32 .fp8e4m3) (x5 : Vec Ideal S22x32 .f32) (x6 : Vec Ideal S22x32x256 .fp8e4m3) (x7 : Vec Ideal S22x256 .f32) (x8 : Vec Ideal S22 .f32) (d20 : Vec Ideal S1536x8960 .bf16) (d21 : Vec Ideal S12x8960 .f32) (xt0 : TbBuf0 (F := Ideal) c tbM0_0) (xt1 : TbBuf0 (F := Ideal) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare d21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(∃ n13 n20 n21, ⌜Step i x0 x1 x2 x3 d20 d21 n13 n20 n21⌝ ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare n13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare n20 ∗ owns (c : Thread nD τ) arg21 fullShare n21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := Ideal)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    iexists _, _, _
    isplitr; swap
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; · ipureintro; exact harg9.read_unread _
        iexact H5
      isplitl [H6]
      · iexists _; isplitr; · ipureintro; exact harg10.read_unread _
        iexact H6
      isplitl [H7]
      · iexists _; isplitr; · ipureintro; exact harg11.read_unread _
        iexact H7
      isplitl [H8]
      · iexists _; isplitr; · ipureintro; exact harg12.read_unread _
        iexact H8
      isplitl [H9]
      · iexists _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [HS0]
      · iexists _; isplitr; swap; · iexact HS0
        ipureintro; rfl
      isplitl [HS1]
      · iexists _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HT0]; · iexact HT0
      iexact HT1
    ipureintro
    exact step_rest i hc1 hc3 arg13.view arg20.view arg21.view _ _ _ x0 _ x1 x2 x3 ((readAt_origin _ _ _).trans (harg4.read_unread x0)) _ _ hfs0 hfs1 _ _

end Cert.KernelIdeal.Gen

end
-- ==== Proof.Val.RunE.lean ====
module

public import proofs.«01_k».proof.Proof.KI.Runs
public import proofs.«01_k».proof.Proof.Val.Step
public import proofs.«01_k».proof.Proof.KI.Checks
public import proofs.«01_k».proof.Proof.Gen.KernelIdeal.Loops

/-! The kernel body run at a middle column block of a later row block. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body's triple at a middle column block of a later row block: on whole staging memrefs, the inputs' at their contents, the outputs' and the
    scratch at anything, the body runs to the continuation holding the inputs' as they were, and the base block, the weight's buffer and
    the zero points' buffer as `Step` relates them to what they held. -/
theorem vrunE (c : Dev nD) (i : grid0.Coords) (hc1 : ¬ k0_cond1 i = 1#1) (hc2 : ¬ k0_cond2 i = 1#1) (hc3 : ¬ k0_cond3 i = 1#1) (hc4 : ¬ k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec Ideal S256x1536 .bf16) (x1 : Vec Ideal S192x256 .i32) (x2 : Vec Ideal S12x1120 .i32) (x3 : Vec Ideal S12x256 .i16) (x4 : Vec Ideal S22x1536x32 .fp8e4m3) (x5 : Vec Ideal S22x32 .f32) (x6 : Vec Ideal S22x32x256 .fp8e4m3) (x7 : Vec Ideal S22x256 .f32) (x8 : Vec Ideal S22 .f32) (d20 : Vec Ideal S1536x8960 .bf16) (d21 : Vec Ideal S12x8960 .f32) (xt0 : TbBuf0 (F := Ideal) c tbM0_0) (xt1 : TbBuf0 (F := Ideal) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare d21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(∃ n13 n20 n21, ⌜Step i x0 x1 x2 x3 d20 d21 n13 n20 n21⌝ ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare n13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare n20 ∗ owns (c : Thread nD τ) arg21 fullShare n21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := Ideal)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    iexists _, _, _
    isplitr; swap
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; · ipureintro; exact harg9.read_unread _
        iexact H5
      isplitl [H6]
      · iexists _; isplitr; · ipureintro; exact harg10.read_unread _
        iexact H6
      isplitl [H7]
      · iexists _; isplitr; · ipureintro; exact harg11.read_unread _
        iexact H7
      isplitl [H8]
      · iexists _; isplitr; · ipureintro; exact harg12.read_unread _
        iexact H8
      isplitl [H9]
      · iexists _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [HS0]
      · iexists _; isplitr; swap; · iexact HS0
        ipureintro; rfl
      isplitl [HS1]
      · iexists _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HT0]; · iexact HT0
      iexact HT1
    ipureintro
    exact step_rest i hc1 hc3 arg13.view arg20.view arg21.view _ _ _ x0 _ x1 x2 x3 ((readAt_origin _ _ _).trans (harg4.read_unread x0)) _ _ hfs0 hfs1 _ _

end Cert.KernelIdeal.Gen

end
-- ==== Proof.Val.RunG.lean ====
module

public import proofs.«01_k».proof.Proof.KI.Runs
public import proofs.«01_k».proof.Proof.Val.Step
public import proofs.«01_k».proof.Proof.KI.Checks
public import proofs.«01_k».proof.Proof.Gen.KernelIdeal.Loops

/-! The kernel body run at the last column block of a later row block. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1000000 in
/-- The body's triple at the last column block of a later row block: on whole staging memrefs, the inputs' at their contents, the outputs' and the
    scratch at anything, the body runs to the continuation holding the inputs' as they were, and the base block, the weight's buffer and
    the zero points' buffer as `Step` relates them to what they held. -/
theorem vrunG (c : Dev nD) (i : grid0.Coords) (hc1 : ¬ k0_cond1 i = 1#1) (hc2 : ¬ k0_cond2 i = 1#1) (hc3 : ¬ k0_cond3 i = 1#1) (hc4 : k0_cond4 i = 1#1) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec Ideal S256x1536 .bf16) (x1 : Vec Ideal S192x256 .i32) (x2 : Vec Ideal S12x1120 .i32) (x3 : Vec Ideal S12x256 .i16) (x4 : Vec Ideal S22x1536x32 .fp8e4m3) (x5 : Vec Ideal S22x32 .f32) (x6 : Vec Ideal S22x32x256 .fp8e4m3) (x7 : Vec Ideal S22x256 .f32) (x8 : Vec Ideal S22 .f32) (d20 : Vec Ideal S1536x8960 .bf16) (d21 : Vec Ideal S12x8960 .f32) (xt0 : TbBuf0 (F := Ideal) c tbM0_0) (xt1 : TbBuf0 (F := Ideal) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare d21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(∃ n13 n20 n21, ⌜Step i x0 x1 x2 x3 d20 d21 n13 n20 n21⌝ ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare n13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare n20 ∗ owns (c : Thread nD τ) arg21 fullShare n21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := Ideal)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
    intro E K
    simp only [cc0_multi_lora_eq_skeleton]; unfold cc0_multi_lora_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, HT0, HT1, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8
    sl_exec_parts (disch := ((first | with_reducible apply chk1_of | with_reducible apply chk2_of | with_reducible apply chk3_of | with_reducible apply chk4_of | with_reducible apply chk5_of | with_reducible apply chk6_of | with_reducible apply chk7_of | with_reducible apply chk8_of | with_reducible apply chk9_of | with_reducible apply chk10_of | with_reducible apply chk11_of | with_reducible apply chk12_of | with_reducible apply chk13_of | with_reducible apply chk14_of | with_reducible apply chk15_of | with_reducible apply chk16_of | with_reducible apply chk17_of | with_reducible apply chk18_of | with_reducible apply chk19_of | with_reducible apply chk20_of | with_reducible apply chk21_of | with_reducible apply chk22_of | with_reducible apply chk23_of | with_reducible apply chk24_of | with_reducible apply chk25_of | with_reducible apply chk26_of | with_reducible apply chk27_of | with_reducible apply chk28_of | with_reducible apply chk29_of | with_reducible apply chk30_of | with_reducible apply chk31_of | with_reducible apply chk32_of | with_reducible apply chk33_of | with_reducible apply chk34_of | with_reducible apply chk35_of | with_reducible apply chk36_of | with_reducible apply chk37_of | with_reducible apply chk38_of | with_reducible apply chk39_of | with_reducible apply chk40_of | with_reducible apply chk41_of | with_reducible apply chk42_of | with_reducible apply chk43_of | with_reducible apply chk44_of | with_reducible apply chk45_of | with_reducible apply chk46_of | with_reducible apply chk47_of | with_reducible apply chk48_of | with_reducible apply chk49_of | with_reducible apply chk50_of | with_reducible apply chk51_of | with_reducible apply chk52_of | with_reducible apply chk53_of | with_reducible apply chk54_of | with_reducible apply chk55_of | with_reducible apply chk56_of | with_reducible apply chk57_of | with_reducible apply chk58_of | with_reducible apply chk59_of | with_reducible apply chk60_of | with_reducible apply chk61_of | with_reducible apply chk62_of | with_reducible apply chk63_of | with_reducible apply chk64_of | with_reducible apply chk65_of | with_reducible apply chk66_of | with_reducible apply chk67_of | with_reducible apply chk68_of | with_reducible apply chk69_of | with_reducible apply chk70_of | with_reducible apply chk71_of | with_reducible apply chk72_of | with_reducible apply chk73_of | with_reducible apply chk74_of | with_reducible apply chk75_of | with_reducible apply chk76_of | with_reducible apply chk77_of | with_reducible apply chk78_of | with_reducible apply chk79_of | with_reducible apply chk80_of); exact hAd _))
    sl_step
    iapply Hk
    iexists _, _, _
    isplitr; swap
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [H4]
      · iexists _; isplitr; · ipureintro; exact harg8.read_unread _
        iexact H4
      isplitl [H5]
      · iexists _; isplitr; · ipureintro; exact harg9.read_unread _
        iexact H5
      isplitl [H6]
      · iexists _; isplitr; · ipureintro; exact harg10.read_unread _
        iexact H6
      isplitl [H7]
      · iexists _; isplitr; · ipureintro; exact harg11.read_unread _
        iexact H7
      isplitl [H8]
      · iexists _; isplitr; · ipureintro; exact harg12.read_unread _
        iexact H8
      isplitl [H9]
      · iexists _; isplitr; swap; · iexact H9
        ipureintro; rfl
      isplitl [H10]
      · iexists _, _; isplitr; swap; · iexact H10
        ipureintro; rfl
      isplitl [H11]
      · iexists _, _; isplitr; swap; · iexact H11
        ipureintro; rfl
      isplitl [H12]
      · iexists _, _; isplitr; swap; · iexact H12
        ipureintro; rfl
      isplitl [H13]
      · iexists _, _; isplitr; swap; · iexact H13
        ipureintro; rfl
      isplitl [H14]
      · iexists _, _; isplitr; swap; · iexact H14
        ipureintro; rfl
      isplitl [H15]
      · iexists _, _; isplitr; swap; · iexact H15
        ipureintro; rfl
      isplitl [HS0]
      · iexists _; isplitr; swap; · iexact HS0
        ipureintro; rfl
      isplitl [HS1]
      · iexists _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      isplitl [HS6]
      · iexists _, _; isplitr; swap; · iexact HS6
        ipureintro; rfl
      isplitl [HS7]
      · iexists _, _; isplitr; swap; · iexact HS7
        ipureintro; rfl
      isplitl [HT0]; · iexact HT0
      iexact HT1
    ipureintro
    exact step_rest i hc1 hc3 arg13.view arg20.view arg21.view _ _ _ x0 _ x1 x2 x3 ((readAt_origin _ _ _).trans (harg4.read_unread x0)) _ _ hfs0 hfs1 _ _

end Cert.KernelIdeal.Gen

end
-- ==== Proof.Val.Body.lean ====
module

public import proofs.«01_k».proof.Proof.Val.RunA
public import proofs.«01_k».proof.Proof.Val.RunB
public import proofs.«01_k».proof.Proof.Val.RunC
public import proofs.«01_k».proof.Proof.Val.RunD
public import proofs.«01_k».proof.Proof.Val.RunE
public import proofs.«01_k».proof.Proof.Val.RunG

/-! The kernel body at any grid point, with what it leaves of the base output and of the decoded weight. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The combinations the body's four conditions take over the grid: at (0, 0) the dequantisation state is made, at each row's
    first column block the adapters' products, in row block 0 the weights, at each row's last column block the row is quantised. -/
theorem cond_cases : ∀ i : grid0.Coords, (k0_cond1 i = 1#1 ∧ k0_cond2 i = 1#1 ∧ k0_cond3 i = 1#1 ∧ ¬ k0_cond4 i = 1#1) ∨
    (¬ k0_cond1 i = 1#1 ∧ ¬ k0_cond2 i = 1#1 ∧ k0_cond3 i = 1#1 ∧ ¬ k0_cond4 i = 1#1) ∨
    (¬ k0_cond1 i = 1#1 ∧ ¬ k0_cond2 i = 1#1 ∧ k0_cond3 i = 1#1 ∧ k0_cond4 i = 1#1) ∨
    (¬ k0_cond1 i = 1#1 ∧ k0_cond2 i = 1#1 ∧ ¬ k0_cond3 i = 1#1 ∧ ¬ k0_cond4 i = 1#1) ∨
    (¬ k0_cond1 i = 1#1 ∧ ¬ k0_cond2 i = 1#1 ∧ ¬ k0_cond3 i = 1#1 ∧ ¬ k0_cond4 i = 1#1) ∨
    (¬ k0_cond1 i = 1#1 ∧ ¬ k0_cond2 i = 1#1 ∧ ¬ k0_cond3 i = 1#1 ∧ k0_cond4 i = 1#1) := by
  decide +kernel

set_option maxHeartbeats 1000000 in
/-- The body's triple at any grid point: one of the six combinations of its four conditions, each relating the base block, the weight's
    buffer and the zero points' buffer to what they held as `Step` does. -/
theorem vbodyRun (c : Dev nD) (i : grid0.Coords) (arg4 : Memref sig .tc .vmem S256x1536 .bf16) (harg4 : arg4.IsWhole) (arg5 : Memref sig .tc .vmem S192x256 .i32) (harg5 : arg5.IsWhole) (arg6 : Memref sig .tc .vmem S12x1120 .i32) (harg6 : arg6.IsWhole) (arg7 : Memref sig .tc .vmem S12x256 .i16) (harg7 : arg7.IsWhole) (arg8 : Memref sig .tc .vmem S22x1536x32 .fp8e4m3) (harg8 : arg8.IsWhole) (arg9 : Memref sig .tc .vmem S22x32 .f32) (harg9 : arg9.IsWhole) (arg10 : Memref sig .tc .vmem S22x32x256 .fp8e4m3) (harg10 : arg10.IsWhole) (arg11 : Memref sig .tc .vmem S22x256 .f32) (harg11 : arg11.IsWhole) (arg12 : Memref sig .tc .smem S22 .f32) (harg12 : arg12.IsWhole) (arg13 : Memref sig .tc .vmem S256x256 .bf16) (harg13 : arg13.IsWhole) (arg14 : Memref sig .tc .vmem S256x32 .f32) (harg14 : arg14.IsWhole) (arg15 : Memref sig .tc .vmem S256x256 .f32) (harg15 : arg15.IsWhole) (arg16 : Memref sig .tc .vmem S256x32 .fp8e4m3) (harg16 : arg16.IsWhole) (arg17 : Memref sig .tc .vmem S1x2x128 .f32) (harg17 : arg17.IsWhole) (arg18 : Memref sig .tc .vmem S256x8960 .fp8e4m3) (harg18 : arg18.IsWhole) (arg19 : Memref sig .tc .vmem S1x2x128 .f32) (harg19 : arg19.IsWhole) (arg20 : Memref sig .tc .vmem S1536x8960 .bf16) (harg20 : arg20.IsWhole) (arg21 : Memref sig .tc .vmem S12x8960 .f32) (harg21 : arg21.IsWhole) (arg22 : Memref sig .tc .vmem S1536x512 .bf16) (harg22 : arg22.IsWhole) (arg23 : Memref sig .tc .vmem S256x512 .fp8e4m3) (harg23 : arg23.IsWhole) (arg24 : Memref sig .tc .vmem S256x128 .f32) (harg24 : arg24.IsWhole) (arg25 : Memref sig .tc .vmem S512x256 .fp8e4m3) (harg25 : arg25.IsWhole) (arg26 : Memref sig .tc .vmem S256x8960 .f32) (harg26 : arg26.IsWhole) (arg27 : Memref sig .tc .vmem S256x128 .f32) (harg27 : arg27.IsWhole)
    (x0 : Vec Ideal S256x1536 .bf16) (x1 : Vec Ideal S192x256 .i32) (x2 : Vec Ideal S12x1120 .i32) (x3 : Vec Ideal S12x256 .i16) (x4 : Vec Ideal S22x1536x32 .fp8e4m3) (x5 : Vec Ideal S22x32 .f32) (x6 : Vec Ideal S22x32x256 .fp8e4m3) (x7 : Vec Ideal S22x256 .f32) (x8 : Vec Ideal S22 .f32) (d20 : Vec Ideal S1536x8960 .bf16) (d21 : Vec Ideal S12x8960 .f32) (xt0 : TbBuf0 (F := Ideal) c tbM0_0) (xt1 : TbBuf0 (F := Ideal) c tbM0_1) (hAd : ∀ j, (xt1 j : BitVec 32).toInt < 22) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare d20 ∗ owns (c : Thread nD τ) arg21 fullShare d21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1
            ∗ (iprop(∃ n13 n20 n21, ⌜Step i x0 x1 x2 x3 d20 d21 n13 n20 n21⌝ ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare n13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare n20 ∗ owns (c : Thread nD τ) arg21 fullShare n21 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ tbPt0 c tbM0_0 xt0 ∗ tbPt0 c tbM0_1 xt1) -∗ K ⟨⟩))
          ⊢ wp frame (wpE (defs₀ (F := Ideal)) Variants.none c none) E (cc0_multi_lora i tbM0_0 htbM0_0 tbM0_1 htbM0_1 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  rcases cond_cases i with ⟨h1, h2, h3, h4⟩ | ⟨h1, h2, h3, h4⟩ | ⟨h1, h2, h3, h4⟩ | ⟨h1, h2, h3, h4⟩ | ⟨h1, h2, h3, h4⟩ | ⟨h1, h2, h3, h4⟩
  · exact vrunA c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 d20 d21 xt0 xt1 hAd
  · exact vrunB c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 d20 d21 xt0 xt1 hAd
  · exact vrunC c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 d20 d21 xt0 xt1 hAd
  · exact vrunD c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 d20 d21 xt0 xt1 hAd
  · exact vrunE c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 d20 d21 xt0 xt1 hAd
  · exact vrunG c i h1 h2 h3 h4 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 x0 x1 x2 x3 x4 x5 x6 x7 x8 d20 d21 xt0 xt1 hAd

end Cert.KernelIdeal.Gen

end
-- ==== Proof.Val.Inv.lean ====
module

public import proofs.«01_k».proof.Proof.Val.Step
public import proofs.«01_k».proof.Proof.KI.Runs

/-! What the kernel's two decoded buffers hold between steps, and the base block each step leaves. -/

@[expose] public section

set_option maxRecDepth 16384

namespace Cert.KernelIdeal.Gen

open Idealize.ShloMosaic Idealize.ShloMosaic.Tactic Idealize.ShloMosaic.Pointwise Idealize.SL

/-- The decoded weight at row `d` and column `n`: its four-bit word less its group's four-bit zero point, times the group's scale. -/
noncomputable def wfull (b1 : Vec Ideal S192x8960 .i32) (b2 : Vec Ideal S12x1120 .i32) (b3 : Vec Ideal S12x8960 .i16) (d : Fin 1536) (n : Fin 8960) : EReal :=
  (nibf (b1 (ix2 ⟨d.val / 8, by omega⟩ n)) (d.val % 8) - zv b2 ⟨d.val / 128, by omega⟩ n) * half (b3 (ix2 ⟨d.val / 128, by omega⟩ n))

/-- The base product at a row and a column: the activations' row times the decoded weight's column. -/
noncomputable def base (a : Vec Ideal S1024x1536 .bf16) (b1 : Vec Ideal S192x8960 .i32) (b2 : Vec Ideal S12x1120 .i32) (b3 : Vec Ideal S12x8960 .i16)
    (r : Fin 1024) (n : Fin 8960) : EReal :=
  ∑ x : Fin 1536, a (ix2 r x) * wfull b1 b2 b3 x n

/-- Where a grid point lies and which of the two decodings it runs: row block `t / 35`, column block `t % 35`, the zero points at the
    first point, the weight's tiles at the first 35. -/
theorem pt_facts : ∀ t : Fin grid0.N, ((grid0.coords t 1).val = t.val % 35 ∧ (k0_cond1 (grid0.coords t) = 1#1 ↔ t.val = 0) ∧ (k0_cond3 (grid0.coords t) = 1#1 ↔ t.val < 35)) ∧
    (cc0_transform_0 (grid0.coords t) 0 = t.val / 35 ∧ cc0_transform_0 (grid0.coords t) 1 = 0) ∧
    (cc0_transform_1 (grid0.coords t) 0 = 0 ∧ (t.val < 35 → cc0_transform_1 (grid0.coords t) 1 = t.val)) ∧
    (cc0_transform_2 (grid0.coords t) 0 = 0 ∧ cc0_transform_2 (grid0.coords t) 1 = 0) ∧
    (cc0_transform_3 (grid0.coords t) 0 = 0 ∧ (t.val < 35 → cc0_transform_3 (grid0.coords t) 1 = t.val)) ∧
    (cc0_transform_9 (grid0.coords t) 0 = t.val / 35 ∧ cc0_transform_9 (grid0.coords t) 1 = t.val % 35) := by
  decide +kernel

/-- Before point `t`: past the first point the zero points are unpacked, and the weight's first `t` tiles are decoded. -/
structure Inv (b1 : Vec Ideal S192x8960 .i32) (b2 : Vec Ideal S12x1120 .i32) (b3 : Vec Ideal S12x8960 .i16) (t : ℕ)
    (d20 : Vec Ideal S1536x8960 .bf16) (d21 : Vec Ideal S12x8960 .f32) : Prop where
  z : 1 ≤ t → ∀ (r : Fin 12) (n : Fin 8960), d21 (ix2 r n) = zv b2 r n
  w : ∀ (d : Fin 1536) (n : Fin 8960), n.val / 256 < t → d20 (ix2 d n) = wfull b1 b2 b3 d n

theorem Inv.zero (b1 : Vec Ideal S192x8960 .i32) (b2 : Vec Ideal S12x1120 .i32) (b3 : Vec Ideal S12x8960 .i16)
    (d20 : Vec Ideal S1536x8960 .bf16) (d21 : Vec Ideal S12x8960 .f32) : Inv b1 b2 b3 0 d20 d21 :=
  ⟨fun h => absurd h (by omega), fun _ _ h => absurd h (by omega)⟩

/-- One step keeps the invariant. -/
theorem Inv.step {b1 : Vec Ideal S192x8960 .i32} {b2 : Vec Ideal S12x1120 .i32} {b3 : Vec Ideal S12x8960 .i16} (t : Fin grid0.N)
    {x0 : Vec Ideal S256x1536 .bf16} {x1 : Vec Ideal S192x256 .i32} {x2 : Vec Ideal S12x1120 .i32} {x3 : Vec Ideal S12x256 .i16}
    {d20 : Vec Ideal S1536x8960 .bf16} {d21 : Vec Ideal S12x8960 .f32} {n13 : Vec Ideal S256x256 .bf16} {n20 : Vec Ideal S1536x8960 .bf16} {n21 : Vec Ideal S12x8960 .f32}
    (h1 : ∀ h : t.val < 35, ∀ (r : Fin 192) (n : Fin 256), x1 (ix2 r n) = b1 (ix2 r ⟨256 * t.val + n.val, by omega⟩))
    (h2 : x2 = b2)
    (h3 : ∀ h : t.val < 35, ∀ (r : Fin 12) (n : Fin 256), x3 (ix2 r n) = b3 (ix2 r ⟨256 * t.val + n.val, by omega⟩))
    (hI : Inv b1 b2 b3 t.val d20 d21) (hS : Step (grid0.coords t) x0 x1 x2 x3 d20 d21 n13 n20 n21) : Inv b1 b2 b3 (t.val + 1) n20 n21 := by
  obtain ⟨⟨hj, hc1, hc3⟩, -⟩ := pt_facts t
  have hz : ∀ (r : Fin 12) (n : Fin 8960), n21 (ix2 r n) = zv b2 r n := by
    intro r n
    by_cases h : t.val = 0
    · rw [hS.z1 (hc1.mpr h), h2]
    · rw [hS.z0 (fun h' => h (hc1.mp h'))]
      exact hI.z (by omega) r n
  refine ⟨fun _ => hz, fun d n hn => ?_⟩
  by_cases h : t.val < 35
  · rw [hS.w1 (hc3.mpr h), hj, Nat.mod_eq_of_lt h]
    split
    · rename_i e
      unfold wv wfull
      rw [h1 h, h3 h, hz]
      have en : (⟨256 * t.val + n.val % 256, by omega⟩ : Fin 8960) = n := Fin.ext (by simp only []; omega)
      simp only [en]
    · exact hI.w d n (by omega)
  · rw [hS.w0 (fun h' => h (hc3.mp h'))]
    exact hI.w d n (by omega)

/-- The base block a step leaves is the base product at its rows and columns. -/
theorem Inv.block {b1 : Vec Ideal S192x8960 .i32} {b2 : Vec Ideal S12x1120 .i32} {b3 : Vec Ideal S12x8960 .i16} (t : Fin grid0.N) (ht : t.val < 140)
    {a : Vec Ideal S1024x1536 .bf16} {x0 : Vec Ideal S256x1536 .bf16} {x1 : Vec Ideal S192x256 .i32} {x2 : Vec Ideal S12x1120 .i32} {x3 : Vec Ideal S12x256 .i16}
    {d20 : Vec Ideal S1536x8960 .bf16} {d21 : Vec Ideal S12x8960 .f32} {n13 : Vec Ideal S256x256 .bf16} {n20 : Vec Ideal S1536x8960 .bf16} {n21 : Vec Ideal S12x8960 .f32}
    (h0 : ∀ (r : Fin 256) (x : Fin 1536), x0 (ix2 r x) = a (ix2 ⟨256 * (t.val / 35) + r.val, by omega⟩ x))
    (hI : Inv b1 b2 b3 (t.val + 1) n20 n21) (hS : Step (grid0.coords t) x0 x1 x2 x3 d20 d21 n13 n20 n21) (r n : Fin 256) :
    n13 (ix2 r n) = base a b1 b2 b3 ⟨256 * (t.val / 35) + r.val, by omega⟩ ⟨256 * (t.val % 35) + n.val, by omega⟩ := by
  obtain ⟨⟨hj, -, -⟩, -⟩ := pt_facts t
  rw [hS.b]
  unfold base
  refine Finset.sum_congr rfl fun x _ => ?_
  have en : (⟨256 * (grid0.coords t 1).val + n.val, by have := col_lt (grid0.coords t); omega⟩ : Fin 8960) = ⟨256 * (t.val % 35) + n.val, by omega⟩ :=
    Fin.ext (by simp only [hj])
  rw [h0, en, hI.w x _ (by simp only []; omega)]

end Cert.KernelIdeal.Gen
-- ==== Proof.Val.Blocks.lean ====
module

public import proofs.«01_k».proof.Proof.Val.Body
public import proofs.«01_k».proof.Proof.Val.Inv
public import Idealize.ShloMosaic.Lib.Claim
public import Idealize.ShloMosaic.Lib.Pipeline.ValueKit

/-! The blocks of the base product's operands, read off the argument arrays, and one point's step. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The blocks, read off the argument arrays -/

/-- Window 0's block at point `t`: the activations' rows of row block `t / 35`. -/
theorem iblk0 (hO : Ok m) (c : Dev nD) (t : Fin grid0.N) (ht : t.val < 140) (r : Fin 256) (x : Fin 1536) :
    (iblk m hO c 0 t : Vec Ideal S256x1536 .bf16) (ix2 r x) = (m ((c.tc : Thread nD τ).loc main_arg0) : Vec Ideal S1024x1536 .bf16) (ix2 ⟨256 * (t.val / 35) + r.val, by omega⟩ x) := by
  obtain ⟨-, ⟨e0, e1⟩, -⟩ := pt_facts t
  refine (congrFun (V_main_arg0 m c) _).trans (congrArg (m ((c.tc : Thread nD τ).loc main_arg0) : Vec Ideal S1024x1536 .bf16) (funext fun (k : Fin 2) => Fin.ext ?_))
  refine (Pipeline.Window.rect_emb_val ((cfgM m hO).win 0) t (ix2 r x) k rfl).trans ?_
  match k with
  | 0 => exact (congrArg (fun n => n * 256 + r.val) e0).trans (show t.val / 35 * 256 + r.val = 256 * (t.val / 35) + r.val by omega)
  | 1 => exact (congrArg (fun n => n * 1536 + x.val) e1).trans (show 0 * 1536 + x.val = x.val by omega)

/-- Window 1's block in the first row block: the packed words' columns of column block `t`. -/
theorem iblk1 (hO : Ok m) (c : Dev nD) (t : Fin grid0.N) (ht : t.val < 35) (r : Fin 192) (n : Fin 256) :
    (iblk m hO c 1 t : Vec Ideal S192x256 .i32) (ix2 r n) = (m ((c.tc : Thread nD τ).loc main_arg1) : Vec Ideal S192x8960 .i32) (ix2 r ⟨256 * t.val + n.val, by omega⟩) := by
  obtain ⟨-, -, ⟨e0, e1⟩, -⟩ := pt_facts t
  refine (congrFun (V_main_arg1 m c) _).trans (congrArg (m ((c.tc : Thread nD τ).loc main_arg1) : Vec Ideal S192x8960 .i32) (funext fun (k : Fin 2) => Fin.ext ?_))
  refine (Pipeline.Window.rect_emb_val ((cfgM m hO).win 1) t (ix2 r n) k rfl).trans ?_
  match k with
  | 0 => exact (congrArg (fun i => i * 192 + r.val) e0).trans (show 0 * 192 + r.val = r.val by omega)
  | 1 => exact (congrArg (fun i => i * 256 + n.val) (e1 ht)).trans (show t.val * 256 + n.val = 256 * t.val + n.val by omega)

/-- Window 2's block at every point: the packed zero points whole. -/
theorem iblk2 (hO : Ok m) (c : Dev nD) (t : Fin grid0.N) :
    (iblk m hO c 2 t : Vec Ideal S12x1120 .i32) = (m ((c.tc : Thread nD τ).loc main_arg2) : Vec Ideal S12x1120 .i32) := by
  obtain ⟨-, -, -, ⟨e0, e1⟩, -⟩ := pt_facts t
  refine funext fun (y : S12x1120.Idx) => ?_
  obtain ⟨r, n, rfl⟩ : ∃ (r : Fin 12) (n : Fin 1120), y = ix2 r n := ⟨y 0, y 1, eq_ix2 y⟩
  refine (congrFun (V_main_arg2 m c) _).trans (congrArg (m ((c.tc : Thread nD τ).loc main_arg2) : Vec Ideal S12x1120 .i32) (funext fun (k : Fin 2) => Fin.ext ?_))
  refine (Pipeline.Window.rect_emb_val ((cfgM m hO).win 2) t (ix2 r n) k rfl).trans ?_
  match k with
  | 0 => exact (congrArg (fun i => i * 12 + r.val) e0).trans (show 0 * 12 + r.val = r.val by omega)
  | 1 => exact (congrArg (fun i => i * 1120 + n.val) e1).trans (show 0 * 1120 + n.val = n.val by omega)

/-- Window 3's block in the first row block: the scales' columns of column block `t`. -/
theorem iblk3 (hO : Ok m) (c : Dev nD) (t : Fin grid0.N) (ht : t.val < 35) (r : Fin 12) (n : Fin 256) :
    (iblk m hO c 3 t : Vec Ideal S12x256 .i16) (ix2 r n) = (m ((c.tc : Thread nD τ).loc main_arg3) : Vec Ideal S12x8960 .i16) (ix2 r ⟨256 * t.val + n.val, by omega⟩) := by
  obtain ⟨-, -, -, -, ⟨e0, e1⟩, -⟩ := pt_facts t
  refine (congrFun (V_main_arg3 m c) _).trans (congrArg (m ((c.tc : Thread nD τ).loc main_arg3) : Vec Ideal S12x8960 .i16) (funext fun (k : Fin 2) => Fin.ext ?_))
  refine (Pipeline.Window.rect_emb_val ((cfgM m hO).win 3) t (ix2 r n) k rfl).trans ?_
  match k with
  | 0 => exact (congrArg (fun i => i * 12 + r.val) e0).trans (show 0 * 12 + r.val = r.val by omega)
  | 1 => exact (congrArg (fun i => i * 256 + n.val) (e1 ht)).trans (show t.val * 256 + n.val = 256 * t.val + n.val by omega)

/-- The base product of the launch's arguments. -/
def baseOf (c : Dev nD) (r : Fin 1024) (n : Fin 8960) : EReal :=
  base (m ((c.tc : Thread nD τ).loc main_arg0)) (m ((c.tc : Thread nD τ).loc main_arg1)) (m ((c.tc : Thread nD τ).loc main_arg2)) (m ((c.tc : Thread nD τ).loc main_arg3)) r n

theorem pt_lt (t : Fin grid0.N) : t.val < 140 := t.isLt

/-- What point `t` leaves in the base output's buffer: the base product at its row block and column block. -/
def blk9 (c : Dev nD) (t : Fin grid0.N) : Vec Ideal S256x256 .bf16 := fun y =>
  baseOf m c ⟨256 * (t.val / 35) + (y 0).val, by have h : (y 0).val < 256 := (y 0).isLt; have := pt_lt t; omega⟩
    ⟨256 * (t.val % 35) + (y 1).val, by have h : (y 1).val < 256 := (y 1).isLt; omega⟩

/-- One point of the sequence: it keeps the invariant, and leaves the base product's block in the base output's buffer. -/
theorem vstep (hO : Ok m) (c : Dev nD) (t : Fin grid0.N) {d20 : Vec Ideal S1536x8960 .bf16} {d21 : Vec Ideal S12x8960 .f32}
    {n13 : Vec Ideal S256x256 .bf16} {n20 : Vec Ideal S1536x8960 .bf16} {n21 : Vec Ideal S12x8960 .f32}
    (hI : Inv (m ((c.tc : Thread nD τ).loc main_arg1)) (m ((c.tc : Thread nD τ).loc main_arg2)) (m ((c.tc : Thread nD τ).loc main_arg3)) t.val d20 d21)
    (hS : Step (grid0.coords t) (iblk m hO c 0 t) (iblk m hO c 1 t) (iblk m hO c 2 t) (iblk m hO c 3 t) d20 d21 n13 n20 n21) :
    Inv (m ((c.tc : Thread nD τ).loc main_arg1)) (m ((c.tc : Thread nD τ).loc main_arg2)) (m ((c.tc : Thread nD τ).loc main_arg3)) (t.val + 1) n20 n21
      ∧ n13 = blk9 m c t := by
  have hI' := Inv.step t (fun h => iblk1 m hO c t h) (iblk2 m hO c t) (fun h => iblk3 m hO c t h) hI hS
  refine ⟨hI', ?_⟩
  funext y
  obtain ⟨r, n, rfl⟩ : ∃ (r n : Fin 256), y = ix2 r n := ⟨y 0, y 1, eq_ix2 y⟩
  exact Inv.block t (pt_lt t) (iblk0 m hO c t (pt_lt t)) hI' hS r n

end Cert.KernelIdeal.Gen

end
-- ==== Proof.Val.Frame.lean ====
module

public import proofs.«01_k».proof.Proof.Val.Blocks
public import Idealize.ShloMosaic.Lib.Claim
public import Idealize.ShloMosaic.Lib.Pipeline.ValueKit

/-! The launch at the extended reals: the base product's array named, the other outputs' contents left unnamed. -/

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- The invariant before point `n`: the weight's and the zero points' buffers hold what the steps so far decoded (`Inv`), the other
    scratch buffers and the generator register anything, and the tables are held. -/
@[irreducible] def vPhi (c : Dev nD) (n : ℕ) : sProp 𝕄 :=
  iprop(iprop(iprop((∃ d20 d21, ⌜Inv (m ((c.tc : Thread nD τ).loc main_arg1)) (m ((c.tc : Thread nD τ).loc main_arg2)) (m ((c.tc : Thread nD τ).loc main_arg3)) n d20 d21⌝
      ∗ owns (c : Thread nD τ) scM0_0 fullShare d20 ∗ owns (c : Thread nD τ) scM0_1 fullShare d21)
    ∗ (∃ d, owns (c : Thread nD τ) scM0_2 fullShare d) ∗ (∃ d, owns (c : Thread nD τ) scM0_3 fullShare d) ∗ (∃ d, owns (c : Thread nD τ) scM0_4 fullShare d)
    ∗ (∃ d, owns (c : Thread nD τ) scM0_5 fullShare d) ∗ (∃ d, owns (c : Thread nD τ) scM0_6 fullShare d) ∗ (∃ d, owns (c : Thread nD τ) scM0_7 fullShare d))
    ∗ (∃ r, prngReg c r)) ∗ Pipeline.ΦT pre0 (tbl m) c)

/-- The output windows this certificate FORGETS (10, 11, 12, 13, 14, 15): nothing reads what the kernel leaves in them, so nothing
    of it is named (Lib/Pipeline/Dat.lean `Dat.toRForget`). -/
def forgets0 : Fin 16 → Bool := fun w => w.val == 10 || w.val == 11 || w.val == 12 || w.val == 13 || w.val == 14 || w.val == 15

/-- The proof data of the one pipeline on core `c`: the arrays as the region finds them (`V`); after the body at
    point `t` each input's buffer at its block, the base output's at the base product, the other outputs, FORGOTTEN, at
    `Dat.unnamed`; the invariant `vPhi`; nothing owed; full shares. -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => blk9 m c t
    | ⟨10, h⟩ => Pipeline.Dat.unnamed (cfg := (cfgM m hO)) ⟨10, h⟩ t
    | ⟨11, h⟩ => Pipeline.Dat.unnamed (cfg := (cfgM m hO)) ⟨11, h⟩ t
    | ⟨12, h⟩ => Pipeline.Dat.unnamed (cfg := (cfgM m hO)) ⟨12, h⟩ t
    | ⟨13, h⟩ => Pipeline.Dat.unnamed (cfg := (cfgM m hO)) ⟨13, h⟩ t
    | ⟨14, h⟩ => Pipeline.Dat.unnamed (cfg := (cfgM m hO)) ⟨14, h⟩ t
    | ⟨15, h⟩ => Pipeline.Dat.unnamed (cfg := (cfgM m hO)) ⟨15, h⟩ t
    | ⟨_ + 16, h⟩ => absurd h (Nat.not_lt.2 (Nat.le_add_left _ _))
  Φ t := vPhi m c t.val
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = blk9 m c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d

/-- The invariant before and after point `t`. -/
theorem PhiC (hO : Ok m) (c : Dev nD) (t : Fin (cfgM m hO).N) : (dats m hO 0 c).Φ t.castSucc = vPhi m c t.val := by
  dsimp only [dats]; exact congrArg (vPhi m c) (Fin.val_castSucc t)
theorem PhiS (hO : Ok m) (c : Dev nD) (t : Fin (cfgM m hO).N) : (dats m hO 0 c).Φ t.succ = vPhi m c (t.val + 1) := by dsimp only [dats]; rfl

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ (∃ d, owns (c : Thread nD τ) (ms0_10 m hO t) fullShare d)
    ∗ (∃ d, owns (c : Thread nD τ) (ms0_11 m hO t) fullShare d)
    ∗ (∃ d, owns (c : Thread nD τ) (ms0_12 m hO t) fullShare d)
    ∗ (∃ d, owns (c : Thread nD τ) (ms0_13 m hO t) fullShare d)
    ∗ (∃ d, owns (c : Thread nD τ) (ms0_14 m hO t) fullShare d)
    ∗ (∃ d, owns (c : Thread nD τ) (ms0_15 m hO t) fullShare d))

set_option maxHeartbeats 1000000 in
/-- The body at any point: the inputs' memrefs hold their blocks (`before0_W`); so the
    run applies; the invariant hands the body its scratch buffers at some contents (and the generator register) and takes them back at some contents (`PhiA_eq`); the core owes nothing throughout. -/
theorem sound_body (hO : Ok m) (hAd : ∀ j, (tbl m 1 j : BitVec 32).toInt < 22) (c : Dev nD) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before0_0, before0_1, before0_2, before0_3, before0_4, before0_5, before0_6, before0_7, before0_8]
  rw [PhiC, PhiS, show (dats m hO 0 c).owesAt () t.succ = (dats m hO 0 c).owesAt () t.castSucc from rfl,
    after0_0, after0_1, after0_2, after0_3, after0_4, after0_5, after0_6, after0_7, after0_8, after0_9]
  unfold vPhi
  rw [PhiT0_eq]
  iintro ⟨⟨⟨⟨⟨%d20, %d21, %hI, HS0, HS1⟩, HS2, HS3, HS4, HS5, HS6, HS7⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((vbodyRun c (grid0.coords t) _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) d20 d21 (tbl m 0) (tbl m 1) hAd) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HT0]; · iexact HT0
  isplitl [HT1]; · iexact HT1
  iintro ⟨%n13, %n20, %n21, %hS, H0, H1, H2, H3, H4, H5, H6, H7, H8, H9, H10, H11, H12, H13, H14, H15, HS0, HS1, HS2, HS3, HS4, HS5, HS6, HS7, HT0, HT1⟩
  obtain ⟨hI', rfl⟩ := vstep m hO c t hI hS
  isplitl [HS0 HS1 HS2 HS3 HS4 HS5 HS6 HS7 Hg HT0 HT1]
  · isplitl [HS0 HS1 HS2 HS3 HS4 HS5 HS6 HS7 Hg]
    · isplitl [HS0 HS1 HS2 HS3 HS4 HS5 HS6 HS7]
      · isplitl [HS0 HS1]
        · iexists n20, n21
          isplitr; · ipureintro; exact hI'
          isplitl [HS0]; · iexact HS0
          iexact HS1
        isplitl [HS2]
        · iexact HS2
        isplitl [HS3]
        · iexact HS3
        isplitl [HS4]
        · iexact HS4
        isplitl [HS5]
        · iexact HS5
        isplitl [HS6]
        · iexact HS6
        iexact HS7
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hAd : ∀ j, (tbl m 1 j : BitVec 32).toInt < 22) (c : Dev nD) : BodyObligation (dats m hO 0 c) (defs₀ (F := Ideal)) Variants.none () Set.univ forgets0 := fun t => by
  rw [bigSep_W0, bigSep_W0, defs₀_row m hO]
  exact triple_restated (sound_body m hO hAd c t) rfl .rfl fun _ => .rfl

/-! ## The run, the base product's array and the frame -/

/-- What the region starts with is the invariant before the first point, -/
theorem vPhi_in (c : Dev nD) : iprop(Pipeline.ΦA spec0 c ∗ Pipeline.ΦT pre0 (tbl m) c) ⊢ vPhi m c 0 := by
  unfold vPhi
  rw [PhiA0_eq]
  iintro ⟨⟨⟨⟨%d20, HS0⟩, ⟨%d21, HS1⟩, HS⟩, Hg⟩, HT⟩
  isplitl [HS0 HS1 HS Hg]
  · isplitl [HS0 HS1 HS]
    · isplitl [HS0 HS1]
      · iexists d20, d21
        isplitr; · ipureintro; exact Inv.zero _ _ _ _ _
        isplitl [HS0]; · iexact HS0
        iexact HS1
      iexact HS
    iexact Hg
  iexact HT

/-- and the invariant after the last one is what it ends with. -/
theorem vPhi_out (c : Dev nD) (n : ℕ) : vPhi m c n ⊢ (Pipeline.ΦA spec0 c : sProp 𝕄) := by
  unfold vPhi
  rw [PhiA0_eq]
  iintro ⟨⟨⟨⟨%d20, %d21, -, HS0, HS1⟩, HS⟩, Hg⟩, -⟩
  isplitl [HS0 HS1 HS]
  · isplitl [HS0]; · iexists _; iexact HS0
    isplitl [HS1]; · iexists _; iexact HS1
    iexact HS
  iexact Hg

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hAd : ∀ j, (tbl m 1 j : BitVec 32).toInt < 22) : θ_run defs (onTc (τ := τ) (main (F := Ideal))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ Variants.none forgets0 m ρ main
    (hbody := fun c => (body_obligation m hO hAd c).loose) (hshare := fun c => (dats m hO 0 c).share_full fun _ => rfl)
    (howed := fun _ _ => rfl) (V := V m) (hmain := hmain m Variants.none) (hA := A_eq m hO) (hpf := V_pre m) (hin := vPhi_in m) (hout := fun c => vPhi_out m c _)

/-- At the compiled mesh, for any values, from any memory with zero counters: every weakly fair execution of @main on the
    TensorCores terminates, and every final state has every INPUT array of the pipeline unchanged, nothing stated of the
    FORGOTTEN outputs (windows 10, 11, 12, 13, 14, 15) (Lib/Pipeline/Frame.lean `RDat.FramePost` over the proof data with those windows
    forgotten, Dat.lean `Dat.toRForget`), and every other unscoped buffer at its region-entry contents. -/
theorem run_main (hO : Ok m) (hAd : ∀ j, (tbl m 1 j : BitVec 32).toInt < 22) : θ_run defs (onTc (τ := τ) (main (F := Ideal))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hAd)

/-- The base product as an array. -/
def baseArr (c : Dev nD) : Vec Ideal S1024x8960 .bf16 := fun y => baseOf m c (y 0) (y 1)

/-- The base output's blocks, 4 by 35. -/
theorem nblk9_0 (hO : Ok m) : ((cfgM m hO).win 9).nblk (0 : Fin 2) = 4 := by
  show (1024 + 256 - 1) / 256 = 4; norm_num
theorem nblk9_1 (hO : Ok m) : ((cfgM m hO).win 9).nblk (1 : Fin 2) = 35 := by
  show (8960 + 256 - 1) / 256 = 35; norm_num

/-- Every block of the base output's array is flushed at some point. -/
theorem covers9 (hO : Ok m) : ((cfgM m hO).win 9).Covers := by
  refine ⟨fun (a : Fin 2) => ?_, fun β => ?_⟩
  · match a with
    | 0 => exact (by decide : 0 < 256)
    | 1 => exact (by decide : 0 < 256)
  have h0 : (β (0 : Fin 2) : ℕ) < 4 := lt_of_lt_of_eq (β (0 : Fin 2)).isLt (nblk9_0 m hO)
  have h1 : (β (1 : Fin 2) : ℕ) < 35 := lt_of_lt_of_eq (β (1 : Fin 2)).isLt (nblk9_1 m hO)
  have hb : 35 * (β (0 : Fin 2) : ℕ) + (β (1 : Fin 2) : ℕ) < 140 := by omega
  obtain ⟨-, -, -, -, -, e0, e1⟩ := pt_facts (⟨_, hb⟩ : Fin grid0.N)
  refine ⟨⟨_, hb⟩, flush0_9 (adm m hO) _, fun (a : Fin 2) => ?_⟩
  match a with
  | 0 => exact ⟨e0.trans (show (35 * (β (0 : Fin 2) : ℕ) + (β (1 : Fin 2) : ℕ)) / 35 = (β (0 : Fin 2) : ℕ) by omega), Or.inl rfl⟩
  | 1 => exact ⟨e1.trans (show (35 * (β (0 : Fin 2) : ℕ) + (β (1 : Fin 2) : ℕ)) % 35 = (β (1 : Fin 2) : ℕ) by omega), Or.inl rfl⟩

/-- The base output's array after the run: the base product at every row and column, the blocks tiling the array. -/
theorem arr9 (hO : Ok m) (c : Dev nD) : (dats m hO 0 c).arrAt 9 (cfgM m hO).N = (baseArr m c : Vec Ideal S1024x8960 .bf16) := by
  refine (dats m hO 0 c).arrAt_eq_of_covers 9 (baseArr m c : Vec Ideal S1024x8960 .bf16) (covers9 m hO) fun t hf y => ?_
  obtain ⟨-, -, -, -, -, e0, e1⟩ := pt_facts t
  refine (congrFun (after0_9 m hO c t) y).trans ?_
  unfold blk9
  congr 1
  · refine Fin.ext ?_
    refine Eq.trans ?_ (Pipeline.Window.rect_emb_val ((cfgM m hO).win 9) t y (0 : Fin 2) rfl).symm
    exact Eq.trans (show 256 * (t.val / 35) + (y (0 : Fin 2)).val = t.val / 35 * 256 + (y (0 : Fin 2)).val by omega) (congrArg (fun i => i * 256 + (y (0 : Fin 2)).val) e0).symm
  · refine Fin.ext ?_
    refine Eq.trans ?_ (Pipeline.Window.rect_emb_val ((cfgM m hO).win 9) t y (1 : Fin 2) rfl).symm
    exact Eq.trans (show 256 * (t.val % 35) + (y (1 : Fin 2)).val = t.val % 35 * 256 + (y (1 : Fin 2)).val by omega) (congrArg (fun i => i * 256 + (y (1 : Fin 2)).val) e1).symm

/-- Every run ends with the base product in its result's array. -/
theorem run_base (hO : Ok m) (hAd : ∀ j, (tbl m 1 j : BitVec 32).toInt < 22) : θ_run defs (onTc (τ := τ) (main (F := Ideal))) ⟨m, fun _ => 0, ρ⟩
    (fun r => ∀ c : Dev nD, r.2.mem ((c.tc : Thread nD τ).loc main_v0_0) = (baseArr m c : Vec Ideal S1024x8960 .bf16)) :=
  (θ_run defs _ _).mono (fun _ h c => (((dats m hO 0 c).toRForget_arrAt_iff (fgt := forgets0) (w := 9) rfl _ _).mp ((h c).1 9)).trans (arr9 m hO c))
    (run_main m ρ hO hAd)

/-- `frame` without the counters: the argument arrays end unchanged. -/
theorem unchanged (hO : Ok m) (hAd : ∀ j, (tbl m 1 j : BitVec 32).toInt < 22) : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ hO (fun c => (dats m hO 0 c).toRForget forgets0) (A_eq m hO) (run_main m ρ hO hAd)

/-- The frame: every fair execution ends with the arguments as they began and every semaphore counter at zero, for tables
    whose adapter words name one of the 22 slots or none. -/
theorem frame (hO : Ok m) (hAd : ∀ j, (tbl m 1 j : BitVec 32).toInt < 22) : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ hO hAd) ((θ_run defs _ _).mono (fun _ h => h.2) (run_main_quiescent m ρ hO hAd))

end Cert.KernelIdeal.Gen

end
-- ==== Proof.Val.Nibbles.lean ====
module
public import proofs.«01_k».proof.Proof.Val.Inv
public import Idealize.ShloMosaic.Lib.Pointwise
@[expose] public section

/-! Nibbles and halves read as the reference reads them. -/

namespace Cert.KernelIdeal.Gen
open Idealize.ShloMosaic Idealize.ShloMosaic.Tactic Idealize.ShloMosaic.Pointwise
/-- A nibble is below 16. -/
theorem nib_lt (w : BitVec 32) (p : ℕ) : (nib w p).toNat < 16 := by
  show (_ &&& 15#32 : BitVec 32).toNat < 16
  rw [BitVec.toNat_and]
  exact Nat.lt_of_le_of_lt Nat.and_le_right (by decide)

/-- The difference of two nibbles, taken in words, is the difference of their numbers. -/
theorem sub_nib (a b : BitVec 32) (ha : a.toNat < 16) (hb : b.toNat < 16) :
    FloatOps.sitofp (F := Ideal) FTy.f32 (IntOp.subi a b) = (FloatOps.sitofp (F := Ideal) FTy.f32 a - FloatOps.sitofp (F := Ideal) FTy.f32 b : EReal) := by
  show (((a - b : BitVec 32).toInt : ℝ) : EReal) = ((a.toInt : ℝ) : EReal) - ((b.toInt : ℝ) : EReal)
  rw [← EReal.coe_sub, ← Int.cast_sub]
  congr 2
  have h1 : a.toInt = a.toNat := BitVec.toInt_eq_toNat_of_lt (by omega)
  have h2 : b.toInt = b.toNat := BitVec.toInt_eq_toNat_of_lt (by omega)
  rw [BitVec.toInt_sub, h1, h2]
  rw [Int.bmod_def]; split <;> omega

/-- The pattern of minus one. -/
theorem minus_one : Ideal.ofBits .f32 3212836864#32 = (-1 : EReal) := by
  have h1 : ((3212836864#32).extractLsb' (8 + 23) 1 == 1#1) = true := by decide
  have h2 : ((3212836864#32).extractLsb' 23 8).toNat = 127 := by decide
  have h3 : ((3212836864#32).extractLsb' 0 23).toNat = 0 := by decide
  generalize 3212836864#32 = b at h1 h2 h3
  show Ideal.ieee 8 23 b = _
  unfold Ideal.ieee
  simp only [h1, h2, h3]
  norm_num

theorem sitofp_ofNat (k : ℕ) (hk : k < 2 ^ 31) : (FloatOps.sitofp (F := Ideal) FTy.f32 (BitVec.ofNat 32 k) : EReal) = ((k : ℝ) : EReal) := by
  show (((BitVec.ofNat 32 k).toInt : ℝ) : EReal) = _
  rw [BitVec.toInt_eq_toNat_of_lt (by rw [BitVec.toNat_ofNat]; omega), BitVec.toNat_ofNat, Nat.mod_eq_of_lt (by omega)]
  simp

theorem exp2_field (e : ℕ) (he : e < 32) :
    (FloatOps.exp2 (F := Ideal) (φ := .f32) (FloatOps.sitofp (F := Ideal) FTy.f32 (IntOp.subi (BitVec.ofNat 32 e) 25#32)) : EReal) = (((2:ℝ) ^ ((e : ℤ) - 25) : ℝ) : EReal) := by
  have h : ((BitVec.ofNat 32 e - 25#32 : BitVec 32).toInt : ℤ) = (e : ℤ) - 25 := by
    rw [BitVec.toInt_sub, BitVec.toInt_eq_toNat_of_lt (by rw [BitVec.toNat_ofNat]; omega), BitVec.toNat_ofNat, Nat.mod_eq_of_lt (by omega)]
    rw [show (25#32 : BitVec 32).toInt = 25 from rfl, Int.bmod_def]; split <;> omega
  show Ideal.exp2 (((BitVec.ofNat 32 e - 25#32 : BitVec 32).toInt : ℝ) : EReal) = _
  rw [h, Ideal.exp2_coe]
  congr 1
  exact Real.rpow_intCast 2 _

/-- A half read by its fields — sign, then zero-exponent, non-finite or normal magnitude — is the number it names. -/
theorem half_fields (h : BitVec 16) :
    ((Scalar.select (IntOp.cmpi .ne (IntOp.andi (h.signExtend 32) 32768#32) 0#32) (Ideal.ofBits .f32 3212836864#32) 1
      * Scalar.select (IntOp.cmpi .eq (IntOp.andi (IntOp.shrsi .vector (h.signExtend 32) 10#32) 31#32) 0#32)
          (FloatOps.sitofp (F := Ideal) FTy.f32 (IntOp.andi (h.signExtend 32) 1023#32) * Ideal.ofBits .f32 864026624#32)
          (Scalar.select (IntOp.cmpi .eq (IntOp.andi (IntOp.shrsi .vector (h.signExtend 32) 10#32) 31#32) 31#32)
            (Scalar.select (IntOp.cmpi .eq (IntOp.andi (h.signExtend 32) 1023#32) 0#32) (Ideal.ofBits .f32 2139095040#32) (Ideal.ofBits .f32 2143289344#32))
            ((FloatOps.sitofp (F := Ideal) FTy.f32 (IntOp.andi (h.signExtend 32) 1023#32) + Ideal.ofBits .f32 1149239296#32)
              * FloatOps.exp2 (F := Ideal) (φ := .f32) (FloatOps.sitofp (F := Ideal) FTy.f32 (IntOp.subi (IntOp.andi (IntOp.shrsi .vector (h.signExtend 32) 10#32) 31#32) 25#32)))) : EReal) = half h) := by
  have hs : IntOp.andi (IntOp.shrsi .vector (h.signExtend 32) 10#32) 31#32 = BitVec.ofNat 32 (h.toNat / 1024 % 32) := by
    rw [← Cert.Half.f4 h]; rfl
  have hm : IntOp.andi (h.signExtend 32) 1023#32 = BitVec.ofNat 32 (h.toNat % 1024) := Cert.Half.f3 h
  have hmlt : h.toNat % 1024 < 1024 := by omega
  have helt : h.toNat / 1024 % 32 < 32 := by omega
  rw [hs, hm, select_ne, select_eq, select_eq, select_eq, minus_one, exp2_field _ helt, sitofp_ofNat _ (by omega)]
  rw [show (864026624#32) = BitVec.ofNat 32 (103 * 8388608 + 0) from rfl, show (1149239296#32) = BitVec.ofNat 32 (137 * 8388608 + 0) from rfl,
    show (2139095040#32) = BitVec.ofNat 32 (255 * 8388608 + 0) from rfl, show (2143289344#32) = BitVec.ofNat 32 (255 * 8388608 + 4194304) from rfl,
    Cert.Half.ieee_f32 _ _ (by omega) (by omega), Cert.Half.ieee_f32 _ _ (by omega) (by omega), Cert.Half.ieee_f32 _ _ (by omega) (by omega), Cert.Half.ieee_f32 _ _ (by omega) (by omega)]
  have c0 := Cert.Half.ofNat_eq_iff (h.toNat / 1024 % 32) 0 (by omega) (by omega)
  have c1 := Cert.Half.ofNat_eq_iff (h.toNat / 1024 % 32) 31 (by omega) (by omega)
  have c2 := Cert.Half.ofNat_eq_iff (h.toNat % 1024) 0 (by omega) (by omega)
  rw [if_congr c0 rfl rfl, if_congr c1 rfl rfl, if_congr c2 rfl rfl]
  have key : (if h.toNat / 1024 % 32 = 0 then (((h.toNat % 1024 : ℕ) : ℝ) : EReal) * ((((8388608 + 0 : ℕ) : ℝ) * (2:ℝ) ^ (((103 : ℕ) : ℤ) - 150) : ℝ) : EReal)
      else if h.toNat / 1024 % 32 = 31 then (if h.toNat % 1024 = 0 then (⊤ : EReal) else ⊥)
      else ((((h.toNat % 1024 : ℕ) : ℝ) : EReal) + ((((8388608 + 0 : ℕ) : ℝ) * (2:ℝ) ^ (((137 : ℕ) : ℤ) - 150) : ℝ) : EReal)) * (((2:ℝ) ^ (((h.toNat / 1024 % 32 : ℕ) : ℤ) - 25) : ℝ) : EReal)) = Cert.Half.mag h := by
    unfold Cert.Half.mag
    split
    · rw [← EReal.coe_mul]; congr 2; norm_num
    · split
      · rfl
      · rw [← EReal.coe_add, ← EReal.coe_mul]; congr 2; push_cast; norm_num; ring
  have key2 := key
  simp only [show (255 : ℕ) = 255 from rfl, if_true, show ¬ (103 : ℕ) = 255 by decide, show ¬ (137 : ℕ) = 255 by decide, show ¬ (103 : ℕ) = 0 by decide, show ¬ (137 : ℕ) = 0 by decide, show ¬ (4194304 : ℕ) = 0 by decide, if_false]
  rw [key2]
  unfold half
  show (if (h.signExtend 32 &&& 32768#32) = 0#32 then (1 : EReal) else -1) * Cert.Half.mag h = _
  split
  · rw [one_mul]
  · rw [neg_mul, one_mul, zero_sub]
end Cert.KernelIdeal.Gen
-- ==== Proof.Val.Ref.lean ====
module

public import proofs.«01_k».proof.Proof.Gen.ReferenceIdeal.Value
public import proofs.«01_k».proof.Proof.Val.Nibbles
public import Idealize.ShloMosaic.Lib.Pipeline.ValueKit

/-! The reference's base product, element by element, and its array after the run. -/

@[expose] public section

set_option maxRecDepth 16384

noncomputable section

namespace Cert.ReferenceIdeal.Gen

open Idealize.ShloMosaic Idealize.ShloMosaic.TcCoe Idealize.ShloMosaic.Tactic Idealize.ShloMosaic.Pointwise
open Idealize.ShloMosaic.Pipeline (Dat)
open Cert.KernelIdeal.Gen (base nib half sub_nib nib_lt half_fields)

/-- What the reference stores as its base product, from its arguments: row by row and column by column the sum of the activations
    times the decoded weight. -/
theorem pay_base (a : Vec Ideal S1024x1536 .bf16) (b : Vec Ideal S192x8960 .i32) (e : Vec Ideal S12x1120 .i32) (d : Vec Ideal S12x8960 .i16)
    (r : Fin 1024) (n : Fin 8960) :
    k0_pay58 (k0_pay7 (F := Ideal) a (k0_pay1 (F := Ideal) b) (k0_pay2 (F := Ideal) e) (k0_pay3 (F := Ideal) d) (k0_pay4 (F := Ideal) d) (k0_pay5 (F := Ideal) d) (k0_pay6)) (ix2 r n)
      = base a b e d r n := by
  pointwise [k0_pay7, k0_pay1, k0_pay2, k0_pay3, k0_pay4, k0_pay5, k0_pay6, k0_pay58]
  refine Finset.sum_congr rfl fun x _ => ?_
  exact congrArg₂ (fun p q : EReal => p * q) rfl (congrArg₂ (fun p q : EReal => p * q) (sub_nib _ _ (nib_lt _ _) (nib_lt _ _)) (half_fields _))

theorem hz : (![0, 0] : Fin 2 → Nat) = fun _ => 0 := funext fun a => by fin_cases a <;> rfl

/-- What the reference's body leaves in its first output's buffer: its one store's payload, whose loads read the buffers whole. -/
theorem out11 (c : Dev nD) (arg0 : Memref sig .tc .vmem S1024x1536 .bf16) (harg0 : arg0.IsWhole) (arg1 : Memref sig .tc .vmem S192x8960 .i32) (harg1 : arg1.IsWhole) (arg2 : Memref sig .tc .vmem S12x1120 .i32) (harg2 : arg2.IsWhole) (arg3 : Memref sig .tc .vmem S12x8960 .i16) (harg3 : arg3.IsWhole) (arg4 : Memref sig .tc .vmem S22x1536x32 .fp8e4m3) (harg4 : arg4.IsWhole) (arg5 : Memref sig .tc .vmem S22x32 .f32) (harg5 : arg5.IsWhole) (arg6 : Memref sig .tc .vmem S22x32x8960 .fp8e4m3) (harg6 : arg6.IsWhole) (arg7 : Memref sig .tc .vmem S22x8960 .f32) (harg7 : arg7.IsWhole) (arg8 : Memref sig .tc .smem S22 .f32) (harg8 : arg8.IsWhole) (arg9 : Memref sig .tc .smem S17 .i32) (harg9 : arg9.IsWhole) (arg10 : Memref sig .tc .smem S16 .i32) (harg10 : arg10.IsWhole) (arg11 : Memref sig .tc .vmem S1024x8960 .bf16) (harg11 : arg11.IsWhole) (arg12 : Memref sig .tc .vmem S1024x32 .f32) (harg12 : arg12.IsWhole) (arg13 : Memref sig .tc .vmem S1024x8960 .f32) (harg13 : arg13.IsWhole) (arg14 : Memref sig .tc .vmem S1024x32 .fp8e4m3) (harg14 : arg14.IsWhole) (arg15 : Memref sig .tc .vmem S4x2x128 .f32) (harg15 : arg15.IsWhole) (arg16 : Memref sig .tc .vmem S1024x8960 .fp8e4m3) (harg16 : arg16.IsWhole) (arg17 : Memref sig .tc .vmem S4x2x128 .f32) (harg17 : arg17.IsWhole)
    (x0 : Vec Ideal S1024x1536 .bf16) (x1 : Vec Ideal S192x8960 .i32) (x2 : Vec Ideal S12x1120 .i32) (x3 : Vec Ideal S12x8960 .i16) (x4 : Vec Ideal S22x1536x32 .fp8e4m3) (x5 : Vec Ideal S22x32 .f32) (x6 : Vec Ideal S22x32x8960 .fp8e4m3) (x7 : Vec Ideal S22x8960 .f32) (x8 : Vec Ideal S22 .f32) (x9 : Vec Ideal S17 .i32) (x10 : Vec Ideal S16 .i32) :
    out0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 = k0_pay58 (k0_pay7 (F := Ideal) x0 (k0_pay1 (F := Ideal) x1) (k0_pay2 (F := Ideal) x2) (k0_pay3 (F := Ideal) x3) (k0_pay4 (F := Ideal) x3) (k0_pay5 (F := Ideal) x3) (k0_pay6)) := by
  unfold out0_A_11
  rw [View.read_writes_eq_canon _ _ _ (cover0_A_11 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10)]
  unfold kernelRun0_A
  dsimp only
  rw [View.canon_unit_zero hz]
  sl_unfold_words
  simp only [View.readAt_eq_ld, harg0.read_unread, harg1.read_unread, harg2.read_unread, harg3.read_unread, View.ld_unit_zero (S := S1024x1536) hz,
    View.ld_unit_zero (S := S192x8960) hz, View.ld_unit_zero (S := S12x1120) hz, View.ld_unit_zero (S := S12x8960) hz]

variable (m : (ℓ : Loc nD τ sig) → Buf (Elt Ideal) ℓ) (ρ : Dev nD → PrngReg)

/-- Argument 0 is staged whole. -/
theorem rblk0 (c : Dev nD) (t : Fin cfg0.N) : (iblk m c 0 t : Vec Ideal S1024x1536 .bf16) = (m ((c.tc : Thread nD τ).loc main_arg0) : Vec Ideal S1024x1536 .bf16) := by
  refine funext fun (y : S1024x1536.Idx) => ?_
  exact (congrFun (V_main_arg0 m c) _).trans (congrArg (m ((c.tc : Thread nD τ).loc main_arg0) : Vec Ideal S1024x1536 .bf16)
    (funext fun (a : Fin 2) => Fin.ext (Pipeline.Window.rect_emb_val_of_index_zero (cfg0.win 0) t a rfl y)))

/-- Argument 1 is staged whole. -/
theorem rblk1 (c : Dev nD) (t : Fin cfg0.N) : (iblk m c 1 t : Vec Ideal S192x8960 .i32) = (m ((c.tc : Thread nD τ).loc main_arg1) : Vec Ideal S192x8960 .i32) := by
  refine funext fun (y : S192x8960.Idx) => ?_
  exact (congrFun (V_main_arg1 m c) _).trans (congrArg (m ((c.tc : Thread nD τ).loc main_arg1) : Vec Ideal S192x8960 .i32)
    (funext fun (a : Fin 2) => Fin.ext (Pipeline.Window.rect_emb_val_of_index_zero (cfg0.win 1) t a rfl y)))

/-- Argument 2 is staged whole. -/
theorem rblk2 (c : Dev nD) (t : Fin cfg0.N) : (iblk m c 2 t : Vec Ideal S12x1120 .i32) = (m ((c.tc : Thread nD τ).loc main_arg2) : Vec Ideal S12x1120 .i32) := by
  refine funext fun (y : S12x1120.Idx) => ?_
  exact (congrFun (V_main_arg2 m c) _).trans (congrArg (m ((c.tc : Thread nD τ).loc main_arg2) : Vec Ideal S12x1120 .i32)
    (funext fun (a : Fin 2) => Fin.ext (Pipeline.Window.rect_emb_val_of_index_zero (cfg0.win 2) t a rfl y)))

/-- Argument 3 is staged whole. -/
theorem rblk3 (c : Dev nD) (t : Fin cfg0.N) : (iblk m c 3 t : Vec Ideal S12x8960 .i16) = (m ((c.tc : Thread nD τ).loc main_arg3) : Vec Ideal S12x8960 .i16) := by
  refine funext fun (y : S12x8960.Idx) => ?_
  exact (congrFun (V_main_arg3 m c) _).trans (congrArg (m ((c.tc : Thread nD τ).loc main_arg3) : Vec Ideal S12x8960 .i16)
    (funext fun (a : Fin 2) => Fin.ext (Pipeline.Window.rect_emb_val_of_index_zero (cfg0.win 3) t a rfl y)))

/-- The base product of the reference's arguments, as an array. -/
def refArr (c : Dev nD) : Vec Ideal S1024x8960 .bf16 := fun y =>
  base (m ((c.tc : Thread nD τ).loc main_arg0)) (m ((c.tc : Thread nD τ).loc main_arg1)) (m ((c.tc : Thread nD τ).loc main_arg2)) (m ((c.tc : Thread nD τ).loc main_arg3)) (y 0) (y 1)

/-- What the reference's one point leaves in its first output's buffer is the base product of its arguments. -/
theorem after_base (c : Dev nD) (t : Fin cfg0.N) : ((dats m 0 c).after 11 t : Vec Ideal S1024x8960 .bf16) = refArr m c := by
  rw [after0_11]
  simp only [outsAt0]
  refine (out11 c _ _ _ _ _ _ _ _ _ _ _ _ _ _ _ _ _ _ _ _ _ _ _ _ _ _ _ _ _ _ _ _ _ _ _ _ _ _ _ _ _ _ _ _ _ _ _).trans ?_
  refine funext fun (y : S1024x8960.Idx) => ?_
  obtain ⟨r, n, rfl⟩ : ∃ (r : Fin 1024) (n : Fin 8960), y = ix2 r n := ⟨y 0, y 1, eq_ix2 y⟩
  refine (pay_base _ _ _ _ r n).trans ?_
  rw [rblk0, rblk1, rblk2, rblk3]
  rfl

/-- The reference's first result's array after the run: the base product at every row and column. -/
theorem arr11 (c : Dev nD) : (dats m 0 c).arrAt 11 cfg0.N = (refArr m c : Vec Ideal S1024x8960 .bf16) := by
  refine (dats m 0 c).arrAt_eq_of_covers 11 (refArr m c : Vec Ideal S1024x8960 .bf16) (by decide +kernel) fun t hf y => ?_
  refine (congrFun (after_base m c t) y).trans ?_
  exact congrArg (refArr m c : Vec Ideal S1024x8960 .bf16)
    (funext fun (a : Fin 2) => Fin.ext (Pipeline.Window.rect_emb_val_of_index_zero (cfg0.win 11) t a rfl y).symm)

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_adapters
public import proofs.«01_k».proof.Proof.Gen.On_base_product
public import proofs.«01_k».proof.Proof.Adapters
public import proofs.«01_k».proof.Proof.K.Frame
public import proofs.«01_k».proof.Proof.Val.Frame
public import proofs.«01_k».proof.Proof.Val.Ref
public import Idealize.ShloMosaic.Adequacy
public import Idealize.ShloMosaic.Init

@[expose] public section

noncomputable section

namespace Cert.Proof

open Idealize.ShloMosaic Idealize.SL.Sem Cert.Kernel

/-- The adapter words as the precondition bounds them, at the printed kernel. -/
theorem words_Kernel (m : (ℓ : Loc Cert.Kernel.nD Cert.Kernel.τ Cert.Kernel.sig) → Buf (Elt Bits) ℓ) (h : Cert.Pre_Kernel m) :
    ∀ j, (Cert.Kernel.Gen.tbl m 1 j : BitVec 32).toInt < 22 :=
  fun j => Cert.Adapters.adapter_lt _ _ _ _ _ _ _ _ _ _ _ (h (0 : Dev Cert.Kernel.nD)) j

/-- The adapter words as the precondition bounds them, at the kernel read over the extended reals. -/
theorem words_KernelIdeal (m : (ℓ : Loc Cert.KernelIdeal.nD Cert.KernelIdeal.τ Cert.KernelIdeal.sig) → Buf (Elt Ideal) ℓ)
    (h : Cert.Pre_KernelIdeal m) : ∀ j, (Cert.KernelIdeal.Gen.tbl m 1 j : BitVec 32).toInt < 22 :=
  fun j => Cert.Adapters.adapter_lt _ _ _ _ _ _ _ _ _ _ _ (h (0 : Dev Cert.KernelIdeal.nD)) j

/-- The two base products are one function of the arguments. -/
theorem base_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Gen.refArr m' c = Cert.KernelIdeal.Gen.baseArr m c := by
  unfold Cert.ReferenceIdeal.Gen.refArr Cert.KernelIdeal.Gen.baseArr Cert.KernelIdeal.Gen.baseOf
  rw [e0, e1, e2, e3]

set_option maxHeartbeats 1000000 in
/-- Over the extended reals the kernel and the reference end with the same base product, element by element, and the arguments as
    they began. Of the other six results the mask selects nothing. -/
theorem algebraic : Cert.algebraic_KernelIdeal_ReferenceIdeal_on_base_product (hKernelIdeal := Cert.KernelIdeal.Gen.facts)
    (hReferenceIdeal := Cert.ReferenceIdeal.Gen.facts) (hPre_adapters := Cert.Pre_adapters.Gen.facts) (hOn_base_product := Cert.On_base_product.Gen.facts) := by
  intro m ρ m' ρ' h hagree
  refine ⟨fun c => Cert.KernelIdeal.Gen.baseArr m c, fun c => m _, fun c => m _, fun c => m _, fun c => m _, fun c => m _, fun c => m _, ?_, ?_⟩
  · refine (θ_run Cert.KernelIdeal.defs _ _).mono (fun r h c => ?_)
      (θ_run_and (Cert.KernelIdeal.Gen.run_base m ρ trivial (words_KernelIdeal m h)) (Cert.KernelIdeal.Gen.unchanged m ρ trivial (words_KernelIdeal m h)))
    exact ⟨fun i _ => congrFun (h.1 c) i, fun i h => absurd (show (0#1 : BitVec 1) = 1#1 from h) (by decide), fun i h => absurd (show (0#1 : BitVec 1) = 1#1 from h) (by decide), fun i h => absurd (show (0#1 : BitVec 1) = 1#1 from h) (by decide), fun i h => absurd (show (0#1 : BitVec 1) = 1#1 from h) (by decide), fun i h => absurd (show (0#1 : BitVec 1) = 1#1 from h) (by decide), fun i h => absurd (show (0#1 : BitVec 1) = 1#1 from h) (by decide), h.2 c⟩
  · refine (θ_run Cert.ReferenceIdeal.defs _ _).mono (fun r h c => ?_) (Cert.ReferenceIdeal.Value.run_blocks (F := Ideal) m' ρ')
    obtain ⟨h0, -, -, -, -, -, -, hk⟩ := h c
    obtain ⟨e0, e1, e2, e3, -⟩ := hagree c
    exact ⟨fun i _ => congrFun (h0.trans ((Cert.ReferenceIdeal.Gen.arr11 m' c).trans (base_agree m m' c e0 e1 e2 e3))) i, fun i h => absurd (show (0#1 : BitVec 1) = 1#1 from h) (by decide), fun i h => absurd (show (0#1 : BitVec 1) = 1#1 from h) (by decide), fun i h => absurd (show (0#1 : BitVec 1) = 1#1 from h) (by decide), fun i h => absurd (show (0#1 : BitVec 1) = 1#1 from h) (by decide), fun i h => absurd (show (0#1 : BitVec 1) = 1#1 from h) (by decide), fun i h => absurd (show (0#1 : BitVec 1) = 1#1 from h) (by decide), hk⟩

/-- The certificate's claim. -/
theorem claim : Cert.Claim :=
  ⟨Cert.Kernel.Gen.facts, Cert.KernelIdeal.Gen.facts, Cert.ReferenceIdeal.Gen.facts, Cert.Pre_adapters.Gen.facts, Cert.On_base_product.Gen.facts,
    fun m ρ h => Cert.Kernel.Gen.frame m ρ trivial (words_Kernel m h),
    fun m ρ h => Cert.KernelIdeal.Gen.frame m ρ trivial (words_KernelIdeal m h),
    fun m ρ _ => Cert.ReferenceIdeal.Gen.frame m ρ,
    fun m ρ _ => Cert.ReferenceIdeal.Gen.frame m ρ,
    trivial,
    algebraic⟩

end Cert.Proof

end
